-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_ct [hPre_finite_ct : Cert.Pre_finite_ct.Facts] (m : (ℓ : Loc Cert.KernelIdeal.nD Cert.KernelIdeal.τ Cert.KernelIdeal.sig) → Buf (Elt Ideal) ℓ) : Prop :=
  ∀ c : Dev Cert.KernelIdeal.nD,
    (Cert.Pre_finite_ct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ct [hPre_finite_ct : Cert.Pre_finite_ct.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_head [hPre_finite_head : Cert.Pre_finite_head.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_head.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_head [hPre_finite_head : Cert.Pre_finite_head.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_head.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_dh [hPre_finite_dh : Cert.Pre_finite_dh.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_dh.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_dh [hPre_finite_dh : Cert.Pre_finite_dh.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_dh.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_buckets [hPre_buckets : Cert.Pre_buckets.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_buckets.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_buckets [hPre_buckets : Cert.Pre_buckets.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_buckets.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_smooth [hPre_smooth : Cert.Pre_smooth.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_smooth.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_smooth [hPre_smooth : Cert.Pre_smooth.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_smooth.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_ct [hKernelIdeal : Cert.KernelIdeal.Facts] [hPre_finite_ct : Cert.Pre_finite_ct.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_ct m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_ct [hReferenceIdeal : Cert.ReferenceIdeal.Facts] [hPre_finite_ct : Cert.Pre_finite_ct.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ct m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Kernel2Ideal_pre_finite_head [hKernel2Ideal : Cert.Kernel2Ideal.Facts] [hPre_finite_head : Cert.Pre_finite_head.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_head m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Reference2Ideal_pre_finite_head [hReference2Ideal : Cert.Reference2Ideal.Facts] [hPre_finite_head : Cert.Pre_finite_head.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_head m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Kernel3Ideal_pre_finite_dh [hKernel3Ideal : Cert.Kernel3Ideal.Facts] [hPre_finite_dh : Cert.Pre_finite_dh.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_dh m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Reference3Ideal_pre_finite_dh [hReference3Ideal : Cert.Reference3Ideal.Facts] [hPre_finite_dh : Cert.Pre_finite_dh.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_dh m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Kernel4Ideal_pre_buckets [hKernel4Ideal : Cert.Kernel4Ideal.Facts] [hPre_buckets : Cert.Pre_buckets.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_buckets m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Reference4Ideal_pre_buckets [hReference4Ideal : Cert.Reference4Ideal.Facts] [hPre_buckets : Cert.Pre_buckets.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_buckets m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13))
      ∧ r.2.sem = fun _ => 0)

def quiescent_Kernel5Ideal_pre_smooth [hKernel5Ideal : Cert.Kernel5Ideal.Facts] [hPre_smooth : Cert.Pre_smooth.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_smooth m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13))
      ∧ r.2.sem = fun _ => 0)

def quiescent_Reference5Ideal_pre_smooth [hReference5Ideal : Cert.Reference5Ideal.Facts] [hPre_smooth : Cert.Pre_smooth.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_smooth m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def preserves_Kernel_KernelIdeal : Prop :=
  True

def algebraic_KernelIdeal_ReferenceIdeal_pre_finite_ct [hKernelIdeal : Cert.KernelIdeal.Facts] [hReferenceIdeal : Cert.ReferenceIdeal.Facts] [hPre_finite_ct : Cert.Pre_finite_ct.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_ct m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite_head [hKernel2Ideal : Cert.Kernel2Ideal.Facts] [hReference2Ideal : Cert.Reference2Ideal.Facts] [hPre_finite_head : Cert.Pre_finite_head.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_head m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)) (v4 : (c : Dev Cert.Kernel2Ideal.nD) → Buf (Elt Ideal) ((c.tc : Thread Cert.Kernel2Ideal.nD Cert.Kernel2Ideal.τ).loc Cert.Kernel2Ideal.main_v0_4)) (v5 : (c : Dev Cert.Kernel2Ideal.nD) → Buf (Elt Ideal) ((c.tc : Thread Cert.Kernel2Ideal.nD Cert.Kernel2Ideal.τ).loc Cert.Kernel2Ideal.main_v0_5)) (v6 : (c : Dev Cert.Kernel2Ideal.nD) → Buf (Elt Ideal) ((c.tc : Thread Cert.Kernel2Ideal.nD Cert.Kernel2Ideal.τ).loc Cert.Kernel2Ideal.main_v0_6)) (v7 : (c : Dev Cert.Kernel2Ideal.nD) → Buf (Elt Ideal) ((c.tc : Thread Cert.Kernel2Ideal.nD Cert.Kernel2Ideal.τ).loc Cert.Kernel2Ideal.main_v0_7)) (v8 : (c : Dev Cert.Kernel2Ideal.nD) → Buf (Elt Ideal) ((c.tc : Thread Cert.Kernel2Ideal.nD Cert.Kernel2Ideal.τ).loc Cert.Kernel2Ideal.main_v0_8)) (v9 : (c : Dev Cert.Kernel2Ideal.nD) → Buf (Elt Ideal) ((c.tc : Thread Cert.Kernel2Ideal.nD Cert.Kernel2Ideal.τ).loc Cert.Kernel2Ideal.main_v0_9)) (v10 : (c : Dev Cert.Kernel2Ideal.nD) → Buf (Elt Ideal) ((c.tc : Thread Cert.Kernel2Ideal.nD Cert.Kernel2Ideal.τ).loc Cert.Kernel2Ideal.main_v0_10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_v0_4) = v4 c
          ∧ r.2.mem ((c.tc : Thread Cert.Kernel2Ideal.nD Cert.Kernel2Ideal.τ).loc Cert.Kernel2Ideal.main_v0_5) = v5 c
          ∧ r.2.mem ((c.tc : Thread Cert.Kernel2Ideal.nD Cert.Kernel2Ideal.τ).loc Cert.Kernel2Ideal.main_v0_6) = v6 c
          ∧ r.2.mem ((c.tc : Thread Cert.Kernel2Ideal.nD Cert.Kernel2Ideal.τ).loc Cert.Kernel2Ideal.main_v0_7) = v7 c
          ∧ r.2.mem ((c.tc : Thread Cert.Kernel2Ideal.nD Cert.Kernel2Ideal.τ).loc Cert.Kernel2Ideal.main_v0_8) = v8 c
          ∧ r.2.mem ((c.tc : Thread Cert.Kernel2Ideal.nD Cert.Kernel2Ideal.τ).loc Cert.Kernel2Ideal.main_v0_9) = v9 c
          ∧ r.2.mem ((c.tc : Thread Cert.Kernel2Ideal.nD Cert.Kernel2Ideal.τ).loc Cert.Kernel2Ideal.main_v0_10) = v10 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v63) = v0 c
          ∧ r.2.mem ((c.tc : Thread Cert.Reference2Ideal.nD Cert.Reference2Ideal.τ).loc Cert.Reference2Ideal.main_v105) = v1 c
          ∧ r.2.mem ((c.tc : Thread Cert.Reference2Ideal.nD Cert.Reference2Ideal.τ).loc Cert.Reference2Ideal.main_v99) = v2 c
          ∧ r.2.mem ((c.tc : Thread Cert.Reference2Ideal.nD Cert.Reference2Ideal.τ).loc Cert.Reference2Ideal.main_v107) = v3 c
          ∧ r.2.mem ((c.tc : Thread Cert.Reference2Ideal.nD Cert.Reference2Ideal.τ).loc Cert.Reference2Ideal.main_v108) = v4 c
          ∧ r.2.mem ((c.tc : Thread Cert.Reference2Ideal.nD Cert.Reference2Ideal.τ).loc Cert.Reference2Ideal.main_v109) = v5 c
          ∧ r.2.mem ((c.tc : Thread Cert.Reference2Ideal.nD Cert.Reference2Ideal.τ).loc Cert.Reference2Ideal.main_v102) = v6 c
          ∧ r.2.mem ((c.tc : Thread Cert.Reference2Ideal.nD Cert.Reference2Ideal.τ).loc Cert.Reference2Ideal.main_v96) = v7 c
          ∧ r.2.mem ((c.tc : Thread Cert.Reference2Ideal.nD Cert.Reference2Ideal.τ).loc Cert.Reference2Ideal.main_v84) = v8 c
          ∧ r.2.mem ((c.tc : Thread Cert.Reference2Ideal.nD Cert.Reference2Ideal.τ).loc Cert.Reference2Ideal.main_v66) = v9 c
          ∧ r.2.mem ((c.tc : Thread Cert.Reference2Ideal.nD Cert.Reference2Ideal.τ).loc Cert.Reference2Ideal.main_v110) = v10 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal_pre_finite_dh [hKernel3Ideal : Cert.Kernel3Ideal.Facts] [hReference3Ideal : Cert.Reference3Ideal.Facts] [hPre_finite_dh : Cert.Pre_finite_dh.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_dh m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v12_0)) (v1 : (c : Dev Cert.Kernel3Ideal.nD) → Buf (Elt Ideal) ((c.tc : Thread Cert.Kernel3Ideal.nD Cert.Kernel3Ideal.τ).loc Cert.Kernel3Ideal.main_v12_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12_0) = v0 c
          ∧ r.2.mem ((c.tc : Thread Cert.Kernel3Ideal.nD Cert.Kernel3Ideal.τ).loc Cert.Kernel3Ideal.main_v12_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v58) = v0 c
          ∧ r.2.mem ((c.tc : Thread Cert.Reference3Ideal.nD Cert.Reference3Ideal.τ).loc Cert.Reference3Ideal.main_v41) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal_pre_buckets [hKernel4Ideal : Cert.Kernel4Ideal.Facts] [hReference4Ideal : Cert.Reference4Ideal.Facts] [hPre_buckets : Cert.Pre_buckets.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_buckets m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v67) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal_pre_smooth [hKernel5Ideal : Cert.Kernel5Ideal.Facts] [hReference5Ideal : Cert.Reference5Ideal.Facts] [hPre_smooth : Cert.Pre_smooth.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_smooth m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)) (v4 : (c : Dev Cert.Kernel5Ideal.nD) → Buf (Elt Ideal) ((c.tc : Thread Cert.Kernel5Ideal.nD Cert.Kernel5Ideal.τ).loc Cert.Kernel5Ideal.main_v0_4)) (v5 : (c : Dev Cert.Kernel5Ideal.nD) → Buf (Elt Ideal) ((c.tc : Thread Cert.Kernel5Ideal.nD Cert.Kernel5Ideal.τ).loc Cert.Kernel5Ideal.main_v0_5)) (v6 : (c : Dev Cert.Kernel5Ideal.nD) → Buf (Elt Ideal) ((c.tc : Thread Cert.Kernel5Ideal.nD Cert.Kernel5Ideal.τ).loc Cert.Kernel5Ideal.main_v0_6)) (v7 : (c : Dev Cert.Kernel5Ideal.nD) → Buf (Elt Ideal) ((c.tc : Thread Cert.Kernel5Ideal.nD Cert.Kernel5Ideal.τ).loc Cert.Kernel5Ideal.main_v0_7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_v0_4) = v4 c
          ∧ r.2.mem ((c.tc : Thread Cert.Kernel5Ideal.nD Cert.Kernel5Ideal.τ).loc Cert.Kernel5Ideal.main_v0_5) = v5 c
          ∧ r.2.mem ((c.tc : Thread Cert.Kernel5Ideal.nD Cert.Kernel5Ideal.τ).loc Cert.Kernel5Ideal.main_v0_6) = v6 c
          ∧ r.2.mem ((c.tc : Thread Cert.Kernel5Ideal.nD Cert.Kernel5Ideal.τ).loc Cert.Kernel5Ideal.main_v0_7) = v7 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v109) = v0 c
          ∧ r.2.mem ((c.tc : Thread Cert.Reference5Ideal.nD Cert.Reference5Ideal.τ).loc Cert.Reference5Ideal.main_v114) = v1 c
          ∧ r.2.mem ((c.tc : Thread Cert.Reference5Ideal.nD Cert.Reference5Ideal.τ).loc Cert.Reference5Ideal.main_v100) = v2 c
          ∧ r.2.mem ((c.tc : Thread Cert.Reference5Ideal.nD Cert.Reference5Ideal.τ).loc Cert.Reference5Ideal.main_v97) = v3 c
          ∧ r.2.mem ((c.tc : Thread Cert.Reference5Ideal.nD Cert.Reference5Ideal.τ).loc Cert.Reference5Ideal.main_v87) = v4 c
          ∧ r.2.mem ((c.tc : Thread Cert.Reference5Ideal.nD Cert.Reference5Ideal.τ).loc Cert.Reference5Ideal.main_v85) = v5 c
          ∧ r.2.mem ((c.tc : Thread Cert.Reference5Ideal.nD Cert.Reference5Ideal.τ).loc Cert.Reference5Ideal.main_v79) = v6 c
          ∧ r.2.mem ((c.tc : Thread Cert.Reference5Ideal.nD Cert.Reference5Ideal.τ).loc Cert.Reference5Ideal.main_v71) = v7 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v12) = v0 c
          ∧ r.2.mem ((c.tc : Thread Cert.Reference6Ideal.nD Cert.Reference6Ideal.τ).loc Cert.Reference6Ideal.main_v7) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)) (v4 : (c : Dev Cert.Kernel7Ideal.nD) → Buf (Elt Ideal) ((c.tc : Thread Cert.Kernel7Ideal.nD Cert.Kernel7Ideal.τ).loc Cert.Kernel7Ideal.main_v0_4)) (v5 : (c : Dev Cert.Kernel7Ideal.nD) → Buf (Elt Ideal) ((c.tc : Thread Cert.Kernel7Ideal.nD Cert.Kernel7Ideal.τ).loc Cert.Kernel7Ideal.main_v0_5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_v0_4) = v4 c
          ∧ r.2.mem ((c.tc : Thread Cert.Kernel7Ideal.nD Cert.Kernel7Ideal.τ).loc Cert.Kernel7Ideal.main_v0_5) = v5 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v10) = v0 c
          ∧ r.2.mem ((c.tc : Thread Cert.Reference7Ideal.nD Cert.Reference7Ideal.τ).loc Cert.Reference7Ideal.main_v28) = v1 c
          ∧ r.2.mem ((c.tc : Thread Cert.Reference7Ideal.nD Cert.Reference7Ideal.τ).loc Cert.Reference7Ideal.main_v53) = v2 c
          ∧ r.2.mem ((c.tc : Thread Cert.Reference7Ideal.nD Cert.Reference7Ideal.τ).loc Cert.Reference7Ideal.main_v12) = v3 c
          ∧ r.2.mem ((c.tc : Thread Cert.Reference7Ideal.nD Cert.Reference7Ideal.τ).loc Cert.Reference7Ideal.main_v44) = v4 c
          ∧ r.2.mem ((c.tc : Thread Cert.Reference7Ideal.nD Cert.Reference7Ideal.τ).loc Cert.Reference7Ideal.main_v40) = v5 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v0) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v0) = v0 c
          ∧ r.2.mem ((c.tc : Thread Cert.Reference11Ideal.nD Cert.Reference11Ideal.τ).loc Cert.Reference11Ideal.main_v24) = v1 c
          ∧ r.2.mem ((c.tc : Thread Cert.Reference11Ideal.nD Cert.Reference11Ideal.τ).loc Cert.Reference11Ideal.main_v5) = v2 c
          ∧ r.2.mem ((c.tc : Thread Cert.Reference11Ideal.nD Cert.Reference11Ideal.τ).loc Cert.Reference11Ideal.main_v11) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite_ct : Cert.Pre_finite_ct.Facts) (hPre_finite_head : Cert.Pre_finite_head.Facts) (hPre_finite_dh : Cert.Pre_finite_dh.Facts) (hPre_buckets : Cert.Pre_buckets.Facts) (hPre_smooth : Cert.Pre_smooth.Facts),
    quiescent_Kernel (hKernel := hKernel)
    ∧ quiescent_KernelIdeal (hKernelIdeal := hKernelIdeal)
    ∧ quiescent_KernelIdeal_pre_finite_ct (hKernelIdeal := hKernelIdeal) (hPre_finite_ct := hPre_finite_ct)
    ∧ quiescent_ReferenceIdeal (hReferenceIdeal := hReferenceIdeal)
    ∧ quiescent_ReferenceIdeal_pre_finite_ct (hReferenceIdeal := hReferenceIdeal) (hPre_finite_ct := hPre_finite_ct)
    ∧ quiescent_Kernel2 (hKernel2 := hKernel2)
    ∧ quiescent_Kernel2Ideal (hKernel2Ideal := hKernel2Ideal)
    ∧ quiescent_Kernel2Ideal_pre_finite_head (hKernel2Ideal := hKernel2Ideal) (hPre_finite_head := hPre_finite_head)
    ∧ quiescent_Reference2Ideal (hReference2Ideal := hReference2Ideal)
    ∧ quiescent_Reference2Ideal_pre_finite_head (hReference2Ideal := hReference2Ideal) (hPre_finite_head := hPre_finite_head)
    ∧ quiescent_Kernel3 (hKernel3 := hKernel3)
    ∧ quiescent_Kernel3Ideal (hKernel3Ideal := hKernel3Ideal)
    ∧ quiescent_Kernel3Ideal_pre_finite_dh (hKernel3Ideal := hKernel3Ideal) (hPre_finite_dh := hPre_finite_dh)
    ∧ quiescent_Reference3Ideal (hReference3Ideal := hReference3Ideal)
    ∧ quiescent_Reference3Ideal_pre_finite_dh (hReference3Ideal := hReference3Ideal) (hPre_finite_dh := hPre_finite_dh)
    ∧ quiescent_Kernel4 (hKernel4 := hKernel4)
    ∧ quiescent_Kernel4Ideal (hKernel4Ideal := hKernel4Ideal)
    ∧ quiescent_Kernel4Ideal_pre_buckets (hKernel4Ideal := hKernel4Ideal) (hPre_buckets := hPre_buckets)
    ∧ quiescent_Reference4Ideal (hReference4Ideal := hReference4Ideal)
    ∧ quiescent_Reference4Ideal_pre_buckets (hReference4Ideal := hReference4Ideal) (hPre_buckets := hPre_buckets)
    ∧ quiescent_Kernel5 (hKernel5 := hKernel5)
    ∧ quiescent_Kernel5Ideal (hKernel5Ideal := hKernel5Ideal)
    ∧ quiescent_Kernel5Ideal_pre_smooth (hKernel5Ideal := hKernel5Ideal) (hPre_smooth := hPre_smooth)
    ∧ quiescent_Reference5Ideal (hReference5Ideal := hReference5Ideal)
    ∧ quiescent_Reference5Ideal_pre_smooth (hReference5Ideal := hReference5Ideal) (hPre_smooth := hPre_smooth)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite_ct (hKernelIdeal := hKernelIdeal) (hReferenceIdeal := hReferenceIdeal) (hPre_finite_ct := hPre_finite_ct)
    ∧ preserves_Kernel2_Kernel2Ideal
    ∧ algebraic_Kernel2Ideal_Reference2Ideal_pre_finite_head (hKernel2Ideal := hKernel2Ideal) (hReference2Ideal := hReference2Ideal) (hPre_finite_head := hPre_finite_head)
    ∧ preserves_Kernel3_Kernel3Ideal
    ∧ algebraic_Kernel3Ideal_Reference3Ideal_pre_finite_dh (hKernel3Ideal := hKernel3Ideal) (hReference3Ideal := hReference3Ideal) (hPre_finite_dh := hPre_finite_dh)
    ∧ preserves_Kernel4_Kernel4Ideal
    ∧ algebraic_Kernel4Ideal_Reference4Ideal_pre_buckets (hKernel4Ideal := hKernel4Ideal) (hReference4Ideal := hReference4Ideal) (hPre_buckets := hPre_buckets)
    ∧ preserves_Kernel5_Kernel5Ideal
    ∧ algebraic_Kernel5Ideal_Reference5Ideal_pre_smooth (hKernel5Ideal := hKernel5Ideal) (hReference5Ideal := hReference5Ideal) (hPre_smooth := hPre_smooth)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_buckets.lean ====
abbrev S4x6x128x256 : Shape := ⟨4, ![4, 6, 128, 256]⟩
abbrev S3x128x256 : Shape := ⟨3, ![3, 128, 256]⟩
abbrev S_ : Shape := ⟨0, ![]⟩

class Facts : Prop where
  bcast_S_S3x128x256 : S_.BroadcastsInDim S3x128x256 (![] : Fin 0 → Fin S3x128x256.rank)
  reducesTo_S3x128x256_S_d0_1_2 : S3x128x256.ReducesTo [0, 1, 2] S_
  h_S_ : 0 < S_.numel

variable [Facts]

def fn {F : FTy → Type} [FloatOps F] (main_arg0 : FVec F S4x6x128x256 .f32) (main_arg1 : IVec S3x128x256 32) : IVec S_ 1 :=
  let main_c : IVec S_ 32 := constantI S_ 32 0#32
  let main_v0 : IVec S3x128x256 32 := broadcastInDim S3x128x256 ![] bcast_S_S3x128x256 main_c
  let main_v1 : IVec S3x128x256 1 := cmpi .sge main_arg1 main_v0
  let main_c_0 : IVec S_ 1 := constantI S_ 1 1#1
  let main_v2 : IVec S_ 1 := (fun x v => Host.reduce IntOp.andi x v reducesTo_S3x128x256_S_d0_1_2 h_S_) main_v1 main_c_0
  main_v2
-- ==== Pre_finite_ct.lean ====
abbrev S4x2048x1664 : Shape := ⟨3, ![4, 2048, 1664]⟩
abbrev S1x1664 : Shape := ⟨2, ![1, 1664]⟩
abbrev S_ : Shape := ⟨0, ![]⟩

class Facts : Prop where
  bcast_S_S4x2048x1664 : S_.BroadcastsInDim S4x2048x1664 (![] : Fin 0 → Fin S4x2048x1664.rank)

variable [Facts]

def fn {F : FTy → Type} [FloatOps F] (main_arg0 : FVec F S4x2048x1664 .f32) (main_arg1 : FVec F S1x1664 .f32) (main_arg2 : FVec F S4x2048x1664 .f32) : IVec S4x2048x1664 1 :=
  let main_v0 : FVec F S4x2048x1664 .f32 := Host.absf main_arg2
  let main_cst : FVec F S_ .f32 := constant S_ .f32 0x7F800000#32
  let main_v1 : FVec F S4x2048x1664 .f32 := broadcastInDim S4x2048x1664 ![] bcast_S_S4x2048x1664 main_cst
  let main_v2 : IVec S4x2048x1664 1 := cmpf .olt main_v0 main_v1
  main_v2
-- ==== Pre_finite_dh.lean ====
abbrev S8192x512 : Shape := ⟨2, ![8192, 512]⟩
abbrev S8192x1664 : Shape := ⟨2, ![8192, 1664]⟩
abbrev S8192x2048 : Shape := ⟨2, ![8192, 2048]⟩
abbrev S1024x9344 : Shape := ⟨2, ![1024, 9344]⟩
abbrev S8192x1024 : Shape := ⟨2, ![8192, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x1664 : S_.BroadcastsInDim S8192x1664 (![] : Fin 0 → Fin S8192x1664.rank)
  reducesTo_S8192x1664_S_d0_1 : S8192x1664.ReducesTo [0, 1] S_
  bcast_S_S8192x2048 : S_.BroadcastsInDim S8192x2048 (![] : Fin 0 → Fin S8192x2048.rank)
  reducesTo_S8192x2048_S_d0_1 : S8192x2048.ReducesTo [0, 1] S_
  bcast_S_S1024x9344 : S_.BroadcastsInDim S1024x9344 (![] : Fin 0 → Fin S1024x9344.rank)
  reducesTo_S1024x9344_S_d0_1 : S1024x9344.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_arg7 : FVec F S1x1024 .f32) (main_v33 : IVec S_ 1) (main_v34 : FVec F S8192x1024 .f32) (main_cst_10 : FVec F S_ .f32) : IVec S_ 1 :=
  let main_v35 : FVec F S8192x1024 .f32 := broadcastInDim S8192x1024 ![] bcast_S_S8192x1024 main_cst_10
  let main_v36 : IVec S8192x1024 1 := cmpf .olt main_v34 main_v35
  let main_c_11 : IVec S_ 1 := constantI S_ 1 1#1
  let main_v37 : IVec S_ 1 := (fun x v => Host.reduce IntOp.andi x v reducesTo_S8192x1024_S_d0_1 h_S_) main_v36 main_c_11
  let main_v38 : IVec S_ 1 := andi main_v33 main_v37
  let main_v39 : FVec F S1x1024 .f32 := Host.absf main_arg7
  let main_cst_12 : FVec F S_ .f32 := constant S_ .f32 0x7F800000#32
  let main_v40 : FVec F S1x1024 .f32 := broadcastInDim S1x1024 ![] bcast_S_S1x1024 main_cst_12
  let main_v41 : IVec S1x1024 1 := cmpf .olt main_v39 main_v40
  let main_c_13 : IVec S_ 1 := constantI S_ 1 1#1
  let main_v42 : IVec S_ 1 := (fun x v => Host.reduce IntOp.andi x v reducesTo_S1x1024_S_d0_1 h_S_) main_v41 main_c_13
  let main_v43 : IVec S_ 1 := andi main_v38 main_v42
  main_v43

def fn_part1 {F : FTy → Type} [FloatOps F] (main_arg4 : FVec F S1024x9344 .bf16) (main_arg5 : FVec F S8192x1024 .f32) (main_arg6 : FVec F S8192x1024 .f32) (main_arg7 : FVec F S1x1024 .f32) (main_v16 : IVec S_ 1) (main_v17 : FVec F S8192x2048 .f32) : IVec S_ 1 :=
  let main_v18 : FVec F S8192x2048 .f32 := Host.absf main_v17
  let main_cst_4 : FVec F S_ .f32 := constant S_ .f32 0x7F800000#32
  let main_v19 : FVec F S8192x2048 .f32 := broadcastInDim S8192x2048 ![] bcast_S_S8192x2048 main_cst_4
  let main_v20 : IVec S8192x2048 1 := cmpf .olt main_v18 main_v19
  let main_c_5 : IVec S_ 1 := constantI S_ 1 1#1
  let main_v21 : IVec S_ 1 := (fun x v => Host.reduce IntOp.andi x v reducesTo_S8192x2048_S_d0_1 h_S_) main_v20 main_c_5
  let main_v22 : IVec S_ 1 := andi main_v16 main_v21
  let main_v23 : FVec F S1024x9344 .f32 := (extf .f32 · bitsLt_bf16_f32) main_arg4
  let main_v24 : FVec F S1024x9344 .f32 := Host.absf main_v23
  let main_cst_6 : FVec F S_ .f32 := constant S_ .f32 0x7F800000#32
  let main_v25 : FVec F S1024x9344 .f32 := broadcastInDim S1024x9344 ![] bcast_S_S1024x9344 main_cst_6
  let main_v26 : IVec S1024x9344 1 := cmpf .olt main_v24 main_v25
  let main_c_7 : IVec S_ 1 := constantI S_ 1 1#1
  let main_v27 : IVec S_ 1 := (fun x v => Host.reduce IntOp.andi x v reducesTo_S1024x9344_S_d0_1 h_S_) main_v26 main_c_7
  let main_v28 : IVec S_ 1 := andi main_v22 main_v27
  let main_v29 : FVec F S8192x1024 .f32 := Host.absf main_arg5
  let main_cst_8 : FVec F S_ .f32 := constant S_ .f32 0x7F800000#32
  let main_v30 : FVec F S8192x1024 .f32 := broadcastInDim S8192x1024 ![] bcast_S_S8192x1024 main_cst_8
  let main_v31 : IVec S8192x1024 1 := cmpf .olt main_v29 main_v30
  let main_c_9 : IVec S_ 1 := constantI S_ 1 1#1
  let main_v32 : IVec S_ 1 := (fun x v => Host.reduce IntOp.andi x v reducesTo_S8192x1024_S_d0_1 h_S_) main_v31 main_c_9
  let main_v33 : IVec S_ 1 := andi main_v28 main_v32
  let main_v34 : FVec F S8192x1024 .f32 := Host.absf main_arg6
  let main_cst_10 : FVec F S_ .f32 := constant S_ .f32 0x7F800000#32
  fn_part2 (F := F) main_arg7 main_v33 main_v34 main_cst_10

def fn {F : FTy → Type} [FloatOps F] (main_arg0 : FVec F S8192x512 .bf16) (main_arg1 : FVec F S8192x1664 .bf16) (main_arg2 : FVec F S8192x512 .bf16) (main_arg3 : FVec F S8192x2048 .bf16) (main_arg4 : FVec F S1024x9344 .bf16) (main_arg5 : FVec F S8192x1024 .f32) (main_arg6 : FVec F S8192x1024 .f32) (main_arg7 : FVec F S1x1024 .f32) (main_arg8 : FVec F S8192x1024 .f32) : IVec S_ 1 :=
  let main_v0 : FVec F S8192x512 .f32 := (extf .f32 · bitsLt_bf16_f32) main_arg0
  let main_v1 : FVec F S8192x512 .f32 := Host.absf main_v0
  let main_cst : FVec F S_ .f32 := constant S_ .f32 0x7F800000#32
  let main_v2 : FVec F S8192x512 .f32 := broadcastInDim S8192x512 ![] bcast_S_S8192x512 main_cst
  let main_v3 : IVec S8192x512 1 := cmpf .olt main_v1 main_v2
  let main_c : IVec S_ 1 := constantI S_ 1 1#1
  let main_v4 : IVec S_ 1 := (fun x v => Host.reduce IntOp.andi x v reducesTo_S8192x512_S_d0_1 h_S_) main_v3 main_c
  let main_v5 : FVec F S8192x1664 .f32 := (extf .f32 · bitsLt_bf16_f32) main_arg1
  let main_v6 : FVec F S8192x1664 .f32 := Host.absf main_v5
  let main_cst_0 : FVec F S_ .f32 := constant S_ .f32 0x7F800000#32
  let main_v7 : FVec F S8192x1664 .f32 := broadcastInDim S8192x1664 ![] bcast_S_S8192x1664 main_cst_0
  let main_v8 : IVec S8192x1664 1 := cmpf .olt main_v6 main_v7
  let main_c_1 : IVec S_ 1 := constantI S_ 1 1#1
  let main_v9 : IVec S_ 1 := (fun x v => Host.reduce IntOp.andi x v reducesTo_S8192x1664_S_d0_1 h_S_) main_v8 main_c_1
  let main_v10 : IVec S_ 1 := andi main_v4 main_v9
  let main_v11 : FVec F S8192x512 .f32 := (extf .f32 · bitsLt_bf16_f32) main_arg2
  let main_v12 : FVec F S8192x512 .f32 := Host.absf main_v11
  let main_cst_2 : FVec F S_ .f32 := constant S_ .f32 0x7F800000#32
  let main_v13 : FVec F S8192x512 .f32 := broadcastInDim S8192x512 ![] bcast_S_S8192x512 main_cst_2
  let main_v14 : IVec S8192x512 1 := cmpf .olt main_v12 main_v13
  let main_c_3 : IVec S_ 1 := constantI S_ 1 1#1
  let main_v15 : IVec S_ 1 := (fun x v => Host.reduce IntOp.andi x v reducesTo_S8192x512_S_d0_1 h_S_) main_v14 main_c_3
  let main_v16 : IVec S_ 1 := andi main_v10 main_v15
  let main_v17 : FVec F S8192x2048 .f32 := (extf .f32 · bitsLt_bf16_f32) main_arg3
  fn_part1 (F := F) main_arg4 main_arg5 main_arg6 main_arg7 main_v16 main_v17
-- ==== Pre_finite_head.lean ====
abbrev S8192x512 : Shape := ⟨2, ![8192, 512]⟩
abbrev S8192x2048 : Shape := ⟨2, ![8192, 2048]⟩
abbrev S8192x1024 : Shape := ⟨2, ![8192, 1024]⟩
abbrev S512x1024 : Shape := ⟨2, ![512, 1024]⟩
abbrev S1024x1024 : Shape := ⟨2, ![1024, 1024]⟩
abbrev S1x1024 : Shape := ⟨2, ![1, 1024]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bitsLt_bf16_f32 : FTy.bits .bf16 < FTy.bits .f32
  bcast_S_S512x1024 : S_.BroadcastsInDim S512x1024 (![] : Fin 0 → Fin S512x1024.rank)
  reducesTo_S512x1024_S_d0_1 : S512x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_arg8 : FVec F S512x1024 .bf16) (main_arg9 : FVec F S1024x1024 .bf16) (main_arg10 : FVec F S1x1024 .f32) (main_v28 : IVec S_ 1) (main_v33 : IVec S_ 1) : IVec S_ 1 :=
  let main_v34 : IVec S_ 1 := andi main_v28 main_v33
  let main_v35 : FVec F S512x1024 .f32 := (extf .f32 · bitsLt_bf16_f32) main_arg8
  let main_v36 : FVec F S512x1024 .f32 := Host.absf main_v35
  let main_cst_12 : FVec F S_ .f32 := constant S_ .f32 0x7F800000#32
  let main_v37 : FVec F S512x1024 .f32 := broadcastInDim S512x1024 ![] bcast_S_S512x1024 main_cst_12
  let main_v38 : IVec S512x1024 1 := cmpf .olt main_v36 main_v37
  let main_c_13 : IVec S_ 1 := constantI S_ 1 1#1
  let main_v39 : IVec S_ 1 := (fun x v => Host.reduce IntOp.andi x v reducesTo_S512x1024_S_d0_1 h_S_) main_v38 main_c_13
  let main_v40 : IVec S_ 1 := andi main_v34 main_v39
  let main_v41 : FVec F S1024x1024 .f32 := (extf .f32 · bitsLt_bf16_f32) main_arg9
  let main_v42 : FVec F S1024x1024 .f32 := Host.absf main_v41
  let main_cst_14 : FVec F S_ .f32 := constant S_ .f32 0x7F800000#32
  let main_v43 : FVec F S1024x1024 .f32 := broadcastInDim S1024x1024 ![] bcast_S_S1024x1024 main_cst_14
  let main_v44 : IVec S1024x1024 1 := cmpf .olt main_v42 main_v43
  let main_c_15 : IVec S_ 1 := constantI S_ 1 1#1
  let main_v45 : IVec S_ 1 := (fun x v => Host.reduce IntOp.andi x v reducesTo_S1024x1024_S_d0_1 h_S_) main_v44 main_c_15
  let main_v46 : IVec S_ 1 := andi main_v40 main_v45
  let main_v47 : FVec F S1x1024 .f32 := Host.absf main_arg10
  let main_cst_16 : FVec F S_ .f32 := constant S_ .f32 0x7F800000#32
  let main_v48 : FVec F S1x1024 .f32 := broadcastInDim S1x1024 ![] bcast_S_S1x1024 main_cst_16
  let main_v49 : IVec S1x1024 1 := cmpf .olt main_v47 main_v48
  let main_c_17 : IVec S_ 1 := constantI S_ 1 1#1
  let main_v50 : IVec S_ 1 := (fun x v => Host.reduce IntOp.andi x v reducesTo_S1x1024_S_d0_1 h_S_) main_v49 main_c_17
  let main_v51 : IVec S_ 1 := andi main_v46 main_v50
  main_v51

def fn_part1 {F : FTy → Type} [FloatOps F] (main_arg5 : FVec F S8192x1024 .f32) (main_arg6 : FVec F S8192x1024 .f32) (main_arg7 : FVec F S512x1024 .bf16) (main_arg8 : FVec F S512x1024 .bf16) (main_arg9 : FVec F S1024x1024 .bf16) (main_arg10 : FVec F S1x1024 .f32) (main_v13 : IVec S_ 1) (main_v16 : IVec S8192x512 1) : IVec S_ 1 :=
  let main_c_5 : IVec S_ 1 := constantI S_ 1 1#1
  let main_v17 : IVec S_ 1 := (fun x v => Host.reduce IntOp.andi x v reducesTo_S8192x512_S_d0_1 h_S_) main_v16 main_c_5
  let main_v18 : IVec S_ 1 := andi main_v13 main_v17
  let main_v19 : FVec F S8192x1024 .f32 := Host.absf main_arg5
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  let main_v24 : FVec F S8192x1024 .f32 := Host.absf main_arg6
  let main_cst_8 : FVec F S_ .f32 := constant S_ .f32 0x7F800000#32
  let main_v25 : FVec F S8192x1024 .f32 := broadcastInDim S8192x1024 ![] bcast_S_S8192x1024 main_cst_8
  let main_v26 : IVec S8192x1024 1 := cmpf .olt main_v24 main_v25
  let main_c_9 : IVec S_ 1 := constantI S_ 1 1#1
  let main_v27 : IVec S_ 1 := (fun x v => Host.reduce IntOp.andi x v reducesTo_S8192x1024_S_d0_1 h_S_) main_v26 main_c_9
  let main_v28 : IVec S_ 1 := andi main_v23 main_v27
  let main_v29 : FVec F S512x1024 .f32 := (extf .f32 · bitsLt_bf16_f32) main_arg7
  let main_v30 : FVec F S512x1024 .f32 := Host.absf main_v29
  let main_cst_10 : FVec F S_ .f32 := constant S_ .f32 0x7F800000#32
  let main_v31 : FVec F S512x1024 .f32 := broadcastInDim S512x1024 ![] bcast_S_S512x1024 main_cst_10
  let main_v32 : IVec S512x1024 1 := cmpf .olt main_v30 main_v31
  let main_c_11 : IVec S_ 1 := constantI S_ 1 1#1
  let main_v33 : IVec S_ 1 := (fun x v => Host.reduce IntOp.andi x v reducesTo_S512x1024_S_d0_1 h_S_) main_v32 main_c_11
  fn_part2 (F := F) main_arg8 main_arg9 main_arg10 main_v28 main_v33

def fn {F : FTy → Type} [FloatOps F] (main_arg0 : FVec F S8192x512 .f32) (main_arg1 : FVec F S8192x512 .f32) (main_arg2 : FVec F S8192x512 .f32) (main_arg3 : FVec F S8192x512 .f32) (main_arg4 : FVec F S8192x2048 .f32) (main_arg5 : FVec F S8192x1024 .f32) (main_arg6 : FVec F S8192x1024 .f32) (main_arg7 : FVec F S512x1024 .bf16) (main_arg8 : FVec F S512x1024 .bf16) (main_arg9 : FVec F S1024x1024 .bf16) (main_arg10 : FVec F S1x1024 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S8192x512 .f32 := Host.absf main_arg3
  let main_cst_4 : FVec F S_ .f32 := constant S_ .f32 0x7F800000#32
  let main_v15 : FVec F S8192x512 .f32 := broadcastInDim S8192x512 ![] bcast_S_S8192x512 main_cst_4
  let main_v16 : IVec S8192x512 1 := cmpf .olt main_v14 main_v15
  fn_part1 (F := F) main_arg5 main_arg6 main_arg7 main_arg8 main_arg9 main_arg10 main_v13 main_v16
-- ==== Pre_smooth.lean ====
abbrev S4x2048x1664 : Shape := ⟨3, ![4, 2048, 1664]⟩
abbrev S4x2048x512 : Shape := ⟨3, ![4, 2048, 512]⟩
abbrev S1x1664 : Shape := ⟨2, ![1, 1664]⟩
abbrev S1x512 : Shape := ⟨2, ![1, 512]⟩
abbrev S64x512 : Shape := ⟨2, ![64, 512]⟩
abbrev S4x2048x64 : Shape := ⟨3, ![4, 2048, 64]⟩
abbrev S1x64 : Shape := ⟨2, ![1, 64]⟩
abbrev S64 : Shape := ⟨1, ![64]⟩
abbrev S4x1x64 : Shape := ⟨3, ![4, 1, 64]⟩
abbrev S_ : Shape := ⟨0, ![]⟩
abbrev S4x2047x64 : Shape := ⟨3, ![4, 2047, 64]⟩
abbrev S1x1x64 : Shape := ⟨3, ![1, 1, 64]⟩
abbrev S512 : Shape := ⟨1, ![512]⟩
abbrev S1x1x512 : Shape := ⟨3, ![1, 1, 512]⟩

class Facts : Prop where
  slices_S4x2048x1664_S4x2048x64_0_0_1536 : S4x2048x1664.Slices ![0, 0, 1536] S4x2048x64
  slices_S1x1664_S1x64_0_1536 : S1x1664.Slices ![0, 1536] S1x64
  shapeCasts_S1x64_S64 : S1x64.ShapeCasts S64
  slices_S4x2048x64_S4x1x64_0_0_0 : S4x2048x64.Slices ![0, 0, 0] S4x1x64
  bcast_S_S4x1x64 : S_.BroadcastsInDim S4x1x64 (![] : Fin 0 → Fin S4x1x64.rank)
  slices_S4x2048x64_S4x2047x64_0_0_0 : S4x2048x64.Slices ![0, 0, 0] S4x2047x64
  concatenates_S4x1x64_S4x2047x64_S4x2048x64_d1 : Shape.Concatenates [S4x1x64, S4x2047x64] S4x2048x64 1
  bcast_S64_S1x1x64_2 : S64.BroadcastsInDim S1x1x64 (![2] : Fin 1 → Fin S1x1x64.rank)
  bcast_S1x1x64_S4x2048x64_0_1_2 : S1x1x64.BroadcastsInDim S4x2048x64 (![0, 1, 2] : Fin 3 → Fin S4x2048x64.rank)
  shapeCasts_S1x512_S512 : S1x512.ShapeCasts S512
  bitsLt_bf16_f32 : FTy.bits .bf16 < FTy.bits .f32
  bcast_S512_S1x1x512_2 : S512.BroadcastsInDim S1x1x512 (![2] : Fin 1 → Fin S1x1x512.rank)
  bcast_S1x1x512_S4x2048x512_0_1_2 : S1x1x512.BroadcastsInDim S4x2048x512 (![0, 1, 2] : Fin 3 → Fin S4x2048x512.rank)
  bcast_S_S4x2048x512 : S_.BroadcastsInDim S4x2048x512 (![] : Fin 0 → Fin S4x2048x512.rank)
  reducesTo_S4x2048x512_S_d0_1_2 : S4x2048x512.ReducesTo [0, 1, 2] S_
  h_S_ : 0 < S_.numel
  dot_S4x2048x64_S64x512_S4x2048x512_2_0_01_1_n_n_wf : DotDims.WF S4x2048x64 S64x512 S4x2048x512 [2] [0] [0, 1] [1] [] []

variable [Facts]

def dot_S4x2048x64_S64x512_S4x2048x512_2_0_01_1_n_n : DotDims S4x2048x64 S64x512 S4x2048x512 where
  lhsContracting := [2]
  rhsContracting := [0]
  lhsNonContracting := [0, 1]
  rhsNonContracting := [1]
  lhsBatch := []
  rhsBatch := []
  wf := dot_S4x2048x64_S64x512_S4x2048x512_2_0_01_1_n_n_wf
def fn_part1 {F : FTy → Type} [FloatOps F] (main_v18 : FVec F S4x2048x512 .f32) (main_v21 : IVec S4x2048x512 1) : IVec S_ 1 :=
  let main_c : IVec S_ 1 := constantI S_ 1 1#1
  let main_v22 : IVec S_ 1 := (fun x v => Host.reduce IntOp.andi x v reducesTo_S4x2048x512_S_d0_1_2 h_S_) main_v21 main_c
  let main_cst_1 : FVec F S_ .f32 := constant S_ .f32 0x00000000#32
  let main_v23 : FVec F S4x2048x512 .f32 := broadcastInDim S4x2048x512 ![] bcast_S_S4x2048x512 main_cst_1
  let main_v24 : IVec S4x2048x512 1 := cmpf .une main_v18 main_v23
  let main_c_2 : IVec S_ 1 := constantI S_ 1 1#1
  let main_v25 : IVec S_ 1 := (fun x v => Host.reduce IntOp.andi x v reducesTo_S4x2048x512_S_d0_1_2 h_S_) main_v24 main_c_2
  let main_v26 : IVec S_ 1 := andi main_v22 main_v25
  main_v26

def fn {F : FTy → Type} [FloatOps F] (main_arg0 : FVec F S4x2048x1664 .f32) (main_arg1 : FVec F S4x2048x512 .f32) (main_arg2 : FVec F S4x2048x512 .f32) (main_arg3 : FVec F S4x2048x512 .f32) (main_arg4 : FVec F S4x2048x512 .f32) (main_arg5 : FVec F S4x2048x512 .f32) (main_arg6 : FVec F S4x2048x512 .f32) (main_arg7 : FVec F S1x1664 .f32) (main_arg8 : FVec F S1x512 .f32) (main_arg9 : FVec F S64x512 .bf16) (main_arg10 : FVec F S1x512 .f32) (main_arg11 : FVec F S64x512 .bf16) (main_arg12 : FVec F S1x512 .f32) (main_arg13 : FVec F S1x512 .f32) : IVec S_ 1 :=
  let main_v0 : FVec F S4x2048x64 .f32 := (extractStridedSlice S4x2048x64 ![0, 0, 1536] · slices_S4x2048x1664_S4x2048x64_0_0_1536) main_arg0
  let main_v1 : FVec F S1x64 .f32 := (extractStridedSlice S1x64 ![0, 1536] · slices_S1x1664_S1x64_0_1536) main_arg7
  let main_v2 : FVec F S64 .f32 := shapeCast S64 main_v1 shapeCasts_S1x64_S64
  let main_v3 : FVec F S4x1x64 .f32 := (extractStridedSlice S4x1x64 ![0, 0, 0] · slices_S4x2048x64_S4x1x64_0_0_0) main_v0
  let main_cst : FVec F S_ .f32 := constant S_ .f32 0x00000000#32
  let main_v4 : FVec F S4x1x64 .f32 := broadcastInDim S4x1x64 ![] bcast_S_S4x1x64 main_cst
  let main_v5 : FVec F S4x2047x64 .f32 := (extractStridedSlice S4x2047x64 ![0, 0, 0] · slices_S4x2048x64_S4x2047x64_0_0_0) main_v0
  let main_v6 : FVec F S4x2048x64 .f32 := (fun a b => concatenate S4x2048x64 1 [⟨S4x1x64, a⟩, ⟨S4x2047x64, b⟩] concatenates_S4x1x64_S4x2047x64_S4x2048x64_d1) main_v4 main_v5
  let main_v7 : FVec F S4x2048x64 .f32 := subf main_v6 main_v0
  let main_v8 : FVec F S1x1x64 .f32 := broadcastInDim S1x1x64 ![2] bcast_S64_S1x1x64_2 main_v2
  let main_v9 : FVec F S4x2048x64 .f32 := broadcastInDim S4x2048x64 ![0, 1, 2] bcast_S1x1x64_S4x2048x64_0_1_2 main_v8
  let main_v10 : FVec F S4x2048x64 .f32 := mulf main_v7 main_v9
  let main_v11 : FVec F S4x2048x64 .f32 := addf main_v0 main_v10
  let main_v12 : FVec F S512 .f32 := shapeCast S512 main_arg8 shapeCasts_S1x512_S512
  let main_v13 : FVec F S4x2048x64 .f32 := Host.tanh main_v11
  let main_v14 : FVec F S64x512 .f32 := (extf .f32 · bitsLt_bf16_f32) main_arg9
  let main_v15 : FVec F S4x2048x512 .f32 := (fun l r => Host.dotGeneral dot_S4x2048x64_S64x512_S4x2048x512_2_0_01_1_n_n none l r) main_v13 main_v14
  let main_v16 : FVec F S1x1x512 .f32 := broadcastInDim S1x1x512 ![2] bcast_S512_S1x1x512_2 main_v12
  let main_v17 : FVec F S4x2048x512 .f32 := broadcastInDim S4x2048x512 ![0, 1, 2] bcast_S1x1x512_S4x2048x512_0_1_2 main_v16
  let main_v18 : FVec F S4x2048x512 .f32 := addf main_v17 main_v15
  let main_v19 : FVec F S4x2048x512 .f32 := Host.absf main_arg2
  let main_cst_0 : FVec F S_ .f32 := constant S_ .f32 0x7F800000#32
  let main_v20 : FVec F S4x2048x512 .f32 := broadcastInDim S4x2048x512 ![] bcast_S_S4x2048x512 main_cst_0
  let main_v21 : IVec S4x2048x512 1 := cmpf .olt main_v19 main_v20
  fn_part1 (F := F) main_v18 main_v21
-- ==== Kernel.lean ====
abbrev S4x2048x1664 : Shape := ⟨3, ![4, 2048, 1664]⟩
abbrev S1x1664 : Shape := ⟨2, ![1, 1664]⟩
abbrev S1x512x1664 : Shape := ⟨3, ![1, 512, 1664]⟩
abbrev S1x8x1664 : Shape := ⟨3, ![1, 8, 1664]⟩
abbrev S512x1664 : Shape := ⟨2, ![512, 1664]⟩
abbrev S512x1 : Shape := ⟨2, ![512, 1]⟩
abbrev S1x1x1664 : Shape := ⟨3, ![1, 1, 1664]⟩

abbrev nBuf : Space → Nat
  | .hbm => 4
  | .vmem => 7
  | .smem => 0
  | _ => 0

abbrev bufTy : (tb : Table) → Fin (tcTables nBuf tb) → BufTy
  | .hbm, ⟨0, _⟩ => ⟨S4x2048x1664, .f32⟩
  | .hbm, ⟨1, _⟩ => ⟨S1x1664, .f32⟩
  | .hbm, ⟨2, _⟩ => ⟨S4x2048x1664, .f32⟩
  | .hbm, ⟨3, _⟩ => ⟨S4x2048x1664, .bf16⟩
  | .local _ .vmem, ⟨0, _⟩ => ⟨S1x512x1664, .f32⟩
  | .local _ .vmem, ⟨1, _⟩ => ⟨S1x512x1664, .f32⟩
  | .local _ .vmem, ⟨2, _⟩ => ⟨S1x8x1664, .f32⟩
  | .local _ .vmem, ⟨3, _⟩ => ⟨S1x8x1664, .f32⟩
  | .local _ .vmem, ⟨4, _⟩ => ⟨S1x1664, .f32⟩
  | .local _ .vmem, ⟨5, _⟩ => ⟨S1x512x1664, .bf16⟩
  | .local _ .vmem, ⟨6, _⟩ => ⟨S1x512x1664, .bf16⟩
  | _, _ => ⟨S4x2048x1664, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1664 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1664 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1664 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1664 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S4x2048x1664 : Shape := ⟨3, ![4, 2048, 1664]⟩
abbrev S1x1664 : Shape := ⟨2, ![1, 1664]⟩
abbrev S4x1x1664 : Shape := ⟨3, ![4, 1, 1664]⟩
abbrev S_ : Shape := ⟨0, ![]⟩
abbrev S4x2047x1664 : Shape := ⟨3, ![4, 2047, 1664]⟩
abbrev S1664 : Shape := ⟨1, ![1664]⟩
abbrev S1x1x1664 : Shape := ⟨3, ![1, 1, 1664]⟩

abbrev nBuf : Space → Nat
  | .hbm => 27
  | .vmem => 0
  | .smem => 0
  | _ => 0

abbrev bufTy : (tb : Table) → Fin (tcTables nBuf tb) → BufTy
  | .hbm, ⟨0, _⟩ => ⟨S4x2048x1664, .f32⟩
  | .hbm, ⟨1, _⟩ => ⟨S1x1664, .f32⟩
  | .hbm, ⟨2, _⟩ => ⟨S4x2048x1664, .f32⟩
  | .hbm, ⟨3, _⟩ => ⟨S4x1x1664, .f32⟩
  | .hbm, ⟨4, _⟩ => ⟨S_, .f32⟩
  | .hbm, ⟨5, _⟩ => ⟨S4x1x1664, .f32⟩
  | .hbm, ⟨6, _⟩ => ⟨S4x2047x1664, .f32⟩
  | .hbm, ⟨7, _⟩ => ⟨S4x2048x1664, .f32⟩
  | .hbm, ⟨8, _⟩ => ⟨S_, .f32⟩
  | .hbm, ⟨9, _⟩ => ⟨S4x1x1664, .f32⟩
  | .hbm, ⟨10, _⟩ => ⟨S4x2048x1664, .f32⟩
  | .hbm, ⟨11, _⟩ => ⟨S1664, .f32⟩
  | .hbm, ⟨12, _⟩ => ⟨S1x1x1664, .f32⟩
  | .hbm, ⟨13, _⟩ => ⟨S4x2048x1664, .f32⟩
  | .hbm, ⟨14, _⟩ => ⟨S4x2048x1664, .f32⟩
  | .hbm, ⟨15, _⟩ => ⟨S4x2048x1664, .f32⟩
  | .hbm, ⟨16, _⟩ => ⟨S4x2048x1664, .f32⟩
  | .hbm, ⟨17, _⟩ => ⟨S4x2048x1664, .f32⟩
  | .hbm, ⟨18, _⟩ => ⟨S4x2048x1664, .f32⟩
  | .hbm, ⟨19, _⟩ => ⟨S4x2048x1664, .f32⟩
  | .hbm, ⟨20, _⟩ => ⟨S4x2048x1664, .f32⟩
  | .hbm, ⟨21, _⟩ => ⟨S4x1x1664, .f32⟩
  | .hbm, ⟨22, _⟩ => ⟨S4x2047x1664, .f32⟩
  | .hbm, ⟨23, _⟩ => ⟨S_, .f32⟩
  | .hbm, ⟨24, _⟩ => ⟨S4x2048x1664, .f32⟩
  | .hbm, ⟨25, _⟩ => ⟨S4x2048x1664, .f32⟩
  | .hbm, ⟨26, _⟩ => ⟨S4x2048x1664, .bf16⟩
  | _, _ => ⟨S4x2048x1664, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Kernel2.lean ====
abbrev S8192x512 : Shape := ⟨2, ![8192, 512]⟩
abbrev S8192x2048 : Shape := ⟨2, ![8192, 2048]⟩
abbrev S8192x1024 : Shape := ⟨2, ![8192, 1024]⟩
abbrev S512x1024 : Shape := ⟨2, ![512, 1024]⟩
abbrev S1024x1024 : Shape := ⟨2, ![1024, 1024]⟩
abbrev S1x1024 : Shape := ⟨2, ![1, 1024]⟩
abbrev S1x1 : Shape := ⟨2, ![1, 1]⟩
abbrev S256x512 : Shape := ⟨2, ![256, 512]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩
abbrev S1024 : Shape := ⟨1, ![1024]⟩
abbrev S1 : Shape := ⟨1, ![1]⟩

abbrev nBuf : Space → Nat
  | .hbm => 22
  | .vmem => 36
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x2048, .f32⟩
  | .hbm, ⟨5, _⟩ => ⟨S8192x1024, .f32⟩
  | .hbm, ⟨6, _⟩ => ⟨S8192x1024, .f32⟩
  | .hbm, ⟨7, _⟩ => ⟨S512x1024, .bf16⟩
  | .hbm, ⟨8, _⟩ => ⟨S512x1024, .bf16⟩
  | .hbm, ⟨9, _⟩ => ⟨S1024x1024, .bf16⟩
  | .hbm, ⟨10, _⟩ => ⟨S1x1024, .f32⟩
  | .hbm, ⟨11, _⟩ => ⟨S8192x1024, .f32⟩
  | .hbm, ⟨12, _⟩ => ⟨S8192x512, .f32⟩
  | .hbm, ⟨13, _⟩ => ⟨S8192x512, .f32⟩
  | .hbm, ⟨14, _⟩ => ⟨S8192x512, .bf16⟩
  | .hbm, ⟨15, _⟩ => ⟨S8192x512, .bf16⟩
  | .hbm, ⟨16, _⟩ => ⟨S8192x2048, .bf16⟩
  | .hbm, ⟨17, _⟩ => ⟨S512x1024, .f32⟩
  | .hbm, ⟨18, _⟩ => ⟨S512x1024, .f32⟩
  | .hbm, ⟨19, _⟩ => ⟨S1024x1024, .f32⟩
  | .hbm, ⟨20, _⟩ => ⟨S1x1024, .f32⟩
  | .hbm, ⟨21, _⟩ => ⟨S1x1, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x2048, .f32⟩
  | .local _ .vmem, ⟨9, _⟩ => ⟨S256x2048, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S1x1024, .f32⟩
  | .local _ .vmem, ⟨18, _⟩ => ⟨S256x1024, .f32⟩
  | .local _ .vmem, ⟨19, _⟩ => ⟨S256x1024, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x512, .bf16⟩
  | .local _ .vmem, ⟨25, _⟩ => ⟨S256x512, .bf16⟩
  | .local _ .vmem, ⟨26, _⟩ => ⟨S256x512, .bf16⟩
  | .local _ .vmem, ⟨27, _⟩ => ⟨S256x512, .bf16⟩
  | .local _ .vmem, ⟨28, _⟩ => ⟨S256x2048, .bf16⟩
  | .local _ .vmem, ⟨29, _⟩ => ⟨S256x2048, .bf16⟩
  | .local _ .vmem, ⟨30, _⟩ => ⟨S512x1024, .f32⟩
  | .local _ .vmem, ⟨31, _⟩ => ⟨S512x1024, .f32⟩
  | .local _ .vmem, ⟨32, _⟩ => ⟨S1024x1024, .f32⟩
  | .local _ .vmem, ⟨33, _⟩ => ⟨S1x1024, .f32⟩
  | .local _ .vmem, ⟨34, _⟩ => ⟨S1x1, .f32⟩
  | .local _ .vmem, ⟨35, _⟩ => ⟨S1x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev main_v0_5 : Ref sig .tc := ⟨.hbm, 16, rfl⟩
abbrev main_v0_6 : Ref sig .tc := ⟨.hbm, 17, rfl⟩
abbrev main_v0_7 : Ref sig .tc := ⟨.hbm, 18, rfl⟩
abbrev main_v0_8 : Ref sig .tc := ⟨.hbm, 19, rfl⟩
abbrev main_v0_9 : Ref sig .tc := ⟨.hbm, 20, rfl⟩
abbrev main_v0_10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg18_0 : Ref sig .tc := ⟨.vmem, 31, rfl⟩
abbrev cc0_stg19_0 : Ref sig .tc := ⟨.vmem, 32, rfl⟩
abbrev cc0_stg20_0 : Ref sig .tc := ⟨.vmem, 33, rfl⟩
abbrev cc0_stg21_0 : Ref sig .tc := ⟨.vmem, 34, rfl⟩
abbrev cc0_scratch0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem18_0 : DmaSem sig := 31
abbrev cc0_sem19_0 : DmaSem sig := 32
abbrev cc0_sem20_0 : DmaSem sig := 33
abbrev cc0_sem21_0 : DmaSem sig := 34

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v127 : BitVec 1 := Scalar.cmpi .eq arg0 c0_i32
  let v128 : BitVec 32 := Scalar.extui v127
  let c0_i32_64 : BitVec 32 := 0#32
  let v129 : BitVec 1 := Scalar.cmpi .ne v128 c0_i32_64
  v129

def k0_cond2 (i : grid0.Coords) : BitVec 1 :=
  let arg0 : BitVec 32 := BitVec.ofNat 32 (i 0).val
  let c0_i32_65 : BitVec 32 := 0#32
  let v130 : BitVec 1 := Scalar.cmpi .ne arg0 c0_i32_65
  let v131 : BitVec 32 := Scalar.extui v130
  let c0_i32_66 : BitVec 32 := 0#32
  let v132 : BitVec 1 := Scalar.cmpi .ne v131 c0_i32_66
  v132

def k0_cond3 (i : grid0.Coords) : BitVec 1 :=
  let arg0 : BitVec 32 := BitVec.ofNat 32 (i 0).val
  let c31_i32 : BitVec 32 := 31#32
  let v133 : BitVec 1 := Scalar.cmpi .eq arg0 c31_i32
  let v134 : BitVec 32 := Scalar.extui v133
  let c0_i32_67 : BitVec 32 := 0#32
  let v135 : BitVec 1 := Scalar.cmpi .ne v134 c0_i32_67
  v135

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S512x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S512x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1024x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== Reference2Ideal.lean ====
abbrev S8192x512 : Shape := ⟨2, ![8192, 512]⟩
abbrev S8192x2048 : Shape := ⟨2, ![8192, 2048]⟩
abbrev S8192x1024 : Shape := ⟨2, ![8192, 1024]⟩
abbrev S512x1024 : Shape := ⟨2, ![512, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1024x512 : Shape := ⟨2, ![1024, 512]⟩
abbrev S1x1 : Shape := ⟨2, ![1, 1]⟩

abbrev nBuf : Space → Nat
  | .hbm => 176
  | .vmem => 0
  | .smem => 0
  | _ => 0

abbrev hbmTy0_0 (i : Nat) : BufTy := match i % 128 with
  | 0 => ⟨S8192x512, .f32⟩
  | 1 => ⟨S8192x512, .f32⟩
  | 2 => ⟨S8192x512, .f32⟩
  | 3 => ⟨S8192x512, .f32⟩
  | 4 => ⟨S8192x2048, .f32⟩
  | 5 => ⟨S8192x1024, .f32⟩
  | 6 => ⟨S8192x1024, .f32⟩
  | 7 => ⟨S512x1024, .bf16⟩
  | 8 => ⟨S512x1024, .bf16⟩
  | 9 => ⟨S1024x1024, .bf16⟩
  | 10 => ⟨S1x1024, .f32⟩
  | 11 => ⟨S512x1024, .f32⟩
  | 12 => ⟨S512x1024, .f32⟩
  | 13 => ⟨S1024x1024, .f32⟩
  | 14 => ⟨S8192x512, .f32⟩
  | 15 => ⟨S8192x512, .f32⟩
  | 16 => ⟨S_, .f32⟩
  | 17 => ⟨S8192x512, .f32⟩
  | 18 => ⟨S8192x512, .f32⟩
  | 19 => ⟨S_, .f32⟩
  | 20 => ⟨S8192x512, .f32⟩
  | 21 => ⟨S8192x512, .f32⟩
  | 22 => ⟨S_, .f32⟩
  | 23 => ⟨S8192x512, .f32⟩
  | 24 => ⟨S8192x512, .f32⟩
  | 25 => ⟨S8192x512, .f32⟩
  | 26 => ⟨S8192x512, .f32⟩
  | 27 => ⟨S8192x512, .f32⟩
  | 28 => ⟨S8192x1024, .f32⟩
  | 29 => ⟨S8192x512, .f32⟩
  | 30 => ⟨S8192x512, .f32⟩
  | 31 => ⟨S_, .f32⟩
  | 32 => ⟨S8192x512, .f32⟩
  | 33 => ⟨S8192x512, .f32⟩
  | 34 => ⟨S_, .f32⟩
  | 35 => ⟨S8192x512, .f32⟩
  | 36 => ⟨S8192x512, .f32⟩
  | 37 => ⟨S_, .f32⟩
  | 38 => ⟨S8192x512, .f32⟩
  | 39 => ⟨S8192x512, .f32⟩
  | 40 => ⟨S8192x512, .f32⟩
  | 41 => ⟨S8192x512, .f32⟩
  | 42 => ⟨S8192x512, .f32⟩
  | 43 => ⟨S8192x1024, .f32⟩
  | 44 => ⟨S8192x1024, .f32⟩
  | 45 => ⟨S8192x1024, .f32⟩
  | 46 => ⟨S8192x1024, .f32⟩
  | 47 => ⟨S_, .f32⟩
  | 48 => ⟨S8192x1024, .f32⟩
  | 49 => ⟨S8192x1024, .f32⟩
  | 50 => ⟨S_, .f32⟩
  | 51 => ⟨S8192x1024, .f32⟩
  | 52 => ⟨S8192x1024, .f32⟩
  | 53 => ⟨S_, .f32⟩
  | 54 => ⟨S8192x1024, .f32⟩
  | 55 => ⟨S8192x1024, .f32⟩
  | 56 => ⟨S8192x1024, .f32⟩
  | 57 => ⟨S8192x1024, .f32⟩
  | 58 => ⟨S8192x1024, .f32⟩
  | 59 => ⟨S8192x1024, .f32⟩
  | 60 => ⟨S8192x1024, .f32⟩
  | 61 => ⟨S_, .f32⟩
  | 62 => ⟨S8192x1024, .f32⟩
  | 63 => ⟨S8192x1024, .f32⟩
  | 64 => ⟨S_, .f32⟩
  | 65 => ⟨S8192x1024, .f32⟩
  | 66 => ⟨S8192x1024, .f32⟩
  | 67 => ⟨S_, .f32⟩
  | 68 => ⟨S8192x1024, .f32⟩
  | 69 => ⟨S8192x1024, .f32⟩
  | 70 => ⟨S8192x1024, .f32⟩
  | 71 => ⟨S8192x1024, .f32⟩
  | 72 => ⟨S8192x1024, .f32⟩
  | 73 => ⟨S8192x1024, .f32⟩
  | 74 => ⟨S8192x1024, .f32⟩
  | 75 => ⟨S_, .f32⟩
  | 76 => ⟨S8192, .f32⟩
  | 77 => ⟨S8192x1, .f32⟩
  | 78 => ⟨S_, .f32⟩
  | 79 => ⟨S8192x1, .f32⟩
  | 80 => ⟨S8192x1, .f32⟩
  | 81 => ⟨S_, .f32⟩
  | 82 => ⟨S8192x1, .f32⟩
  | 83 => ⟨S8192x1, .f32⟩
  | 84 => ⟨S8192x1, .f32⟩
  | 85 => ⟨S8192x1, .f32⟩
  | 86 => ⟨S_, .f32⟩
  | 87 => ⟨S8192x1, .f32⟩
  | 88 => ⟨S8192x1, .f32⟩
  | 89 => ⟨S8192x1024, .f32⟩
  | 90 => ⟨S8192x1024, .f32⟩
  | 91 => ⟨S8192x1024, .f32⟩
  | 92 => ⟨S8192x1024, .f32⟩
  | 93 => ⟨S8192x1024, .f32⟩
  | 94 => ⟨S8192x1024, .f32⟩
  | 95 => ⟨S8192x1024, .f32⟩
  | 96 => ⟨S_, .f32⟩
  | 97 => ⟨S8192x1024, .f32⟩
  | 98 => ⟨S8192x1024, .f32⟩
  | 99 => ⟨S_, .f32⟩
  | 100 => ⟨S8192, .f32⟩
  | 101 => ⟨S_, .f32⟩
  | 102 => ⟨S8192, .f32⟩
  | 103 => ⟨S8192, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S8192, .f32⟩
  | 112 => ⟨S_, .f32⟩
  | 113 => ⟨S8192, .f32⟩
  | 114 => ⟨S8192, .f32⟩
  | 115 => ⟨S8192x1024, .f32⟩
  | 116 => ⟨S8192x1024, .f32⟩
  | 117 => ⟨S8192x1024, .f32⟩
  | 118 => ⟨S_, .f32⟩
  | 119 => ⟨S1024, .f32⟩
  | 120 => ⟨S1x1024, .f32⟩
  | 121 => ⟨S8192x1024, .f32⟩
  | 122 => ⟨S8192x1024, .f32⟩
  | 123 => ⟨S8192x1024, .f32⟩
  | 124 => ⟨S_, .f32⟩
  | 125 => ⟨S8192, .f32⟩
  | 126 => ⟨S8192x1, .f32⟩
  | 127 => ⟨S8192x1024, .f32⟩
  | _ => ⟨S8192x512, .f32⟩

abbrev hbmTy0_1 (i : Nat) : BufTy := match i % 128 with
  | 0 => ⟨S8192x1024, .f32⟩
  | 1 => ⟨S8192x1, .f32⟩
  | 2 => ⟨S_, .f32⟩
  | 3 => ⟨S8192x1, .f32⟩
  | 4 => ⟨S8192x1, .f32⟩
  | 5 => ⟨S_, .f32⟩
  | 6 => ⟨S8192, .f32⟩
  | 7 => ⟨S8192x1024, .f32⟩
  | 8 => ⟨S8192x1024, .f32⟩
  | 9 => ⟨S8192x1024, .f32⟩
  | 10 => ⟨S8192x1024, .f32⟩
  | 11 => ⟨S8192x1024, .f32⟩
  | 12 => ⟨S1024x1024, .f32⟩
  | 13 => ⟨S1024x1024, .f32⟩
  | 14 => ⟨S8192x1024, .f32⟩
  | 15 => ⟨S8192x1024, .f32⟩
  | 16 => ⟨S8192x1024, .f32⟩
  | 17 => ⟨S8192x1024, .f32⟩
  | 18 => ⟨S_, .f32⟩
  | 19 => ⟨S8192x2048, .f32⟩
  | 20 => ⟨S8192x1024, .f32⟩
  | 21 => ⟨S8192x1024, .f32⟩
  | 22 => ⟨S8192x1024, .f32⟩
  | 23 => ⟨S_, .f32⟩
  | 24 => ⟨S8192x2048, .f32⟩
  | 25 => ⟨S8192x2048, .f32⟩
  | 26 => ⟨S1024x512, .f32⟩
  | 27 => ⟨S512x1024, .f32⟩
  | 28 => ⟨S8192x512, .f32⟩
  | 29 => ⟨S8192x512, .f32⟩
  | 30 => ⟨S8192x512, .f32⟩
  | 31 => ⟨S8192x512, .f32⟩
  | 32 => ⟨S8192x512, .f32⟩
  | 33 => ⟨S8192x512, .f32⟩
  | 34 => ⟨S8192x512, .f32⟩
  | 35 => ⟨S1024x512, .f32⟩
  | 36 => ⟨S512x1024, .f32⟩
  | 37 => ⟨S8192x512, .f32⟩
  | 38 => ⟨S8192x512, .f32⟩
  | 39 => ⟨S8192x512, .f32⟩
  | 40 => ⟨S8192x512, .f32⟩
  | 41 => ⟨S8192x512, .f32⟩
  | 42 => ⟨S8192x512, .f32⟩
  | 43 => ⟨S8192x512, .f32⟩
  | 44 => ⟨S8192x512, .bf16⟩
  | 45 => ⟨S8192x512, .bf16⟩
  | 46 => ⟨S8192x2048, .bf16⟩
  | 47 => ⟨S1x1, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_v3_2 : Ref sig .tc := ⟨.hbm, 21, rfl⟩
abbrev main_call0_cst_1 : Ref sig .tc := ⟨.hbm, 22, rfl⟩
abbrev main_call0_v6 : Ref sig .tc := ⟨.hbm, 23, rfl⟩
abbrev main_call0_v7 : Ref sig .tc := ⟨.hbm, 24, rfl⟩
abbrev main_v3_1 : Ref sig .tc := ⟨.hbm, 25, rfl⟩
abbrev main_v3_0 : Ref sig .tc := ⟨.hbm, 26, rfl⟩
abbrev main_v4 : Ref sig .tc := ⟨.hbm, 27, rfl⟩
abbrev main_v5 : Ref sig .tc := ⟨.hbm, 28, rfl⟩
abbrev main_call1_v0 : Ref sig .tc := ⟨.hbm, 29, rfl⟩
abbrev main_call1_v1 : Ref sig .tc := ⟨.hbm, 30, rfl⟩
abbrev main_call1_cst : Ref sig .tc := ⟨.hbm, 31, rfl⟩
abbrev main_call1_v2 : Ref sig .tc := ⟨.hbm, 32, rfl⟩
abbrev main_call1_v3 : Ref sig .tc := ⟨.hbm, 33, rfl⟩
abbrev main_call1_cst_0 : Ref sig .tc := ⟨.hbm, 34, rfl⟩
abbrev main_call1_v4 : Ref sig .tc := ⟨.hbm, 35, rfl⟩
abbrev main_v6_2 : Ref sig .tc := ⟨.hbm, 36, rfl⟩
abbrev main_call1_cst_1 : Ref sig .tc := ⟨.hbm, 37, rfl⟩
abbrev main_call1_v6 : Ref sig .tc := ⟨.hbm, 38, rfl⟩
abbrev main_call1_v7 : Ref sig .tc := ⟨.hbm, 39, rfl⟩
abbrev main_v6_1 : Ref sig .tc := ⟨.hbm, 40, rfl⟩
abbrev main_v6_0 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_cst : Ref sig .tc := ⟨.hbm, 47, rfl⟩
abbrev main_v12 : Ref sig .tc := ⟨.hbm, 48, rfl⟩
abbrev main_v13 : Ref sig .tc := ⟨.hbm, 49, rfl⟩
abbrev main_cst_0 : Ref sig .tc := ⟨.hbm, 50, rfl⟩
abbrev main_v14 : Ref sig .tc := ⟨.hbm, 51, rfl⟩
abbrev main_v15 : Ref sig .tc := ⟨.hbm, 52, rfl⟩
abbrev main_cst_1 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_cst_2 : Ref sig .tc := ⟨.hbm, 61, rfl⟩
abbrev main_v23 : Ref sig .tc := ⟨.hbm, 62, rfl⟩
abbrev main_v24 : Ref sig .tc := ⟨.hbm, 63, rfl⟩
abbrev main_cst_3 : Ref sig .tc := ⟨.hbm, 64, rfl⟩
abbrev main_v25 : Ref sig .tc := ⟨.hbm, 65, rfl⟩
abbrev main_v26 : Ref sig .tc := ⟨.hbm, 66, rfl⟩
abbrev main_cst_4 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_cst_5 : Ref sig .tc := ⟨.hbm, 75, rfl⟩
abbrev main_v34 : Ref sig .tc := ⟨.hbm, 76, rfl⟩
abbrev main_v35 : Ref sig .tc := ⟨.hbm, 77, rfl⟩
abbrev main_cst_6 : Ref sig .tc := ⟨.hbm, 78, rfl⟩
abbrev main_v36 : Ref sig .tc := ⟨.hbm, 79, rfl⟩
abbrev main_v37 : Ref sig .tc := ⟨.hbm, 80, rfl⟩
abbrev main_cst_7 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_cst_8 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_cst_9 : Ref sig .tc := ⟨.hbm, 96, rfl⟩
abbrev main_v51 : Ref sig .tc := ⟨.hbm, 97, rfl⟩
abbrev main_v52 : Ref sig .tc := ⟨.hbm, 98, rfl⟩
abbrev main_cst_10 : Ref sig .tc := ⟨.hbm, 99, rfl⟩
abbrev main_v53 : Ref sig .tc := ⟨.hbm, 100, rfl⟩
abbrev main_cst_11 : Ref sig .tc := ⟨.hbm, 101, rfl⟩
abbrev main_v54 : Ref sig .tc := ⟨.hbm, 102, rfl⟩
abbrev main_v55 : Ref sig .tc := ⟨.hbm, 103, rfl⟩
abbrev main_cst_12 : Ref sig .tc := ⟨.hbm, 104, rfl⟩
abbrev main_v56 : Ref sig .tc := ⟨.hbm, 105, rfl⟩
abbrev main_cst_13 : Ref sig .tc := ⟨.hbm, 106, rfl⟩
abbrev main_v57 : Ref sig .tc := ⟨.hbm, 107, rfl⟩
abbrev main_cst_14 : Ref sig .tc := ⟨.hbm, 108, rfl⟩
abbrev main_cst_15 : Ref sig .tc := ⟨.hbm, 109, rfl⟩
abbrev main_v58 : Ref sig .tc := ⟨.hbm, 110, rfl⟩
abbrev main_v59 : Ref sig .tc := ⟨.hbm, 111, rfl⟩
abbrev main_cst_16 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_cst_17 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_cst_18 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_cst_19 : Ref sig .tc := ⟨.hbm, 130, rfl⟩
abbrev main_v75 : Ref sig .tc := ⟨.hbm, 131, rfl⟩
abbrev main_v76 : Ref sig .tc := ⟨.hbm, 132, rfl⟩
abbrev main_cst_20 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_cst_21 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_cst_22 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_call2_v0 : Ref sig .tc := ⟨.hbm, 159, rfl⟩
abbrev main_call2_v1 : Ref sig .tc := ⟨.hbm, 160, rfl⟩
abbrev main_call2_v2 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_call3_v0 : Ref sig .tc := ⟨.hbm, 168, rfl⟩
abbrev main_call3_v1 : Ref sig .tc := ⟨.hbm, 169, rfl⟩
abbrev main_call3_v2 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩

abbrev nD : Nat := 1
abbrev τ : Topo := Topo.v7x

variable {F : FTy → Type} [FloatOps F]
-- ==== Kernel3.lean ====
abbrev S8192x512 : Shape := ⟨2, ![8192, 512]⟩
abbrev S8192x1664 : Shape := ⟨2, ![8192, 1664]⟩
abbrev S8192x2048 : Shape := ⟨2, ![8192, 2048]⟩
abbrev S1024x9344 : Shape := ⟨2, ![1024, 9344]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024x512 : Shape := ⟨2, ![1024, 512]⟩
abbrev S1024x1664 : Shape := ⟨2, ![1024, 1664]⟩
abbrev S1024x2048 : Shape := ⟨2, ![1024, 2048]⟩
abbrev S512x512 : Shape := ⟨2, ![512, 512]⟩
abbrev S512x1664 : Shape := ⟨2, ![512, 1664]⟩
abbrev S512x2048 : Shape := ⟨2, ![512, 2048]⟩
abbrev S512x1024 : Shape := ⟨2, ![512, 1024]⟩
abbrev S512x1 : Shape := ⟨2, ![512, 1]⟩
abbrev S512 : Shape := ⟨1, ![512]⟩
abbrev S1024 : Shape := ⟨1, ![1024]⟩

abbrev nBuf : Space → Nat
  | .hbm => 26
  | .vmem => 24
  | .smem => 0
  | _ => 0

abbrev bufTy : (tb : Table) → Fin (tcTables nBuf tb) → BufTy
  | .hbm, ⟨0, _⟩ => ⟨S8192x512, .bf16⟩
  | .hbm, ⟨1, _⟩ => ⟨S8192x1664, .bf16⟩
  | .hbm, ⟨2, _⟩ => ⟨S8192x512, .bf16⟩
  | .hbm, ⟨3, _⟩ => ⟨S8192x2048, .bf16⟩
  | .hbm, ⟨4, _⟩ => ⟨S1024x9344, .bf16⟩
  | .hbm, ⟨5, _⟩ => ⟨S8192x1024, .f32⟩
  | .hbm, ⟨6, _⟩ => ⟨S8192x1024, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S1024x512, .bf16⟩
  | .hbm, ⟨21, _⟩ => ⟨S1024x1664, .bf16⟩
  | .hbm, ⟨22, _⟩ => ⟨S1024x512, .bf16⟩
  | .hbm, ⟨23, _⟩ => ⟨S1024x2048, .bf16⟩
  | .hbm, ⟨24, _⟩ => ⟨S8192x1024, .f32⟩
  | .hbm, ⟨25, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x1664, .bf16⟩
  | .local _ .vmem, ⟨3, _⟩ => ⟨S512x1664, .bf16⟩
  | .local _ .vmem, ⟨4, _⟩ => ⟨S512x512, .bf16⟩
  | .local _ .vmem, ⟨5, _⟩ => ⟨S512x512, .bf16⟩
  | .local _ .vmem, ⟨6, _⟩ => ⟨S512x2048, .bf16⟩
  | .local _ .vmem, ⟨7, _⟩ => ⟨S512x2048, .bf16⟩
  | .local _ .vmem, ⟨8, _⟩ => ⟨S1024x512, .bf16⟩
  | .local _ .vmem, ⟨9, _⟩ => ⟨S1024x1664, .bf16⟩
  | .local _ .vmem, ⟨10, _⟩ => ⟨S1024x512, .bf16⟩
  | .local _ .vmem, ⟨11, _⟩ => ⟨S1024x2048, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1, .f32⟩
  | .local _ .vmem, ⟨17, _⟩ => ⟨S512x1, .f32⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S1x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v48 : BitVec 1 := Scalar.cmpi .eq arg0 c0_i32
  let v49 : BitVec 32 := Scalar.extui v48
  let c0_i32_33 : BitVec 32 := 0#32
  let v50 : BitVec 1 := Scalar.cmpi .ne v49 c0_i32_33
  v50

def k0_cond2 (i : grid0.Coords) : BitVec 1 :=
  let arg0 : BitVec 32 := BitVec.ofNat 32 (i 0).val
  let c0_i32_34 : BitVec 32 := 0#32
  let v51 : BitVec 1 := Scalar.cmpi .ne arg0 c0_i32_34
  let v52 : BitVec 32 := Scalar.extui v51
  let c0_i32_35 : BitVec 32 := 0#32
  let v53 : BitVec 1 := Scalar.cmpi .ne v52 c0_i32_35
  v53

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1664 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference3Ideal.lean ====
abbrev S8192x512 : Shape := ⟨2, ![8192, 512]⟩
abbrev S8192x1664 : Shape := ⟨2, ![8192, 1664]⟩
abbrev S8192x2048 : Shape := ⟨2, ![8192, 2048]⟩
abbrev S1024x9344 : Shape := ⟨2, ![1024, 9344]⟩
abbrev S8192x1024 : Shape := ⟨2, ![8192, 1024]⟩
abbrev S1x1024 : Shape := ⟨2, ![1, 1024]⟩
abbrev S1024x512 : Shape := ⟨2, ![1024, 512]⟩
abbrev S1024x1664 : Shape := ⟨2, ![1024, 1664]⟩
abbrev S1024x2048 : Shape := ⟨2, ![1024, 2048]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 76
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1664, .bf16⟩
  | .hbm, ⟨2, _⟩ => ⟨S8192x512, .bf16⟩
  | .hbm, ⟨3, _⟩ => ⟨S8192x2048, .bf16⟩
  | .hbm, ⟨4, _⟩ => ⟨S1024x9344, .bf16⟩
  | .hbm, ⟨5, _⟩ => ⟨S8192x1024, .f32⟩
  | .hbm, ⟨6, _⟩ => ⟨S8192x1024, .f32⟩
  | .hbm, ⟨7, _⟩ => ⟨S1x1024, .f32⟩
  | .hbm, ⟨8, _⟩ => ⟨S8192x1024, .f32⟩
  | .hbm, ⟨9, _⟩ => ⟨S1024x512, .bf16⟩
  | .hbm, ⟨10, _⟩ => ⟨S1024x512, .f32⟩
  | .hbm, ⟨11, _⟩ => ⟨S1024x1664, .bf16⟩
  | .hbm, ⟨12, _⟩ => ⟨S1024x1664, .f32⟩
  | .hbm, ⟨13, _⟩ => ⟨S1024x512, .bf16⟩
  | .hbm, ⟨14, _⟩ => ⟨S1024x512, .f32⟩
  | .hbm, ⟨15, _⟩ => ⟨S1024x2048, .bf16⟩
  | .hbm, ⟨16, _⟩ => ⟨S1024x2048, .f32⟩
  | .hbm, ⟨17, _⟩ => ⟨S8192x1024, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x512, .f32⟩
  | .hbm, ⟨37, _⟩ => ⟨S8192x1664, .f32⟩
  | .hbm, ⟨38, _⟩ => ⟨S8192x512, .f32⟩
  | .hbm, ⟨39, _⟩ => ⟨S8192x2048, .f32⟩
  | .hbm, ⟨40, _⟩ => ⟨S8192x512, .f32⟩
  | .hbm, ⟨41, _⟩ => ⟨S8192x1664, .f32⟩
  | .hbm, ⟨42, _⟩ => ⟨S8192x512, .f32⟩
  | .hbm, ⟨43, _⟩ => ⟨S8192x2048, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S_, .f32⟩
  | .hbm, ⟨70, _⟩ => ⟨S8192, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_3 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_4 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_5 : Ref sig .tc := ⟨.hbm, 66, rfl⟩
abbrev main_v51 : Ref sig .tc := ⟨.hbm, 67, rfl⟩
abbrev main_v52 : Ref sig .tc := ⟨.hbm, 68, rfl⟩
abbrev main_cst_6 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩

abbrev nD : Nat := 1
abbrev τ : Topo := Topo.v7x

variable {F : FTy → Type} [FloatOps F]
-- ==== Kernel4.lean ====
abbrev S4x6x128x256 : Shape := ⟨4, ![4, 6, 128, 256]⟩
abbrev S3x128x256 : Shape := ⟨3, ![3, 128, 256]⟩
abbrev S24x128 : Shape := ⟨2, ![24, 128]⟩
abbrev S1x128 : Shape := ⟨2, ![1, 128]⟩
abbrev S1x128x256 : Shape := ⟨3, ![1, 128, 256]⟩
abbrev S128x256 : Shape := ⟨2, ![128, 256]⟩
abbrev S1x1x128x256 : Shape := ⟨4, ![1, 1, 128, 256]⟩
abbrev S256 : Shape := ⟨1, ![256]⟩
abbrev S1x256 : Shape := ⟨2, ![1, 256]⟩
abbrev S1 : Shape := ⟨1, ![1]⟩
abbrev S1x1 : Shape := ⟨2, ![1, 1]⟩

abbrev nBuf : Space → Nat
  | .hbm => 3
  | .vmem => 3
  | .smem => 0
  | _ => 0

abbrev bufTy : (tb : Table) → Fin (tcTables nBuf tb) → BufTy
  | .hbm, ⟨0, _⟩ => ⟨S4x6x128x256, .f32⟩
  | .hbm, ⟨1, _⟩ => ⟨S3x128x256, .i32⟩
  | .hbm, ⟨2, _⟩ => ⟨S24x128, .f32⟩
  | .local _ .vmem, ⟨0, _⟩ => ⟨S4x6x128x256, .f32⟩
  | .local _ .vmem, ⟨1, _⟩ => ⟨S3x128x256, .i32⟩
  | .local _ .vmem, ⟨2, _⟩ => ⟨S24x128, .f32⟩
  | _, _ => ⟨S4x6x128x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4x6x128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x128x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference4Ideal.lean ====
abbrev S4x6x128x256 : Shape := ⟨4, ![4, 6, 128, 256]⟩
abbrev S3x128x256 : Shape := ⟨3, ![3, 128, 256]⟩
abbrev S_ : Shape := ⟨0, ![]⟩
abbrev S32x24 : Shape := ⟨2, ![32, 24]⟩
abbrev S32x8 : Shape := ⟨2, ![32, 8]⟩
abbrev S1x128x256 : Shape := ⟨3, ![1, 128, 256]⟩
abbrev S128x256 : Shape := ⟨2, ![128, 256]⟩
abbrev S128x256x1 : Shape := ⟨3, ![128, 256, 1]⟩
abbrev S128x256x8 : Shape := ⟨3, ![128, 256, 8]⟩
abbrev S8x128x256 : Shape := ⟨3, ![8, 128, 256]⟩
abbrev S4x2x128x256 : Shape := ⟨4, ![4, 2, 128, 256]⟩
abbrev S4x1x2x128x256 : Shape := ⟨5, ![4, 1, 2, 128, 256]⟩
abbrev S4x3x2x128x256 : Shape := ⟨5, ![4, 3, 2, 128, 256]⟩
abbrev S24x32 : Shape := ⟨2, ![24, 32]⟩
abbrev S24x128 : Shape := ⟨2, ![24, 128]⟩

abbrev nBuf : Space → Nat
  | .hbm => 85
  | .vmem => 0
  | .smem => 0
  | _ => 0

abbrev bufTy : (tb : Table) → Fin (tcTables nBuf tb) → BufTy
  | .hbm, ⟨0, _⟩ => ⟨S4x6x128x256, .f32⟩
  | .hbm, ⟨1, _⟩ => ⟨S3x128x256, .i32⟩
  | .hbm, ⟨2, _⟩ => ⟨S_, .f32⟩
  | .hbm, ⟨3, _⟩ => ⟨S32x24, .f32⟩
  | .hbm, ⟨4, _⟩ => ⟨S32x8, .f32⟩
  | .hbm, ⟨5, _⟩ => ⟨S1x128x256, .i32⟩
  | .hbm, ⟨6, _⟩ => ⟨S128x256, .i32⟩
  | .hbm, ⟨7, _⟩ => ⟨S_, .i32⟩
  | .hbm, ⟨8, _⟩ => ⟨S128x256, .i32⟩
  | .hbm, ⟨9, _⟩ => ⟨S128x256, .i1⟩
  | .hbm, ⟨10, _⟩ => ⟨S_, .i32⟩
  | .hbm, ⟨11, _⟩ => ⟨S128x256, .i32⟩
  | .hbm, ⟨12, _⟩ => ⟨S128x256, .i32⟩
  | .hbm, ⟨13, _⟩ => ⟨S128x256, .i32⟩
  | .hbm, ⟨14, _⟩ => ⟨S128x256x1, .i32⟩
  | .hbm, ⟨15, _⟩ => ⟨S128x256x8, .f32⟩
  | .hbm, ⟨16, _⟩ => ⟨S8x128x256, .f32⟩
  | .hbm, ⟨17, _⟩ => ⟨S32x8, .f32⟩
  | .hbm, ⟨18, _⟩ => ⟨S1x128x256, .i32⟩
  | .hbm, ⟨19, _⟩ => ⟨S128x256, .i32⟩
  | .hbm, ⟨20, _⟩ => ⟨S_, .i32⟩
  | .hbm, ⟨21, _⟩ => ⟨S128x256, .i32⟩
  | .hbm, ⟨22, _⟩ => ⟨S128x256, .i1⟩
  | .hbm, ⟨23, _⟩ => ⟨S_, .i32⟩
  | .hbm, ⟨24, _⟩ => ⟨S128x256, .i32⟩
  | .hbm, ⟨25, _⟩ => ⟨S128x256, .i32⟩
  | .hbm, ⟨26, _⟩ => ⟨S128x256, .i32⟩
  | .hbm, ⟨27, _⟩ => ⟨S128x256x1, .i32⟩
  | .hbm, ⟨28, _⟩ => ⟨S128x256x8, .f32⟩
  | .hbm, ⟨29, _⟩ => ⟨S8x128x256, .f32⟩
  | .hbm, ⟨30, _⟩ => ⟨S32x8, .f32⟩
  | .hbm, ⟨31, _⟩ => ⟨S1x128x256, .i32⟩
  | .hbm, ⟨32, _⟩ => ⟨S128x256, .i32⟩
  | .hbm, ⟨33, _⟩ => ⟨S_, .i32⟩
  | .hbm, ⟨34, _⟩ => ⟨S128x256, .i32⟩
  | .hbm, ⟨35, _⟩ => ⟨S128x256, .i1⟩
  | .hbm, ⟨36, _⟩ => ⟨S_, .i32⟩
  | .hbm, ⟨37, _⟩ => ⟨S128x256, .i32⟩
  | .hbm, ⟨38, _⟩ => ⟨S128x256, .i32⟩
  | .hbm, ⟨39, _⟩ => ⟨S128x256, .i32⟩
  | .hbm, ⟨40, _⟩ => ⟨S128x256x1, .i32⟩
  | .hbm, ⟨41, _⟩ => ⟨S128x256x8, .f32⟩
  | .hbm, ⟨42, _⟩ => ⟨S8x128x256, .f32⟩
  | .hbm, ⟨43, _⟩ => ⟨S4x2x128x256, .f32⟩
  | .hbm, ⟨44, _⟩ => ⟨S4x2x128x256, .f32⟩
  | .hbm, ⟨45, _⟩ => ⟨S4x2x128x256, .f32⟩
  | .hbm, ⟨46, _⟩ => ⟨S4x1x2x128x256, .f32⟩
  | .hbm, ⟨47, _⟩ => ⟨S4x1x2x128x256, .f32⟩
  | .hbm, ⟨48, _⟩ => ⟨S4x1x2x128x256, .f32⟩
  | .hbm, ⟨49, _⟩ => ⟨S4x3x2x128x256, .f32⟩
  | .hbm, ⟨50, _⟩ => ⟨S4x6x128x256, .f32⟩
  | .hbm, ⟨51, _⟩ => ⟨S4x3x2x128x256, .f32⟩
  | .hbm, ⟨52, _⟩ => ⟨S4x1x2x128x256, .f32⟩
  | .hbm, ⟨53, _⟩ => ⟨S4x2x128x256, .f32⟩
  | .hbm, ⟨54, _⟩ => ⟨S4x1x2x128x256, .f32⟩
  | .hbm, ⟨55, _⟩ => ⟨S4x2x128x256, .f32⟩
  | .hbm, ⟨56, _⟩ => ⟨S4x1x2x128x256, .f32⟩
  | .hbm, ⟨57, _⟩ => ⟨S4x2x128x256, .f32⟩
  | .hbm, ⟨58, _⟩ => ⟨S8x128x256, .f32⟩
  | .hbm, ⟨59, _⟩ => ⟨S8x128x256, .f32⟩
  | .hbm, ⟨60, _⟩ => ⟨S8x128x256, .f32⟩
  | .hbm, ⟨61, _⟩ => ⟨S128x256x8, .f32⟩
  | .hbm, ⟨62, _⟩ => ⟨S_, .f32⟩
  | .hbm, ⟨63, _⟩ => ⟨S32x8, .f32⟩
  | .hbm, ⟨64, _⟩ => ⟨S32x8, .f32⟩
  | .hbm, ⟨65, _⟩ => ⟨S_, .f32⟩
  | .hbm, ⟨66, _⟩ => ⟨S32x24, .f32⟩
  | .hbm, ⟨67, _⟩ => ⟨S128x256x8, .f32⟩
  | .hbm, ⟨68, _⟩ => ⟨S_, .f32⟩
  | .hbm, ⟨69, _⟩ => ⟨S32x8, .f32⟩
  | .hbm, ⟨70, _⟩ => ⟨S32x8, .f32⟩
  | .hbm, ⟨71, _⟩ => ⟨S_, .f32⟩
  | .hbm, ⟨72, _⟩ => ⟨S32x24, .f32⟩
  | .hbm, ⟨73, _⟩ => ⟨S32x24, .f32⟩
  | .hbm, ⟨74, _⟩ => ⟨S128x256x8, .f32⟩
  | .hbm, ⟨75, _⟩ => ⟨S_, .f32⟩
  | .hbm, ⟨76, _⟩ => ⟨S32x8, .f32⟩
  | .hbm, ⟨77, _⟩ => ⟨S32x8, .f32⟩
  | .hbm, ⟨78, _⟩ => ⟨S_, .f32⟩
  | .hbm, ⟨79, _⟩ => ⟨S32x24, .f32⟩
  | .hbm, ⟨80, _⟩ => ⟨S32x24, .f32⟩
  | .hbm, ⟨81, _⟩ => ⟨S24x32, .f32⟩
  | .hbm, ⟨82, _⟩ => ⟨S_, .i32⟩
  | .hbm, ⟨83, _⟩ => ⟨S_, .f32⟩
  | .hbm, ⟨84, _⟩ => ⟨S24x128, .f32⟩
  | _, _ => ⟨S4x6x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_1 : Ref sig .tc := ⟨.hbm, 20, rfl⟩
abbrev main_v15 : Ref sig .tc := ⟨.hbm, 21, rfl⟩
abbrev main_v16 : Ref sig .tc := ⟨.hbm, 22, rfl⟩
abbrev main_c_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_c_3 : Ref sig .tc := ⟨.hbm, 33, rfl⟩
abbrev main_v26 : Ref sig .tc := ⟨.hbm, 34, rfl⟩
abbrev main_v27 : Ref sig .tc := ⟨.hbm, 35, rfl⟩
abbrev main_c_4 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_cst_5 : Ref sig .tc := ⟨.hbm, 62, rfl⟩
abbrev main_v53 : Ref sig .tc := ⟨.hbm, 63, rfl⟩
abbrev main_v54 : Ref sig .tc := ⟨.hbm, 64, rfl⟩
abbrev main_cst_6 : Ref sig .tc := ⟨.hbm, 65, rfl⟩
abbrev main_v55 : Ref sig .tc := ⟨.hbm, 66, rfl⟩
abbrev main_v56 : Ref sig .tc := ⟨.hbm, 67, rfl⟩
abbrev main_cst_7 : Ref sig .tc := ⟨.hbm, 68, rfl⟩
abbrev main_v57 : Ref sig .tc := ⟨.hbm, 69, rfl⟩
abbrev main_v58 : Ref sig .tc := ⟨.hbm, 70, rfl⟩
abbrev main_cst_8 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_9 : Ref sig .tc := ⟨.hbm, 75, rfl⟩
abbrev main_v62 : Ref sig .tc := ⟨.hbm, 76, rfl⟩
abbrev main_v63 : Ref sig .tc := ⟨.hbm, 77, rfl⟩
abbrev main_cst_10 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_c_11 : Ref sig .tc := ⟨.hbm, 82, rfl⟩
abbrev main_call0_v0 : Ref sig .tc := ⟨.hbm, 83, rfl⟩
abbrev main_v67 : Ref sig .tc := ⟨.hbm, 84, rfl⟩

abbrev nD : Nat := 1
abbrev τ : Topo := Topo.v7x

variable {F : FTy → Type} [FloatOps F]
-- ==== Kernel5.lean ====
abbrev S4x2048x1664 : Shape := ⟨3, ![4, 2048, 1664]⟩
abbrev S4x2048x512 : Shape := ⟨3, ![4, 2048, 512]⟩
abbrev S1x1664 : Shape := ⟨2, ![1, 1664]⟩
abbrev S1x512 : Shape := ⟨2, ![1, 512]⟩
abbrev S64x512 : Shape := ⟨2, ![64, 512]⟩
abbrev S1x512x1664 : Shape := ⟨3, ![1, 512, 1664]⟩
abbrev S1x8x1664 : Shape := ⟨3, ![1, 8, 1664]⟩
abbrev S1x512x512 : Shape := ⟨3, ![1, 512, 512]⟩
abbrev S512x1664 : Shape := ⟨2, ![512, 1664]⟩
abbrev S512x1 : Shape := ⟨2, ![512, 1]⟩
abbrev S1x1x1664 : Shape := ⟨3, ![1, 1, 1664]⟩
abbrev S512x512 : Shape := ⟨2, ![512, 512]⟩
abbrev S512x64 : Shape := ⟨2, ![512, 64]⟩
abbrev S512 : Shape := ⟨1, ![512]⟩
abbrev S1x512x64 : Shape := ⟨3, ![1, 512, 64]⟩
abbrev S1664 : Shape := ⟨1, ![1664]⟩

abbrev nBuf : Space → Nat
  | .hbm => 22
  | .vmem => 32
  | .smem => 0
  | _ => 0

abbrev bufTy : (tb : Table) → Fin (tcTables nBuf tb) → BufTy
  | .hbm, ⟨0, _⟩ => ⟨S4x2048x1664, .f32⟩
  | .hbm, ⟨1, _⟩ => ⟨S4x2048x512, .f32⟩
  | .hbm, ⟨2, _⟩ => ⟨S4x2048x512, .f32⟩
  | .hbm, ⟨3, _⟩ => ⟨S4x2048x512, .f32⟩
  | .hbm, ⟨4, _⟩ => ⟨S4x2048x512, .f32⟩
  | .hbm, ⟨5, _⟩ => ⟨S4x2048x512, .f32⟩
  | .hbm, ⟨6, _⟩ => ⟨S4x2048x512, .f32⟩
  | .hbm, ⟨7, _⟩ => ⟨S1x1664, .f32⟩
  | .hbm, ⟨8, _⟩ => ⟨S1x512, .f32⟩
  | .hbm, ⟨9, _⟩ => ⟨S64x512, .bf16⟩
  | .hbm, ⟨10, _⟩ => ⟨S1x512, .f32⟩
  | .hbm, ⟨11, _⟩ => ⟨S64x512, .bf16⟩
  | .hbm, ⟨12, _⟩ => ⟨S1x512, .f32⟩
  | .hbm, ⟨13, _⟩ => ⟨S1x512, .f32⟩
  | .hbm, ⟨14, _⟩ => ⟨S4x2048x1664, .f32⟩
  | .hbm, ⟨15, _⟩ => ⟨S1x1664, .f32⟩
  | .hbm, ⟨16, _⟩ => ⟨S1x512, .f32⟩
  | .hbm, ⟨17, _⟩ => ⟨S64x512, .f32⟩
  | .hbm, ⟨18, _⟩ => ⟨S1x512, .f32⟩
  | .hbm, ⟨19, _⟩ => ⟨S64x512, .f32⟩
  | .hbm, ⟨20, _⟩ => ⟨S1x512, .f32⟩
  | .hbm, ⟨21, _⟩ => ⟨S1x512, .f32⟩
  | .local _ .vmem, ⟨0, _⟩ => ⟨S1x512x1664, .f32⟩
  | .local _ .vmem, ⟨1, _⟩ => ⟨S1x512x1664, .f32⟩
  | .local _ .vmem, ⟨2, _⟩ => ⟨S1x8x1664, .f32⟩
  | .local _ .vmem, ⟨3, _⟩ => ⟨S1x8x1664, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1x1664, .f32⟩
  | .local _ .vmem, ⟨17, _⟩ => ⟨S1x512, .f32⟩
  | .local _ .vmem, ⟨18, _⟩ => ⟨S64x512, .bf16⟩
  | .local _ .vmem, ⟨19, _⟩ => ⟨S1x512, .f32⟩
  | .local _ .vmem, ⟨20, _⟩ => ⟨S64x512, .bf16⟩
  | .local _ .vmem, ⟨21, _⟩ => ⟨S1x512, .f32⟩
  | .local _ .vmem, ⟨22, _⟩ => ⟨S1x512, .f32⟩
  | .local _ .vmem, ⟨23, _⟩ => ⟨S1x512x1664, .f32⟩
  | .local _ .vmem, ⟨24, _⟩ => ⟨S1x512x1664, .f32⟩
  | .local _ .vmem, ⟨25, _⟩ => ⟨S1x1664, .f32⟩
  | .local _ .vmem, ⟨26, _⟩ => ⟨S1x512, .f32⟩
  | .local _ .vmem, ⟨27, _⟩ => ⟨S64x512, .f32⟩
  | .local _ .vmem, ⟨28, _⟩ => ⟨S1x512, .f32⟩
  | .local _ .vmem, ⟨29, _⟩ => ⟨S64x512, .f32⟩
  | .local _ .vmem, ⟨30, _⟩ => ⟨S1x512, .f32⟩
  | .local _ .vmem, ⟨31, _⟩ => ⟨S1x512, .f32⟩
  | _, _ => ⟨S4x2048x1664, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev main_v0_2 : Ref sig .tc := ⟨.hbm, 16, rfl⟩
abbrev main_v0_3 : Ref sig .tc := ⟨.hbm, 17, rfl⟩
abbrev main_v0_4 : Ref sig .tc := ⟨.hbm, 18, rfl⟩
abbrev main_v0_5 : Ref sig .tc := ⟨.hbm, 19, rfl⟩
abbrev main_v0_6 : Ref sig .tc := ⟨.hbm, 20, rfl⟩
abbrev main_v0_7 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg20_0 : Ref sig .tc := ⟨.vmem, 29, rfl⟩
abbrev cc0_stg21_0 : Ref sig .tc := ⟨.vmem, 30, rfl⟩
abbrev cc0_stg22_0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem15_1 : DmaSem sig := 24
abbrev cc0_sem16_0 : DmaSem sig := 25
abbrev cc0_sem17_0 : DmaSem sig := 26
abbrev cc0_sem18_0 : DmaSem sig := 27
abbrev cc0_sem19_0 : DmaSem sig := 28
abbrev cc0_sem20_0 : DmaSem sig := 29
abbrev cc0_sem21_0 : DmaSem sig := 30
abbrev cc0_sem22_0 : DmaSem sig := 31

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32_88 : BitVec 32 := 0#32
  let v170 : BitVec 1 := Scalar.cmpi .eq arg0 c0_i32_88
  let arg1 : BitVec 32 := BitVec.ofNat 32 (i 1).val
  let c0_i32_89 : BitVec 32 := 0#32
  let v171 : BitVec 1 := Scalar.cmpi .eq arg1 c0_i32_89
  let v172 : BitVec 1 := Scalar.andi v170 v171
  let v173 : BitVec 32 := Scalar.extui v172
  let c0_i32_90 : BitVec 32 := 0#32
  let v174 : BitVec 1 := Scalar.cmpi .ne v173 c0_i32_90
  v174

def k0_cond2 (i : grid0.Coords) : BitVec 1 :=
  let arg0 : BitVec 32 := BitVec.ofNat 32 (i 0).val
  let c0_i32_88 : BitVec 32 := 0#32
  let v170 : BitVec 1 := Scalar.cmpi .eq arg0 c0_i32_88
  let arg1 : BitVec 32 := BitVec.ofNat 32 (i 1).val
  let c0_i32_89 : BitVec 32 := 0#32
  let v171 : BitVec 1 := Scalar.cmpi .eq arg1 c0_i32_89
  let v172 : BitVec 1 := Scalar.andi v170 v171
  let v_true : BitVec 1 := 1#1
  let v175 : BitVec 1 := Scalar.xori v172 v_true
  let v176 : BitVec 32 := Scalar.extui v175
  let c0_i32_91 : BitVec 32 := 0#32
  let v177 : BitVec 1 := Scalar.cmpi .ne v176 c0_i32_91
  v177

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1664 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1664 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1664 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S64x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S64x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x512x1664 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 1 → Memref sig .tc .vmem S1x1664 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S64x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S64x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S1x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S1x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]
-- ==== Reference5Ideal.lean ====
abbrev S4x2048x1664 : Shape := ⟨3, ![4, 2048, 1664]⟩
abbrev S4x2048x512 : Shape := ⟨3, ![4, 2048, 512]⟩
abbrev S1x1664 : Shape := ⟨2, ![1, 1664]⟩
abbrev S1x512 : Shape := ⟨2, ![1, 512]⟩
abbrev S64x512 : Shape := ⟨2, ![64, 512]⟩
abbrev S4x1x1664 : Shape := ⟨3, ![4, 1, 1664]⟩
abbrev S_ : Shape := ⟨0, ![]⟩
abbrev S4x2047x1664 : Shape := ⟨3, ![4, 2047, 1664]⟩
abbrev S1664 : Shape := ⟨1, ![1664]⟩
abbrev S1x1x1664 : Shape := ⟨3, ![1, 1, 1664]⟩
abbrev S4x2048x64 : Shape := ⟨3, ![4, 2048, 64]⟩
abbrev S512 : Shape := ⟨1, ![512]⟩
abbrev S1x1x512 : Shape := ⟨3, ![1, 1, 512]⟩
abbrev S512x64 : Shape := ⟨2, ![512, 64]⟩

abbrev nBuf : Space → Nat
  | .hbm => 198
  | .vmem => 0
  | .smem => 0
  | _ => 0

abbrev hbmTy0_0 (i : Nat) : BufTy := match i % 128 with
  | 0 => ⟨S4x2048x1664, .f32⟩
  | 1 => ⟨S4x2048x512, .f32⟩
  | 2 => ⟨S4x2048x512, .f32⟩
  | 3 => ⟨S4x2048x512, .f32⟩
  | 4 => ⟨S4x2048x512, .f32⟩
  | 5 => ⟨S4x2048x512, .f32⟩
  | 6 => ⟨S4x2048x512, .f32⟩
  | 7 => ⟨S1x1664, .f32⟩
  | 8 => ⟨S1x512, .f32⟩
  | 9 => ⟨S64x512, .bf16⟩
  | 10 => ⟨S1x512, .f32⟩
  | 11 => ⟨S64x512, .bf16⟩
  | 12 => ⟨S1x512, .f32⟩
  | 13 => ⟨S1x512, .f32⟩
  | 14 => ⟨S4x1x1664, .f32⟩
  | 15 => ⟨S_, .f32⟩
  | 16 => ⟨S4x1x1664, .f32⟩
  | 17 => ⟨S4x2047x1664, .f32⟩
  | 18 => ⟨S4x2048x1664, .f32⟩
  | 19 => ⟨S4x2048x1664, .f32⟩
  | 20 => ⟨S1664, .f32⟩
  | 21 => ⟨S1x1x1664, .f32⟩
  | 22 => ⟨S4x2048x1664, .f32⟩
  | 23 => ⟨S4x2048x1664, .f32⟩
  | 24 => ⟨S4x2048x1664, .f32⟩
  | 25 => ⟨S64x512, .f32⟩
  | 26 => ⟨S64x512, .f32⟩
  | 27 => ⟨S4x2048x512, .f32⟩
  | 28 => ⟨S4x2048x512, .f32⟩
  | 29 => ⟨S4x2048x512, .f32⟩
  | 30 => ⟨S4x2048x64, .f32⟩
  | 31 => ⟨S4x2048x64, .f32⟩
  | 32 => ⟨S512, .f32⟩
  | 33 => ⟨S4x2048x64, .f32⟩
  | 34 => ⟨S_, .f32⟩
  | 35 => ⟨S4x2048x64, .f32⟩
  | 36 => ⟨S4x2048x64, .f32⟩
  | 37 => ⟨S_, .f32⟩
  | 38 => ⟨S4x2048x64, .f32⟩
  | 39 => ⟨S4x2048x64, .f32⟩
  | 40 => ⟨S4x2048x64, .f32⟩
  | 41 => ⟨S4x2048x512, .f32⟩
  | 42 => ⟨S1x1x512, .f32⟩
  | 43 => ⟨S4x2048x512, .f32⟩
  | 44 => ⟨S4x2048x512, .f32⟩
  | 45 => ⟨S4x2048x512, .f32⟩
  | 46 => ⟨S_, .f32⟩
  | 47 => ⟨S4x2048x512, .f32⟩
  | 48 => ⟨S4x2048x512, .f32⟩
  | 49 => ⟨S4x2048x512, .f32⟩
  | 50 => ⟨S4x2048x512, .f32⟩
  | 51 => ⟨S4x2048x512, .i1⟩
  | 52 => ⟨S4x2048x512, .f32⟩
  | 53 => ⟨S4x2048x512, .f32⟩
  | 54 => ⟨S4x2048x512, .f32⟩
  | 55 => ⟨S4x2048x512, .f32⟩
  | 56 => ⟨S4x2048x512, .f32⟩
  | 57 => ⟨S4x2048x512, .f32⟩
  | 58 => ⟨S4x2048x512, .f32⟩
  | 59 => ⟨S4x2048x512, .f32⟩
  | 60 => ⟨S_, .f32⟩
  | 61 => ⟨S4x2048x512, .f32⟩
  | 62 => ⟨S4x2048x512, .i1⟩
  | 63 => ⟨S_, .f32⟩
  | 64 => ⟨S4x2048x512, .f32⟩
  | 65 => ⟨S4x2048x512, .f32⟩
  | 66 => ⟨S_, .f32⟩
  | 67 => ⟨S4x2048x512, .f32⟩
  | 68 => ⟨S4x2048x512, .i1⟩
  | 69 => ⟨S_, .f32⟩
  | 70 => ⟨S4x2048x512, .f32⟩
  | 71 => ⟨S4x2048x512, .f32⟩
  | 72 => ⟨S4x2048x512, .f32⟩
  | 73 => ⟨S4x2048x512, .f32⟩
  | 74 => ⟨S_, .f32⟩
  | 75 => ⟨S_, .f32⟩
  | 76 => ⟨S_, .i1⟩
  | 77 => ⟨S_, .f32⟩
  | 78 => ⟨S_, .f32⟩
  | 79 => ⟨S_, .f32⟩
  | 80 => ⟨S_, .f32⟩
  | 81 => ⟨S4x2048x512, .f32⟩
  | 82 => ⟨S4x2048x512, .i1⟩
  | 83 => ⟨S_, .f32⟩
  | 84 => ⟨S4x2048x512, .f32⟩
  | 85 => ⟨S4x2048x512, .f32⟩
  | 86 => ⟨S4x2048x512, .f32⟩
  | 87 => ⟨S4x2048x512, .f32⟩
  | 88 => ⟨S4x2048x512, .f32⟩
  | 89 => ⟨S_, .f32⟩
  | 90 => ⟨S4x2048x512, .f32⟩
  | 91 => ⟨S4x2048x512, .f32⟩
  | 92 => ⟨S4x2048x512, .f32⟩
  | 93 => ⟨S_, .f32⟩
  | 94 => ⟨S4x2048x512, .f32⟩
  | 95 => ⟨S4x2048x512, .f32⟩
  | 96 => ⟨S4x2048x512, .f32⟩
  | 97 => ⟨S4x2048x512, .f32⟩
  | 98 => ⟨S512, .f32⟩
  | 99 => ⟨S4x2048x512, .f32⟩
  | 100 => ⟨S1x1x512, .f32⟩
  | 101 => ⟨S4x2048x512, .f32⟩
  | 102 => ⟨S4x2048x512, .f32⟩
  | 103 => ⟨S4x2048x512, .f32⟩
  | 104 => ⟨S4x2048x512, .f32⟩
  | 105 => ⟨S_, .f32⟩
  | 106 => ⟨S4x2048x512, .f32⟩
  | 107 => ⟨S4x2048x512, .f32⟩
  | 108 => ⟨S_, .f32⟩
  | 109 => ⟨S4x2048x512, .f32⟩
  | 110 => ⟨S4x2048x512, .f32⟩
  | 111 => ⟨S_, .f32⟩
  | 112 => ⟨S4x2048x512, .f32⟩
  | 113 => ⟨S4x2048x512, .f32⟩
  | 114 => ⟨S4x2048x512, .f32⟩
  | 115 => ⟨S512, .f32⟩
  | 116 => ⟨S1x1x512, .f32⟩
  | 117 => ⟨S4x2048x512, .f32⟩
  | 118 => ⟨S4x2048x512, .f32⟩
  | 119 => ⟨S_, .f32⟩
  | 120 => ⟨S4x2048x512, .f32⟩
  | 121 => ⟨S4x2048x512, .f32⟩
  | 122 => ⟨S512, .f32⟩
  | 123 => ⟨S1x1x512, .f32⟩
  | 124 => ⟨S4x2048x512, .f32⟩
  | 125 => ⟨S4x2048x512, .f32⟩
  | 126 => ⟨S_, .f32⟩
  | 127 => ⟨S4x2048x512, .f32⟩
  | _ => ⟨S4x2048x1664, .f32⟩

abbrev hbmTy0_1 (i : Nat) : BufTy := match i % 128 with
  | 0 => ⟨S4x2048x512, .f32⟩
  | 1 => ⟨S4x2048x512, .f32⟩
  | 2 => ⟨S4x2048x512, .f32⟩
  | 3 => ⟨S4x2048x512, .f32⟩
  | 4 => ⟨S4x2048x512, .f32⟩
  | 5 => ⟨S_, .f32⟩
  | 6 => ⟨S512, .f32⟩
  | 7 => ⟨S1x1x512, .f32⟩
  | 8 => ⟨S4x2048x512, .f32⟩
  | 9 => ⟨S4x2048x512, .f32⟩
  | 10 => ⟨S4x2048x512, .f32⟩
  | 11 => ⟨S_, .f32⟩
  | 12 => ⟨S512, .f32⟩
  | 13 => ⟨S1x512, .f32⟩
  | 14 => ⟨S4x2048x512, .f32⟩
  | 15 => ⟨S_, .f32⟩
  | 16 => ⟨S512, .f32⟩
  | 17 => ⟨S1x1x512, .f32⟩
  | 18 => ⟨S4x2048x512, .f32⟩
  | 19 => ⟨S4x2048x512, .f32⟩
  | 20 => ⟨S4x2048x512, .f32⟩
  | 21 => ⟨S_, .f32⟩
  | 22 => ⟨S512, .f32⟩
  | 23 => ⟨S1x512, .f32⟩
  | 24 => ⟨S4x2048x512, .f32⟩
  | 25 => ⟨S_, .f32⟩
  | 26 => ⟨S512, .f32⟩
  | 27 => ⟨S1x1x512, .f32⟩
  | 28 => ⟨S_, .f32⟩
  | 29 => ⟨S512, .f32⟩
  | 30 => ⟨S512x64, .f32⟩
  | 31 => ⟨S64x512, .f32⟩
  | 32 => ⟨S4x2048x64, .f32⟩
  | 33 => ⟨S1x512, .f32⟩
  | 34 => ⟨S4x2048x512, .f32⟩
  | 35 => ⟨S4x2048x512, .f32⟩
  | 36 => ⟨S4x2048x512, .f32⟩
  | 37 => ⟨S4x2048x512, .f32⟩
  | 38 => ⟨S4x2048x512, .f32⟩
  | 39 => ⟨S_, .f32⟩
  | 40 => ⟨S512, .f32⟩
  | 41 => ⟨S1x1x512, .f32⟩
  | 42 => ⟨S_, .f32⟩
  | 43 => ⟨S512, .f32⟩
  | 44 => ⟨S512x64, .f32⟩
  | 45 => ⟨S64x512, .f32⟩
  | 46 => ⟨S4x2048x64, .f32⟩
  | 47 => ⟨S4x2048x64, .f32⟩
  | 48 => ⟨S1x512, .f32⟩
  | 49 => ⟨S_, .f32⟩
  | 50 => ⟨S4x2048x1664, .f32⟩
  | 51 => ⟨S_, .f32⟩
  | 52 => ⟨S4x2048x1664, .f32⟩
  | 53 => ⟨S4x2048x1664, .f32⟩
  | 54 => ⟨S_, .f32⟩
  | 55 => ⟨S4x2048x1664, .f32⟩
  | 56 => ⟨S4x2048x1664, .f32⟩
  | 57 => ⟨S_, .f32⟩
  | 58 => ⟨S4x2048x1664, .f32⟩
  | 59 => ⟨S4x2048x1664, .f32⟩
  | 60 => ⟨S_, .f32⟩
  | 61 => ⟨S4x2048x1664, .f32⟩
  | 62 => ⟨S4x2048x1664, .f32⟩
  | 63 => ⟨S4x2048x1664, .f32⟩
  | 64 => ⟨S_, .f32⟩
  | 65 => ⟨S1664, .f32⟩
  | 66 => ⟨S1x1x1664, .f32⟩
  | 67 => ⟨S_, .f32⟩
  | 68 => ⟨S1664, .f32⟩
  | 69 => ⟨S1x1664, .f32⟩
  | _ => ⟨S4x2048x1664, .f32⟩

abbrev hbmTy (i : Nat) : BufTy := match i / 128 with
  | 0 => hbmTy0_0 i
  | 1 => hbmTy0_1 i
  | _ => ⟨S4x2048x1664, .f32⟩

abbrev bufTy : (tb : Table) → Fin (tcTables nBuf tb) → BufTy
  | .hbm, ⟨i, _⟩ => hbmTy i
  | _, _ => ⟨S4x2048x1664, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_0 : Ref sig .tc := ⟨.hbm, 34, rfl⟩
abbrev main_v19 : Ref sig .tc := ⟨.hbm, 35, rfl⟩
abbrev main_v20 : Ref sig .tc := ⟨.hbm, 36, rfl⟩
abbrev main_cst_1 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_v6 : Ref sig .tc := ⟨.hbm, 53, rfl⟩
abbrev main_call0_v7 : Ref sig .tc := ⟨.hbm, 54, rfl⟩
abbrev main_call0_v8 : Ref sig .tc := ⟨.hbm, 55, rfl⟩
abbrev main_call0_v9 : Ref sig .tc := ⟨.hbm, 56, rfl⟩
abbrev main_call0_v10 : Ref sig .tc := ⟨.hbm, 57, rfl⟩
abbrev main_call0_v11 : Ref sig .tc := ⟨.hbm, 58, rfl⟩
abbrev main_v29_0 : Ref sig .tc := ⟨.hbm, 59, rfl⟩
abbrev main_call0_cst_0 : Ref sig .tc := ⟨.hbm, 60, rfl⟩
abbrev main_call0_v13 : Ref sig .tc := ⟨.hbm, 61, rfl⟩
abbrev main_call0_v14 : Ref sig .tc := ⟨.hbm, 62, rfl⟩
abbrev main_call0_cst_1 : Ref sig .tc := ⟨.hbm, 63, rfl⟩
abbrev main_call0_v15 : Ref sig .tc := ⟨.hbm, 64, rfl⟩
abbrev main_call0_v16 : Ref sig .tc := ⟨.hbm, 65, rfl⟩
abbrev main_call0_cst_2 : Ref sig .tc := ⟨.hbm, 66, rfl⟩
abbrev main_call0_v17 : Ref sig .tc := ⟨.hbm, 67, rfl⟩
abbrev main_call0_v18 : Ref sig .tc := ⟨.hbm, 68, rfl⟩
abbrev main_call0_cst_3 : Ref sig .tc := ⟨.hbm, 69, rfl⟩
abbrev main_call0_v19 : Ref sig .tc := ⟨.hbm, 70, rfl⟩
abbrev main_call0_v20 : Ref sig .tc := ⟨.hbm, 71, rfl⟩
abbrev main_call0_v21 : Ref sig .tc := ⟨.hbm, 72, rfl⟩
abbrev main_v29_1 : Ref sig .tc := ⟨.hbm, 73, rfl⟩
abbrev main_call0_cst_4 : Ref sig .tc := ⟨.hbm, 74, rfl⟩
abbrev main_call0_cst_5 : Ref sig .tc := ⟨.hbm, 75, rfl⟩
abbrev main_call0_v23 : Ref sig .tc := ⟨.hbm, 76, rfl⟩
abbrev main_call0_cst_6 : Ref sig .tc := ⟨.hbm, 77, rfl⟩
abbrev main_call0_cst_7 : Ref sig .tc := ⟨.hbm, 78, rfl⟩
abbrev main_call0_v24 : Ref sig .tc := ⟨.hbm, 79, rfl⟩
abbrev main_call0_cst_8 : Ref sig .tc := ⟨.hbm, 80, rfl⟩
abbrev main_call0_v25 : Ref sig .tc := ⟨.hbm, 81, rfl⟩
abbrev main_call0_v26 : Ref sig .tc := ⟨.hbm, 82, rfl⟩
abbrev main_call0_cst_9 : Ref sig .tc := ⟨.hbm, 83, rfl⟩
abbrev main_call0_v27 : Ref sig .tc := ⟨.hbm, 84, rfl⟩
abbrev main_call0_v28 : Ref sig .tc := ⟨.hbm, 85, rfl⟩
abbrev main_call0_v29 : Ref sig .tc := ⟨.hbm, 86, rfl⟩
abbrev main_call0_v30 : Ref sig .tc := ⟨.hbm, 87, rfl⟩
abbrev main_call0_v31 : Ref sig .tc := ⟨.hbm, 88, rfl⟩
abbrev main_call0_cst_10 : Ref sig .tc := ⟨.hbm, 89, rfl⟩
abbrev main_call0_v32 : Ref sig .tc := ⟨.hbm, 90, rfl⟩
abbrev main_v29_2 : Ref sig .tc := ⟨.hbm, 91, rfl⟩
abbrev main_v30 : Ref sig .tc := ⟨.hbm, 92, rfl⟩
abbrev main_cst_2 : Ref sig .tc := ⟨.hbm, 93, rfl⟩
abbrev main_v31 : Ref sig .tc := ⟨.hbm, 94, rfl⟩
abbrev main_v32 : Ref sig .tc := ⟨.hbm, 95, rfl⟩
abbrev main_v33 : Ref sig .tc := ⟨.hbm, 96, rfl⟩
abbrev main_v34 : Ref sig .tc := ⟨.hbm, 97, rfl⟩
abbrev main_v35 : Ref sig .tc := ⟨.hbm, 98, rfl⟩
abbrev main_v36 : Ref sig .tc := ⟨.hbm, 99, rfl⟩
abbrev main_v37 : Ref sig .tc := ⟨.hbm, 100, rfl⟩
abbrev main_v38 : Ref sig .tc := ⟨.hbm, 101, rfl⟩
abbrev main_v39 : Ref sig .tc := ⟨.hbm, 102, rfl⟩
abbrev main_v40 : Ref sig .tc := ⟨.hbm, 103, rfl⟩
abbrev main_v41 : Ref sig .tc := ⟨.hbm, 104, rfl⟩
abbrev main_cst_3 : Ref sig .tc := ⟨.hbm, 105, rfl⟩
abbrev main_v42 : Ref sig .tc := ⟨.hbm, 106, rfl⟩
abbrev main_v43 : Ref sig .tc := ⟨.hbm, 107, rfl⟩
abbrev main_cst_4 : Ref sig .tc := ⟨.hbm, 108, rfl⟩
abbrev main_v44 : Ref sig .tc := ⟨.hbm, 109, rfl⟩
abbrev main_v45 : Ref sig .tc := ⟨.hbm, 110, rfl⟩
abbrev main_cst_5 : Ref sig .tc := ⟨.hbm, 111, rfl⟩
abbrev main_v46 : Ref sig .tc := ⟨.hbm, 112, rfl⟩
abbrev main_v47 : Ref sig .tc := ⟨.hbm, 113, rfl⟩
abbrev main_v48 : Ref sig .tc := ⟨.hbm, 114, rfl⟩
abbrev main_v49 : Ref sig .tc := ⟨.hbm, 115, rfl⟩
abbrev main_v50 : Ref sig .tc := ⟨.hbm, 116, rfl⟩
abbrev main_v51 : Ref sig .tc := ⟨.hbm, 117, rfl⟩
abbrev main_v52 : Ref sig .tc := ⟨.hbm, 118, rfl⟩
abbrev main_cst_6 : Ref sig .tc := ⟨.hbm, 119, rfl⟩
abbrev main_v53 : Ref sig .tc := ⟨.hbm, 120, rfl⟩
abbrev main_v54 : Ref sig .tc := ⟨.hbm, 121, rfl⟩
abbrev main_v55 : Ref sig .tc := ⟨.hbm, 122, rfl⟩
abbrev main_v56 : Ref sig .tc := ⟨.hbm, 123, rfl⟩
abbrev main_v57 : Ref sig .tc := ⟨.hbm, 124, rfl⟩
abbrev main_v58 : Ref sig .tc := ⟨.hbm, 125, rfl⟩
abbrev main_cst_7 : Ref sig .tc := ⟨.hbm, 126, rfl⟩
abbrev main_v59 : Ref sig .tc := ⟨.hbm, 127, rfl⟩
abbrev main_v60 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_v64 : Ref sig .tc := ⟨.hbm, 132, rfl⟩
abbrev main_cst_8 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩
abbrev main_v69 : Ref sig .tc := ⟨.hbm, 138, rfl⟩
abbrev main_cst_9 : Ref sig .tc := ⟨.hbm, 139, rfl⟩
abbrev main_v70 : Ref sig .tc := ⟨.hbm, 140, rfl⟩
abbrev main_v71 : Ref sig .tc := ⟨.hbm, 141, rfl⟩
abbrev main_v72 : Ref sig .tc := ⟨.hbm, 142, rfl⟩
abbrev main_cst_10 : Ref sig .tc := ⟨.hbm, 143, rfl⟩
abbrev main_v73 : Ref sig .tc := ⟨.hbm, 144, rfl⟩
abbrev main_v74 : Ref sig .tc := ⟨.hbm, 145, rfl⟩
abbrev main_v75 : Ref sig .tc := ⟨.hbm, 146, rfl⟩
abbrev main_v76 : Ref sig .tc := ⟨.hbm, 147, rfl⟩
abbrev main_v77 : Ref sig .tc := ⟨.hbm, 148, rfl⟩
abbrev main_cst_11 : Ref sig .tc := ⟨.hbm, 149, rfl⟩
abbrev main_v78 : Ref sig .tc := ⟨.hbm, 150, rfl⟩
abbrev main_v79 : Ref sig .tc := ⟨.hbm, 151, rfl⟩
abbrev main_v80 : Ref sig .tc := ⟨.hbm, 152, rfl⟩
abbrev main_cst_12 : Ref sig .tc := ⟨.hbm, 153, rfl⟩
abbrev main_v81 : Ref sig .tc := ⟨.hbm, 154, rfl⟩
abbrev main_v82 : Ref sig .tc := ⟨.hbm, 155, rfl⟩
abbrev main_cst_13 : Ref sig .tc := ⟨.hbm, 156, rfl⟩
abbrev main_v83 : Ref sig .tc := ⟨.hbm, 157, rfl⟩
abbrev main_v84 : Ref sig .tc := ⟨.hbm, 158, rfl⟩
abbrev main_v85 : Ref sig .tc := ⟨.hbm, 159, rfl⟩
abbrev main_v86 : Ref sig .tc := ⟨.hbm, 160, rfl⟩
abbrev main_v87 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_v91 : Ref sig .tc := ⟨.hbm, 165, rfl⟩
abbrev main_v92 : Ref sig .tc := ⟨.hbm, 166, rfl⟩
abbrev main_cst_14 : Ref sig .tc := ⟨.hbm, 167, rfl⟩
abbrev main_v93 : Ref sig .tc := ⟨.hbm, 168, rfl⟩
abbrev main_v94 : Ref sig .tc := ⟨.hbm, 169, rfl⟩
abbrev main_cst_15 : Ref sig .tc := ⟨.hbm, 170, rfl⟩
abbrev main_v95 : Ref sig .tc := ⟨.hbm, 171, rfl⟩
abbrev main_v96 : Ref sig .tc := ⟨.hbm, 172, rfl⟩
abbrev main_v97 : Ref sig .tc := ⟨.hbm, 173, rfl⟩
abbrev main_v98 : Ref sig .tc := ⟨.hbm, 174, rfl⟩
abbrev main_v99 : Ref sig .tc := ⟨.hbm, 175, rfl⟩
abbrev main_v100 : Ref sig .tc := ⟨.hbm, 176, rfl⟩
abbrev main_cst_16 : Ref sig .tc := ⟨.hbm, 177, rfl⟩
abbrev main_v101 : Ref sig .tc := ⟨.hbm, 178, rfl⟩
abbrev main_cst_17 : Ref sig .tc := ⟨.hbm, 179, rfl⟩
abbrev main_v102 : Ref sig .tc := ⟨.hbm, 180, rfl⟩
abbrev main_v103 : Ref sig .tc := ⟨.hbm, 181, rfl⟩
abbrev main_cst_18 : Ref sig .tc := ⟨.hbm, 182, rfl⟩
abbrev main_v104 : Ref sig .tc := ⟨.hbm, 183, rfl⟩
abbrev main_v105 : Ref sig .tc := ⟨.hbm, 184, rfl⟩
abbrev main_cst_19 : Ref sig .tc := ⟨.hbm, 185, rfl⟩
abbrev main_v106 : Ref sig .tc := ⟨.hbm, 186, rfl⟩
abbrev main_v107 : Ref sig .tc := ⟨.hbm, 187, rfl⟩
abbrev main_cst_20 : Ref sig .tc := ⟨.hbm, 188, rfl⟩
abbrev main_v108 : Ref sig .tc := ⟨.hbm, 189, rfl⟩
abbrev main_v109 : Ref sig .tc := ⟨.hbm, 190, rfl⟩
abbrev main_v110 : Ref sig .tc := ⟨.hbm, 191, rfl⟩
abbrev main_cst_21 : Ref sig .tc := ⟨.hbm, 192, rfl⟩
abbrev main_v111 : Ref sig .tc := ⟨.hbm, 193, rfl⟩
abbrev main_v112 : Ref sig .tc := ⟨.hbm, 194, rfl⟩
abbrev main_cst_22 : Ref sig .tc := ⟨.hbm, 195, rfl⟩
abbrev main_v113 : Ref sig .tc := ⟨.hbm, 196, rfl⟩
abbrev main_v114 : Ref sig .tc := ⟨.hbm, 197, rfl⟩

abbrev nD : Nat := 1
abbrev τ : Topo := Topo.v7x

variable {F : FTy → Type} [FloatOps F]
-- ==== Kernel6.lean ====
abbrev S8192x1024 : Shape := ⟨2, ![8192, 1024]⟩
abbrev S1x1024 : Shape := ⟨2, ![1, 1024]⟩
abbrev S8192x1 : Shape := ⟨2, ![8192, 1]⟩
abbrev S1024x1024 : Shape := ⟨2, ![1024, 1024]⟩
abbrev S1024x1 : Shape := ⟨2, ![1024, 1]⟩
abbrev S1024 : Shape := ⟨1, ![1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .hbm, ⟨3, _⟩ => ⟨S8192x1, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1, .f32⟩
  | .local _ .vmem, ⟨6, _⟩ => ⟨S1024x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel7.lean ====
abbrev S4x2048x1664 : Shape := ⟨3, ![4, 2048, 1664]⟩
abbrev S1x1664 : Shape := ⟨2, ![1, 1664]⟩
abbrev S1x512 : Shape := ⟨2, ![1, 512]⟩
abbrev S64x512 : Shape := ⟨2, ![64, 512]⟩
abbrev S4x2048x512 : Shape := ⟨3, ![4, 2048, 512]⟩
abbrev S1x512x1664 : Shape := ⟨3, ![1, 512, 1664]⟩
abbrev S1x8x1664 : Shape := ⟨3, ![1, 8, 1664]⟩
abbrev S1x512x512 : Shape := ⟨3, ![1, 512, 512]⟩
abbrev S512x1664 : Shape := ⟨2, ![512, 1664]⟩
abbrev S512x1 : Shape := ⟨2, ![512, 1]⟩
abbrev S1x1x1664 : Shape := ⟨3, ![1, 1, 1664]⟩
abbrev S512x512 : Shape := ⟨2, ![512, 512]⟩
abbrev S512x64 : Shape := ⟨2, ![512, 64]⟩

abbrev nBuf : Space → Nat
  | .hbm => 14
  | .vmem => 23
  | .smem => 0
  | _ => 0

abbrev bufTy : (tb : Table) → Fin (tcTables nBuf tb) → BufTy
  | .hbm, ⟨0, _⟩ => ⟨S4x2048x1664, .f32⟩
  | .hbm, ⟨1, _⟩ => ⟨S1x1664, .f32⟩
  | .hbm, ⟨2, _⟩ => ⟨S1x512, .f32⟩
  | .hbm, ⟨3, _⟩ => ⟨S64x512, .bf16⟩
  | .hbm, ⟨4, _⟩ => ⟨S1x512, .f32⟩
  | .hbm, ⟨5, _⟩ => ⟨S64x512, .bf16⟩
  | .hbm, ⟨6, _⟩ => ⟨S1x512, .f32⟩
  | .hbm, ⟨7, _⟩ => ⟨S1x512, .f32⟩
  | .hbm, ⟨8, _⟩ => ⟨S4x2048x512, .f32⟩
  | .hbm, ⟨9, _⟩ => ⟨S4x2048x512, .f32⟩
  | .hbm, ⟨10, _⟩ => ⟨S4x2048x512, .f32⟩
  | .hbm, ⟨11, _⟩ => ⟨S4x2048x512, .f32⟩
  | .hbm, ⟨12, _⟩ => ⟨S4x2048x512, .f32⟩
  | .hbm, ⟨13, _⟩ => ⟨S4x2048x512, .f32⟩
  | .local _ .vmem, ⟨0, _⟩ => ⟨S1x512x1664, .f32⟩
  | .local _ .vmem, ⟨1, _⟩ => ⟨S1x512x1664, .f32⟩
  | .local _ .vmem, ⟨2, _⟩ => ⟨S1x8x1664, .f32⟩
  | .local _ .vmem, ⟨3, _⟩ => ⟨S1x8x1664, .f32⟩
  | .local _ .vmem, ⟨4, _⟩ => ⟨S1x1664, .f32⟩
  | .local _ .vmem, ⟨5, _⟩ => ⟨S1x512, .f32⟩
  | .local _ .vmem, ⟨6, _⟩ => ⟨S64x512, .bf16⟩
  | .local _ .vmem, ⟨7, _⟩ => ⟨S1x512, .f32⟩
  | .local _ .vmem, ⟨8, _⟩ => ⟨S64x512, .bf16⟩
  | .local _ .vmem, ⟨9, _⟩ => ⟨S1x512, .f32⟩
  | .local _ .vmem, ⟨10, _⟩ => ⟨S1x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1x512x512, .f32⟩
  | .local _ .vmem, ⟨17, _⟩ => ⟨S1x512x512, .f32⟩
  | .local _ .vmem, ⟨18, _⟩ => ⟨S1x512x512, .f32⟩
  | .local _ .vmem, ⟨19, _⟩ => ⟨S1x512x512, .f32⟩
  | .local _ .vmem, ⟨20, _⟩ => ⟨S1x512x512, .f32⟩
  | .local _ .vmem, ⟨21, _⟩ => ⟨S1x512x512, .f32⟩
  | .local _ .vmem, ⟨22, _⟩ => ⟨S1x512x512, .f32⟩
  | _, _ => ⟨S4x2048x1664, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1664 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1664 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1664 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference7Ideal.lean ====
abbrev S4x2048x1664 : Shape := ⟨3, ![4, 2048, 1664]⟩
abbrev S1x1664 : Shape := ⟨2, ![1, 1664]⟩
abbrev S1x512 : Shape := ⟨2, ![1, 512]⟩
abbrev S64x512 : Shape := ⟨2, ![64, 512]⟩
abbrev S4x1x1664 : Shape := ⟨3, ![4, 1, 1664]⟩
abbrev S_ : Shape := ⟨0, ![]⟩
abbrev S4x2047x1664 : Shape := ⟨3, ![4, 2047, 1664]⟩
abbrev S1664 : Shape := ⟨1, ![1664]⟩
abbrev S1x1x1664 : Shape := ⟨3, ![1, 1, 1664]⟩
abbrev S4x2048x512 : Shape := ⟨3, ![4, 2048, 512]⟩
abbrev S4x2048x64 : Shape := ⟨3, ![4, 2048, 64]⟩
abbrev S512 : Shape := ⟨1, ![512]⟩
abbrev S1x1x512 : Shape := ⟨3, ![1, 1, 512]⟩

abbrev nBuf : Space → Nat
  | .hbm => 81
  | .vmem => 0
  | .smem => 0
  | _ => 0

abbrev bufTy : (tb : Table) → Fin (tcTables nBuf tb) → BufTy
  | .hbm, ⟨0, _⟩ => ⟨S4x2048x1664, .f32⟩
  | .hbm, ⟨1, _⟩ => ⟨S1x1664, .f32⟩
  | .hbm, ⟨2, _⟩ => ⟨S1x512, .f32⟩
  | .hbm, ⟨3, _⟩ => ⟨S64x512, .bf16⟩
  | .hbm, ⟨4, _⟩ => ⟨S1x512, .f32⟩
  | .hbm, ⟨5, _⟩ => ⟨S64x512, .bf16⟩
  | .hbm, ⟨6, _⟩ => ⟨S1x512, .f32⟩
  | .hbm, ⟨7, _⟩ => ⟨S1x512, .f32⟩
  | .hbm, ⟨8, _⟩ => ⟨S4x1x1664, .f32⟩
  | .hbm, ⟨9, _⟩ => ⟨S_, .f32⟩
  | .hbm, ⟨10, _⟩ => ⟨S4x1x1664, .f32⟩
  | .hbm, ⟨11, _⟩ => ⟨S4x2047x1664, .f32⟩
  | .hbm, ⟨12, _⟩ => ⟨S4x2048x1664, .f32⟩
  | .hbm, ⟨13, _⟩ => ⟨S4x2048x1664, .f32⟩
  | .hbm, ⟨14, _⟩ => ⟨S1664, .f32⟩
  | .hbm, ⟨15, _⟩ => ⟨S1x1x1664, .f32⟩
  | .hbm, ⟨16, _⟩ => ⟨S4x2048x1664, .f32⟩
  | .hbm, ⟨17, _⟩ => ⟨S4x2048x1664, .f32⟩
  | .hbm, ⟨18, _⟩ => ⟨S4x2048x1664, .f32⟩
  | .hbm, ⟨19, _⟩ => ⟨S4x2048x512, .f32⟩
  | .hbm, ⟨20, _⟩ => ⟨S4x2048x512, .f32⟩
  | .hbm, ⟨21, _⟩ => ⟨S4x2048x512, .f32⟩
  | .hbm, ⟨22, _⟩ => ⟨S4x2048x64, .f32⟩
  | .hbm, ⟨23, _⟩ => ⟨S4x2048x64, .f32⟩
  | .hbm, ⟨24, _⟩ => ⟨S512, .f32⟩
  | .hbm, ⟨25, _⟩ => ⟨S4x2048x64, .f32⟩
  | .hbm, ⟨26, _⟩ => ⟨S64x512, .f32⟩
  | .hbm, ⟨27, _⟩ => ⟨S4x2048x512, .f32⟩
  | .hbm, ⟨28, _⟩ => ⟨S1x1x512, .f32⟩
  | .hbm, ⟨29, _⟩ => ⟨S4x2048x512, .f32⟩
  | .hbm, ⟨30, _⟩ => ⟨S4x2048x512, .f32⟩
  | .hbm, ⟨31, _⟩ => ⟨S4x2048x512, .f32⟩
  | .hbm, ⟨32, _⟩ => ⟨S_, .f32⟩
  | .hbm, ⟨33, _⟩ => ⟨S4x2048x512, .f32⟩
  | .hbm, ⟨34, _⟩ => ⟨S4x2048x512, .f32⟩
  | .hbm, ⟨35, _⟩ => ⟨S4x2048x512, .f32⟩
  | .hbm, ⟨36, _⟩ => ⟨S4x2048x512, .f32⟩
  | .hbm, ⟨37, _⟩ => ⟨S4x2048x512, .i1⟩
  | .hbm, ⟨38, _⟩ => ⟨S4x2048x512, .f32⟩
  | .hbm, ⟨39, _⟩ => ⟨S4x2048x512, .f32⟩
  | .hbm, ⟨40, _⟩ => ⟨S4x2048x512, .f32⟩
  | .hbm, ⟨41, _⟩ => ⟨S4x2048x512, .f32⟩
  | .hbm, ⟨42, _⟩ => ⟨S4x2048x512, .f32⟩
  | .hbm, ⟨43, _⟩ => ⟨S4x2048x512, .f32⟩
  | .hbm, ⟨44, _⟩ => ⟨S4x2048x512, .f32⟩
  | .hbm, ⟨45, _⟩ => ⟨S4x2048x512, .f32⟩
  | .hbm, ⟨46, _⟩ => ⟨S4x2048x512, .f32⟩
  | .hbm, ⟨47, _⟩ => ⟨S_, .f32⟩
  | .hbm, ⟨48, _⟩ => ⟨S4x2048x512, .f32⟩
  | .hbm, ⟨49, _⟩ => ⟨S4x2048x512, .f32⟩
  | .hbm, ⟨50, _⟩ => ⟨S4x2048x512, .f32⟩
  | .hbm, ⟨51, _⟩ => ⟨S4x2048x512, .f32⟩
  | .hbm, ⟨52, _⟩ => ⟨S512, .f32⟩
  | .hbm, ⟨53, _⟩ => ⟨S64x512, .f32⟩
  | .hbm, ⟨54, _⟩ => ⟨S4x2048x512, .f32⟩
  | .hbm, ⟨55, _⟩ => ⟨S1x1x512, .f32⟩
  | .hbm, ⟨56, _⟩ => ⟨S4x2048x512, .f32⟩
  | .hbm, ⟨57, _⟩ => ⟨S4x2048x512, .f32⟩
  | .hbm, ⟨58, _⟩ => ⟨S4x2048x512, .f32⟩
  | .hbm, ⟨59, _⟩ => ⟨S4x2048x512, .f32⟩
  | .hbm, ⟨60, _⟩ => ⟨S_, .f32⟩
  | .hbm, ⟨61, _⟩ => ⟨S4x2048x512, .f32⟩
  | .hbm, ⟨62, _⟩ => ⟨S4x2048x512, .f32⟩
  | .hbm, ⟨63, _⟩ => ⟨S_, .f32⟩
  | .hbm, ⟨64, _⟩ => ⟨S4x2048x512, .f32⟩
  | .hbm, ⟨65, _⟩ => ⟨S4x2048x512, .f32⟩
  | .hbm, ⟨66, _⟩ => ⟨S512, .f32⟩
  | .hbm, ⟨67, _⟩ => ⟨S1x1x512, .f32⟩
  | .hbm, ⟨68, _⟩ => ⟨S4x2048x512, .f32⟩
  | .hbm, ⟨69, _⟩ => ⟨S4x2048x512, .f32⟩
  | .hbm, ⟨70, _⟩ => ⟨S_, .f32⟩
  | .hbm, ⟨71, _⟩ => ⟨S4x2048x512, .f32⟩
  | .hbm, ⟨72, _⟩ => ⟨S4x2048x512, .f32⟩
  | .hbm, ⟨73, _⟩ => ⟨S512, .f32⟩
  | .hbm, ⟨74, _⟩ => ⟨S1x1x512, .f32⟩
  | .hbm, ⟨75, _⟩ => ⟨S4x2048x512, .f32⟩
  | .hbm, ⟨76, _⟩ => ⟨S4x2048x512, .f32⟩
  | .hbm, ⟨77, _⟩ => ⟨S_, .f32⟩
  | .hbm, ⟨78, _⟩ => ⟨S4x2048x512, .f32⟩
  | .hbm, ⟨79, _⟩ => ⟨S4x2048x512, .f32⟩
  | .hbm, ⟨80, _⟩ => ⟨S4x2048x512, .f32⟩
  | _, _ => ⟨S4x2048x1664, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call0_cst : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_v23 : Ref sig .tc := ⟨.hbm, 45, rfl⟩
abbrev main_v24 : Ref sig .tc := ⟨.hbm, 46, rfl⟩
abbrev main_cst_0 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_1 : Ref sig .tc := ⟨.hbm, 60, rfl⟩
abbrev main_v37 : Ref sig .tc := ⟨.hbm, 61, rfl⟩
abbrev main_v38 : Ref sig .tc := ⟨.hbm, 62, rfl⟩
abbrev main_cst_2 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_3 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_4 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩

abbrev nD : Nat := 1
abbrev τ : Topo := Topo.v7x

variable {F : FTy → Type} [FloatOps F]
-- ==== Kernel8.lean ====
abbrev S8192x1024 : Shape := ⟨2, ![8192, 1024]⟩
abbrev S1024x4608 : Shape := ⟨2, ![1024, 4608]⟩
abbrev S8192x4608 : Shape := ⟨2, ![8192, 4608]⟩
abbrev S2048x1024 : Shape := ⟨2, ![2048, 1024]⟩
abbrev S1024x1536 : Shape := ⟨2, ![1024, 1536]⟩
abbrev S2048x1536 : Shape := ⟨2, ![2048, 1536]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x4608, .bf16⟩
  | .hbm, ⟨2, _⟩ => ⟨S8192x4608, .f32⟩
  | .local _ .vmem, ⟨0, _⟩ => ⟨S2048x1024, .bf16⟩
  | .local _ .vmem, ⟨1, _⟩ => ⟨S2048x1024, .bf16⟩
  | .local _ .vmem, ⟨2, _⟩ => ⟨S1024x1536, .bf16⟩
  | .local _ .vmem, ⟨3, _⟩ => ⟨S1024x1536, .bf16⟩
  | .local _ .vmem, ⟨4, _⟩ => ⟨S2048x1536, .f32⟩
  | .local _ .vmem, ⟨5, _⟩ => ⟨S2048x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S8192x1024 : Shape := ⟨2, ![8192, 1024]⟩
abbrev S1024x4608 : Shape := ⟨2, ![1024, 4608]⟩
abbrev S8192x4608 : Shape := ⟨2, ![8192, 4608]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4608, .bf16⟩
  | .hbm, ⟨2, _⟩ => ⟨S8192x4608, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel9.lean ====
abbrev S9x8192x512 : Shape := ⟨3, ![9, 8192, 512]⟩
abbrev S1024x4608 : Shape := ⟨2, ![1024, 4608]⟩
abbrev S8x128 : Shape := ⟨2, ![8, 128]⟩
abbrev S8192x1024 : Shape := ⟨2, ![8192, 1024]⟩
abbrev S3x2048x512 : Shape := ⟨3, ![3, 2048, 512]⟩
abbrev S1024x1536 : Shape := ⟨2, ![1024, 1536]⟩
abbrev S2048x1024 : Shape := ⟨2, ![2048, 1024]⟩
abbrev S1x2048x512 : Shape := ⟨3, ![1, 2048, 512]⟩
abbrev S2048x512 : Shape := ⟨2, ![2048, 512]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S9x8192x512, .bf16⟩
  | .hbm, ⟨1, _⟩ => ⟨S1024x4608, .bf16⟩
  | .hbm, ⟨2, _⟩ => ⟨S8x128, .bf16⟩
  | .hbm, ⟨3, _⟩ => ⟨S8192x1024, .f32⟩
  | .local _ .vmem, ⟨0, _⟩ => ⟨S3x2048x512, .bf16⟩
  | .local _ .vmem, ⟨1, _⟩ => ⟨S3x2048x512, .bf16⟩
  | .local _ .vmem, ⟨2, _⟩ => ⟨S1024x1536, .bf16⟩
  | .local _ .vmem, ⟨3, _⟩ => ⟨S1024x1536, .bf16⟩
  | .local _ .vmem, ⟨4, _⟩ => ⟨S8x128, .bf16⟩
  | .local _ .vmem, ⟨5, _⟩ => ⟨S2048x1024, .f32⟩
  | .local _ .vmem, ⟨6, _⟩ => ⟨S2048x1024, .f32⟩
  | _, _ => ⟨S9x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 3], ![false, false]⟩

def k0_cond1 (i : grid0.Coords) : BitVec 1 :=
  let arg1 : BitVec 32 := BitVec.ofNat 32 (i 1).val
  let c0_i32 : BitVec 32 := 0#32
  let v16 : BitVec 1 := Scalar.cmpi .eq arg1 c0_i32
  let v17 : BitVec 32 := Scalar.extui v16
  let c0_i32_13 : BitVec 32 := 0#32
  let v18 : BitVec 1 := Scalar.cmpi .ne v17 c0_i32_13
  v18

def k0_cond2 (i : grid0.Coords) : BitVec 1 :=
  let arg1 : BitVec 32 := BitVec.ofNat 32 (i 1).val
  let c0_i32_14 : BitVec 32 := 0#32
  let v19 : BitVec 1 := Scalar.cmpi .ne arg1 c0_i32_14
  let v20 : BitVec 32 := Scalar.extui v19
  let c0_i32_15 : BitVec 32 := 0#32
  let v21 : BitVec 1 := Scalar.cmpi .ne v20 c0_i32_15
  v21

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S3x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S8x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference9Ideal.lean ====
abbrev S9x8192x512 : Shape := ⟨3, ![9, 8192, 512]⟩
abbrev S1024x4608 : Shape := ⟨2, ![1024, 4608]⟩
abbrev S8x128 : Shape := ⟨2, ![8, 128]⟩
abbrev S8192x9x512 : Shape := ⟨3, ![8192, 9, 512]⟩
abbrev S8192x4608 : Shape := ⟨2, ![8192, 4608]⟩
abbrev S4608x1024 : Shape := ⟨2, ![4608, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S9x8192x512, .bf16⟩
  | .hbm, ⟨1, _⟩ => ⟨S1024x4608, .bf16⟩
  | .hbm, ⟨2, _⟩ => ⟨S8x128, .bf16⟩
  | .hbm, ⟨3, _⟩ => ⟨S8192x9x512, .bf16⟩
  | .hbm, ⟨4, _⟩ => ⟨S8192x4608, .bf16⟩
  | .hbm, ⟨5, _⟩ => ⟨S4608x1024, .bf16⟩
  | .hbm, ⟨6, _⟩ => ⟨S8192x1024, .f32⟩
  | _, _ => ⟨S9x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S8192x1024 : Shape := ⟨2, ![8192, 1024]⟩
abbrev S9x8192x512 : Shape := ⟨3, ![9, 8192, 512]⟩
abbrev S1024x4608 : Shape := ⟨2, ![1024, 4608]⟩
abbrev S2048x1024 : Shape := ⟨2, ![2048, 1024]⟩
abbrev S3x2048x512 : Shape := ⟨3, ![3, 2048, 512]⟩
abbrev S1024x1536 : Shape := ⟨2, ![1024, 1536]⟩
abbrev S1x2048x512 : Shape := ⟨3, ![1, 2048, 512]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S9x8192x512, .bf16⟩
  | .hbm, ⟨2, _⟩ => ⟨S1024x4608, .f32⟩
  | .local _ .vmem, ⟨0, _⟩ => ⟨S2048x1024, .bf16⟩
  | .local _ .vmem, ⟨1, _⟩ => ⟨S2048x1024, .bf16⟩
  | .local _ .vmem, ⟨2, _⟩ => ⟨S3x2048x512, .bf16⟩
  | .local _ .vmem, ⟨3, _⟩ => ⟨S3x2048x512, .bf16⟩
  | .local _ .vmem, ⟨4, _⟩ => ⟨S1024x1536, .f32⟩
  | .local _ .vmem, ⟨5, _⟩ => ⟨S1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v5 : BitVec 32 := Scalar.extui v0
  let c0_i32_4 : BitVec 32 := 0#32
  let v6 : BitVec 1 := Scalar.cmpi .ne v5 c0_i32_4
  v6

def k0_cond2 (i : grid0.Coords) : BitVec 1 :=
  let arg1 : BitVec 32 := BitVec.ofNat 32 (i 1).val
  let c0_i32 : BitVec 32 := 0#32
  let v0 : BitVec 1 := Scalar.cmpi .eq arg1 c0_i32
  let v_true : BitVec 1 := 1#1
  let v7 : BitVec 1 := Scalar.xori v0 v_true
  let v8 : BitVec 32 := Scalar.extui v7
  let c0_i32_5 : BitVec 32 := 0#32
  let v9 : BitVec 1 := Scalar.cmpi .ne v8 c0_i32_5
  v9

def k0_cond3 (i : grid0.Coords) : BitVec 1 :=
  let arg1 : BitVec 32 := BitVec.ofNat 32 (i 1).val
  let c0_i32 : BitVec 32 := 0#32
  let v0 : BitVec 1 := Scalar.cmpi .eq arg1 c0_i32
  let v14 : BitVec 32 := Scalar.extui v0
  let c0_i32_11 : BitVec 32 := 0#32
  let v15 : BitVec 1 := Scalar.cmpi .ne v14 c0_i32_11
  v15

def k0_cond4 (i : grid0.Coords) : BitVec 1 :=
  let arg1 : BitVec 32 := BitVec.ofNat 32 (i 1).val
  let c0_i32 : BitVec 32 := 0#32
  let v0 : BitVec 1 := Scalar.cmpi .eq arg1 c0_i32
  let true_12 : BitVec 1 := 1#1
  let v16 : BitVec 1 := Scalar.xori v0 true_12
  let v17 : BitVec 32 := Scalar.extui v16
  let c0_i32_13 : BitVec 32 := 0#32
  let v18 : BitVec 1 := Scalar.cmpi .ne v17 c0_i32_13
  v18

def k0_cond5 (i : grid0.Coords) : BitVec 1 :=
  let arg1 : BitVec 32 := BitVec.ofNat 32 (i 1).val
  let c0_i32 : BitVec 32 := 0#32
  let v0 : BitVec 1 := Scalar.cmpi .eq arg1 c0_i32
  let v23 : BitVec 32 := Scalar.extui v0
  let c0_i32_19 : BitVec 32 := 0#32
  let v24 : BitVec 1 := Scalar.cmpi .ne v23 c0_i32_19
  v24

def k0_cond6 (i : grid0.Coords) : BitVec 1 :=
  let arg1 : BitVec 32 := BitVec.ofNat 32 (i 1).val
  let c0_i32 : BitVec 32 := 0#32
  let v0 : BitVec 1 := Scalar.cmpi .eq arg1 c0_i32
  let true_20 : BitVec 1 := 1#1
  let v25 : BitVec 1 := Scalar.xori v0 true_20
  let v26 : BitVec 32 := Scalar.extui v25
  let c0_i32_21 : BitVec 32 := 0#32
  let v27 : BitVec 1 := Scalar.cmpi .ne v26 c0_i32_21
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S3x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference10Ideal.lean ====
abbrev S8192x1024 : Shape := ⟨2, ![8192, 1024]⟩
abbrev S9x8192x512 : Shape := ⟨3, ![9, 8192, 512]⟩
abbrev S1024x8192 : Shape := ⟨2, ![1024, 8192]⟩
abbrev S8192x9x512 : Shape := ⟨3, ![8192, 9, 512]⟩
abbrev S8192x4608 : Shape := ⟨2, ![8192, 4608]⟩
abbrev S1024x4608 : Shape := ⟨2, ![1024, 4608]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S9x8192x512, .bf16⟩
  | .hbm, ⟨2, _⟩ => ⟨S1024x8192, .bf16⟩
  | .hbm, ⟨3, _⟩ => ⟨S8192x9x512, .bf16⟩
  | .hbm, ⟨4, _⟩ => ⟨S8192x4608, .bf16⟩
  | .hbm, ⟨5, _⟩ => ⟨S1024x4608, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel11.lean ====
abbrev S8x64x128 : Shape := ⟨3, ![8, 64, 128]⟩
abbrev S64x128 : Shape := ⟨2, ![64, 128]⟩
abbrev S1x64x128 : Shape := ⟨3, ![1, 64, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x64x128, .f32⟩
  | .hbm, ⟨1, _⟩ => ⟨S64x128, .f32⟩
  | .hbm, ⟨2, _⟩ => ⟨S64x128, .f32⟩
  | .hbm, ⟨3, _⟩ => ⟨S64x128, .f32⟩
  | .hbm, ⟨4, _⟩ => ⟨S64x128, .f32⟩
  | .hbm, ⟨5, _⟩ => ⟨S64x128, .f32⟩
  | .hbm, ⟨6, _⟩ => ⟨S64x128, .f32⟩
  | .hbm, ⟨7, _⟩ => ⟨S64x128, .f32⟩
  | .local _ .vmem, ⟨0, _⟩ => ⟨S8x64x128, .f32⟩
  | .local _ .vmem, ⟨1, _⟩ => ⟨S64x128, .f32⟩
  | .local _ .vmem, ⟨2, _⟩ => ⟨S64x128, .f32⟩
  | .local _ .vmem, ⟨3, _⟩ => ⟨S64x128, .f32⟩
  | .local _ .vmem, ⟨4, _⟩ => ⟨S64x128, .f32⟩
  | .local _ .vmem, ⟨5, _⟩ => ⟨S64x128, .f32⟩
  | .local _ .vmem, ⟨6, _⟩ => ⟨S64x128, .f32⟩
  | .local _ .vmem, ⟨7, _⟩ => ⟨S64x128, .f32⟩
  | _, _ => ⟨S8x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference11Ideal.lean ====
abbrev S8x64x128 : Shape := ⟨3, ![8, 64, 128]⟩
abbrev S64x128 : Shape := ⟨2, ![64, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x64x128, .f32⟩
  | .hbm, ⟨1, _⟩ => ⟨S64x128, .f32⟩
  | .hbm, ⟨2, _⟩ => ⟨S64x128, .f32⟩
  | .hbm, ⟨3, _⟩ => ⟨S64x128, .f32⟩
  | .hbm, ⟨4, _⟩ => ⟨S_, .f32⟩
  | .hbm, ⟨5, _⟩ => ⟨S64x128, .f32⟩
  | .hbm, ⟨6, _⟩ => ⟨S_, .f32⟩
  | .hbm, ⟨7, _⟩ => ⟨S64x128, .f32⟩
  | .hbm, ⟨8, _⟩ => ⟨S64x128, .f32⟩
  | .hbm, ⟨9, _⟩ => ⟨S_, .f32⟩
  | .hbm, ⟨10, _⟩ => ⟨S64x128, .f32⟩
  | .hbm, ⟨11, _⟩ => ⟨S64x128, .f32⟩
  | .hbm, ⟨12, _⟩ => ⟨S64x128, .f32⟩
  | .hbm, ⟨13, _⟩ => ⟨S_, .f32⟩
  | .hbm, ⟨14, _⟩ => ⟨S64x128, .f32⟩
  | .hbm, ⟨15, _⟩ => ⟨S64x128, .f32⟩
  | .hbm, ⟨16, _⟩ => ⟨S64x128, .f32⟩
  | .hbm, ⟨17, _⟩ => ⟨S_, .f32⟩
  | .hbm, ⟨18, _⟩ => ⟨S64x128, .f32⟩
  | .hbm, ⟨19, _⟩ => ⟨S64x128, .f32⟩
  | .hbm, ⟨20, _⟩ => ⟨S64x128, .f32⟩
  | .hbm, ⟨21, _⟩ => ⟨S_, .f32⟩
  | .hbm, ⟨22, _⟩ => ⟨S64x128, .f32⟩
  | .hbm, ⟨23, _⟩ => ⟨S64x128, .f32⟩
  | .hbm, ⟨24, _⟩ => ⟨S_, .f32⟩
  | .hbm, ⟨25, _⟩ => ⟨S64x128, .f32⟩
  | .hbm, ⟨26, _⟩ => ⟨S64x128, .f32⟩
  | .hbm, ⟨27, _⟩ => ⟨S64x128, .f32⟩
  | .hbm, ⟨28, _⟩ => ⟨S_, .f32⟩
  | .hbm, ⟨29, _⟩ => ⟨S64x128, .f32⟩
  | .hbm, ⟨30, _⟩ => ⟨S64x128, .f32⟩
  | .hbm, ⟨31, _⟩ => ⟨S64x128, .f32⟩
  | .hbm, ⟨32, _⟩ => ⟨S_, .f32⟩
  | .hbm, ⟨33, _⟩ => ⟨S64x128, .f32⟩
  | .hbm, ⟨34, _⟩ => ⟨S64x128, .f32⟩
  | .hbm, ⟨35, _⟩ => ⟨S64x128, .f32⟩
  | .hbm, ⟨36, _⟩ => ⟨S_, .f32⟩
  | .hbm, ⟨37, _⟩ => ⟨S64x128, .f32⟩
  | .hbm, ⟨38, _⟩ => ⟨S64x128, .f32⟩
  | _, _ => ⟨S8x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.ShiftKernel.lean ====
/- What the token-shift gradient kernel leaves in its result array. -/
module

public import proofs.«01_k».proof.Proof.Gen.KernelIdeal.Frame
public import Idealize.ShloMosaic.Lib.Pipeline.ValueKit
public import Idealize.ShloMosaic.Lib.Pointwise
public import Idealize.ShloMosaic.Lib.WordCmp

@[expose] public section

set_option maxRecDepth 16384

noncomputable section

open Idealize.ShloMosaic Idealize.ShloMosaic.TcCoe Idealize.SL.Sem
open Idealize.ShloMosaic.Pipeline (Dat)

namespace Cert.KernelIdeal.Shift

open Cert.KernelIdeal Cert.KernelIdeal.Gen

variable (m : (ℓ : Loc nD τ sig) → Buf (Elt Ideal) ℓ)

theorem idx : ∀ t : Fin cfg0.N, win0_0.index t = ![t.val / 4, t.val % 4, 0]
    ∧ win0_1.index t = ![t.val / 4, min (64 * (t.val % 4) + 64) 255, 0] ∧ win0_2.index t = ![0, 0]
    ∧ win0_3.index t = ![t.val / 4, t.val % 4, 0] ∧ (grid0.coords t 1).val = t.val % 4 :=
  (by decide +kernel : ∀ t : Fin grid0.N, _)

/-- The array the gradient of the token shift holds: each row keeps the share `1 - w` of its own cotangent and takes the
    share `w` of the next row's, the last row of a sequence having no next one. -/
def G (D : FVec Ideal S4x2048x1664 .f32) (W : FVec Ideal S1x1664 .f32) : FVec Ideal S4x2048x1664 .bf16 := fun j =>
  D j * (1 - W (ix2 0 (j 2)))
    + (if h : (j 1).val < 2047 then D (ix3 (j 0) ⟨(j 1).val + 1, Nat.succ_lt_succ h⟩ (j 2)) else 0) * W (ix2 0 (j 2))

theorem t_lt (t : Fin cfg0.N) : t.val < 16 := t.isLt

/-- The block of cotangent rows at a grid point. -/
theorem rows_at (c : Dev nD) (t : Fin cfg0.N) (r : Fin 512) (l : Fin 1664) :
    iblk m c 0 t (ix3 0 r l) = m ((c : Thread nD τ).loc main_arg2)
      (ix3 (⟨t.val / 4, by have := t_lt t; omega⟩ : Fin 4) (⟨t.val % 4 * 512 + r.val, by omega⟩ : Fin 2048) l) := by
  blk_ext [iblk, V, idx t]

/-- The first row of the block behind it, where there is one. -/
theorem edge_at (c : Dev nD) (t : Fin cfg0.N) (h : t.val % 4 ≠ 3) (l : Fin 1664) :
    iblk m c 1 t (ix3 0 0 l) = m ((c : Thread nD τ).loc main_arg2)
      (ix3 (⟨t.val / 4, by have := t_lt t; omega⟩ : Fin 4) (⟨t.val % 4 * 512 + 512, by omega⟩ : Fin 2048) l) := by
  blk_ext [iblk, V, idx t]

theorem mix_at (c : Dev nD) (t : Fin cfg0.N) (l : Fin 1664) :
    iblk m c 2 t (ix2 0 l) = m ((c : Thread nD τ).loc main_arg1) (ix2 0 l) := by
  blk_ext [iblk, V, idx t]

theorem final (c : Dev nD) : (dats m 0 c).arrAt 3 (cfgs 0).N
    = G (m ((c : Thread nD τ).loc main_arg2)) (m ((c : Thread nD τ).loc main_arg1)) := by
  refine (dats m 0 c).arrAt_eq_of_covers 3 _ (by decide +kernel) fun t _ y => ?_
  blk_simp
  rw [after0_3]; frame_out
  idx_vars y
  obtain ⟨h0, h1, h2, h3, hg⟩ := idx t
  have ht := t_lt t
  have he : ((View.whole main_v0).slice (win0_3.rect t)).emb (ix3 y0 y1 y2)
      = ix3 (⟨t.val / 4, by omega⟩ : Fin 4) (⟨t.val % 4 * 512 + y1.val, by omega⟩ : Fin 2048) y2 := by blk_ext [h3]
  rw [he]
  pointwise [k0_pay1, r0_1, G]
  rw [rows_at, rows_at, mix_at, hg]
  refine congrArg₂ (fun a b => a + b * _) rfl ?_
  have hz : Scalar.cmpi CmpIPredicate.eq (BitVec.ofNat 32 (t.val % 4)) 3#32 = BitVec.ofBool (decide (t.val % 4 = 3)) :=
    WordCmp.cmpi_eq_ofNat (by omega) (by decide)
  have hy : IntOp.cmpi CmpIPredicate.eq (BitVec.ofNat 32 y1.val) 511#32 = BitVec.ofBool (decide (y1.val = 511)) :=
    WordCmp.cmpi_eq_ofNat (by omega) (by decide)
  rw [hz, hy, WordCmp.select_decide, WordCmp.select_decide]
  by_cases h : y1.val = 511
  · rw [if_pos h]
    by_cases h' : t.val % 4 = 3
    · rw [if_pos h', dif_neg (by omega)]
    · rw [if_neg h', edge_at m c t h', dif_pos (by omega)]
      blk_ext
  · rw [if_neg h, dif_pos (by omega)]
    blk_ext

end Cert.KernelIdeal.Shift

end
-- ==== Proof.Reals.lean ====
/- Extended reals that are real numbers: how a finiteness precondition reads, and what it buys. -/
module

public import Idealize.ShloMosaic.Lib.Pointwise
public import Idealize.ShloMosaic.Lib.WordCmp

@[expose] public section

noncomputable section

open Idealize.ShloMosaic

namespace Cert.Reals

/-- The word a finiteness test compares with is `⊤`. -/
theorem inf_word : Ideal.ofBits .f32 2139095040#32 = (⊤ : EReal) := by
  simp [Ideal.ofBits, Ideal.ieee]

/-- An extended real whose absolute value lies below `⊤` is a real number. -/
theorem real_of_test {x : EReal}
    (h : BitVec.ofBool (decide (max x (-x) < Ideal.ofBits .f32 2139095040#32)) = 1#1) : ∃ r : ℝ, x = (r : EReal) := by
  rw [inf_word] at h
  have hlt : max x (-x) < ⊤ := by
    by_contra hn
    rw [decide_eq_false hn] at h
    exact absurd h (by decide)
  rw [max_lt_iff] at hlt
  induction x with
  | bot => simp at hlt
  | top => simp at hlt
  | coe r => exact ⟨r, rfl⟩

/-- `d·(1 - w) = d - d·w` needs `d` real only. -/
theorem coe_mul_one_sub (d : ℝ) (w : EReal) : (d : EReal) * (1 - w) = (d : EReal) + -((d : EReal) * w) := by
  have h1 : (1 : EReal) + ⊤ = ⊤ := EReal.coe_add_top 1
  rcases lt_trichotomy d 0 with h | h | h
  · induction w with
    | bot => simp [sub_eq_add_neg, h1, EReal.coe_mul_top_of_neg h, EReal.coe_mul_bot_of_neg h]
    | top => simp [sub_eq_add_neg, h1, EReal.coe_mul_top_of_neg h, EReal.coe_mul_bot_of_neg h]
    | coe r => norm_cast; ring_nf
  · subst h; simp
  · induction w with
    | bot => simp [sub_eq_add_neg, h1, EReal.coe_mul_top_of_pos h, EReal.coe_mul_bot_of_pos h]
    | top => simp [sub_eq_add_neg, h1, EReal.coe_mul_top_of_pos h, EReal.coe_mul_bot_of_pos h]
    | coe r => norm_cast; ring_nf

end Cert.Reals

end
-- ==== Proof.ShiftRef.lean ====
/- What the token shift's gradient is in the reference, element by element. -/
module

public import proofs.«01_k».proof.Proof.Gen.ReferenceIdeal.Read
public import proofs.«01_k».proof.Proof.Gen.Pre_finite_ct
public import proofs.«01_k».proof.Proof.ShiftKernel
public import proofs.«01_k».proof.Proof.Reals

@[expose] public section

set_option maxRecDepth 16384

noncomputable section

open Idealize.ShloMosaic

namespace Cert.ReferenceIdeal.Shift

open Cert.ReferenceIdeal Cert.ReferenceIdeal.Gen Cert.ReferenceIdeal.Read

/-- The precondition says that every cotangent is a real number. -/
theorem real_at [Cert.Pre_finite_ct.Facts] (a d : FVec Ideal S4x2048x1664 .f32) (b : FVec Ideal S1x1664 .f32)
    (h : Cert.Pre_finite_ct.fn (F := Ideal) a b d = fun _ => 1#1) (i : S4x2048x1664.Idx) : ∃ r : ℝ, d i = (r : EReal) := by
  have h' := congrFun h i
  pointwise [Cert.Pre_finite_ct.fn] at h'
  exact Cert.Reals.real_of_test h'

/-- The reference's array is the one the kernel leaves. -/
theorem eq_G (w : FVec Ideal S1x1664 .f32) (d : FVec Ideal S4x2048x1664 .f32)
    (hd : ∀ i, ∃ r : ℝ, d i = (r : EReal)) : val_main_v20 (F := Ideal) w d = Cert.KernelIdeal.Shift.G d w := by
  funext y
  idx_vars y
  pointwise [val_main_v20, val_main_v19, val_main_v18, val_main_v17, val_main_v15, val_main_v14, val_main_v13, val_main_v12, val_main_v11,
    val_main_v7, val_main_v6, val_main_cst_1, Cert.KernelIdeal.Shift.G]
  obtain ⟨r, hr⟩ := hd (ix3 y0 y1 y2)
  rw [hr, ← Cert.Reals.coe_mul_one_sub]
  refine congrArg _ ?_
  by_cases h : y1.val < 2047
  · rw [dif_pos h, dif_pos h]
    refine congrArg (fun i => d i * _) ?_
    blk_ext
  · rw [dif_neg h, dif_neg h, zero_mul]

end Cert.ReferenceIdeal.Shift

end
-- ==== Proof.HeadRow.lean ====
/- One row of the loss head and its gradient, as functions of the row and of the weights. -/
module

public import Idealize.ShloMosaic.PureOps.Ideal
public import Idealize.ShloMosaic.Lib.Pointwise

@[expose] public section

noncomputable section

open Idealize.ShloMosaic

namespace Cert.Head

/-- What one token brings: the two mixers' outputs, their gates before the activation, the two merge gates, the stream and the target. -/
structure Row where
  a : Fin 512 → EReal
  b : Fin 512 → EReal
  za : Fin 512 → EReal
  zb : Fin 512 → EReal
  ga : Fin 1024 → EReal
  gb : Fin 1024 → EReal
  x : Fin 1024 → EReal
  t : Fin 1024 → EReal

/-- The three weights and the norm's gain. -/
structure Wts where
  u : Fin 512 → Fin 1024 → EReal
  v : Fin 512 → Fin 1024 → EReal
  w : Fin 1024 → Fin 1024 → EReal
  g : Fin 1024 → EReal

def silu (z : EReal) : EReal := z * Ideal.logistic z

/-- The slope of `silu`. -/
def dsilu (z : EReal) : EReal := Ideal.logistic z * (1 + z * (1 - Ideal.logistic z))

variable (P : Wts) (r : Row)

def am (k : Fin 512) : EReal := r.a k * silu (r.za k)
def bm (k : Fin 512) : EReal := r.b k * silu (r.zb k)
def ya (j : Fin 1024) : EReal := ∑ k : Fin 512, am r k * P.u k j
def yb (j : Fin 1024) : EReal := ∑ k : Fin 512, bm r k * P.v k j
def merged (j : Fin 1024) : EReal := Ideal.logistic (r.ga j) * ya P r j + Ideal.logistic (r.gb j) * yb P r j
def out (j : Fin 1024) : EReal := ∑ k : Fin 1024, merged P r k * P.w k j
/-- The norm's mean square, with its small constant. -/
def ms : EReal := Ideal.div (∑ j : Fin 1024, out P r j * out P r j) (Ideal.ofBits .f32 0x44800000#32) + Ideal.ofBits .f32 0x358637BD#32
def rs : EReal := Ideal.rsqrt (ms P r)
def err (j : Fin 1024) : EReal := r.x j + out P r j * rs P r * P.g j - r.t j
def dx (j : Fin 1024) : EReal := err P r j * Ideal.ofBits .f32 0x3A800000#32
def gd (j : Fin 1024) : EReal := dx P r j * P.g j
/-- The gradient at the norm's input. -/
def dout (j : Fin 1024) : EReal :=
  rs P r * (gd P r j - out P r j * (rs P r * rs P r) * Ideal.div (∑ k : Fin 1024, gd P r k * out P r k) (Ideal.ofBits .f32 0x44800000#32))
def dm (j : Fin 1024) : EReal := ∑ k : Fin 1024, dout P r k * P.w j k
def da (j : Fin 1024) : EReal := dm P r j * Ideal.logistic (r.ga j)
def db (j : Fin 1024) : EReal := dm P r j * Ideal.logistic (r.gb j)
def dga (j : Fin 1024) : EReal := dm P r j * ya P r j * Ideal.logistic (r.ga j) * (1 - Ideal.logistic (r.ga j))
def dgb (j : Fin 1024) : EReal := dm P r j * yb P r j * Ideal.logistic (r.gb j) * (1 - Ideal.logistic (r.gb j))
def dam (k : Fin 512) : EReal := ∑ j : Fin 1024, da P r j * P.u k j
def dbm (k : Fin 512) : EReal := ∑ j : Fin 1024, db P r j * P.v k j
def doa (k : Fin 512) : EReal := dam P r k * silu (r.za k)
def dob (k : Fin 512) : EReal := dbm P r k * silu (r.zb k)
def dza (k : Fin 512) : EReal := dam P r k * r.a k * dsilu (r.za k)
def dzb (k : Fin 512) : EReal := dbm P r k * r.b k * dsilu (r.zb k)

/-- The rows of the arguments. -/
def rows (x0 x1 x2 x3 : FVec Ideal ⟨2, ![8192, 512]⟩ .f32) (x4 : FVec Ideal ⟨2, ![8192, 2048]⟩ .f32)
    (x5 x6 : FVec Ideal ⟨2, ![8192, 1024]⟩ .f32) (i : Fin 8192) : Row where
  a k := x0 (ix2 i k)
  b k := x1 (ix2 i k)
  za k := x2 (ix2 i k)
  zb k := x3 (ix2 i k)
  ga j := x4 (ix2 i ⟨j.val, by omega⟩)
  gb j := x4 (ix2 i ⟨1024 + j.val, by omega⟩)
  x j := x5 (ix2 i j)
  t j := x6 (ix2 i j)

/-- The weights of the arguments. -/
def wts (x7 x8 : FVec Ideal ⟨2, ![512, 1024]⟩ .bf16) (x9 : FVec Ideal ⟨2, ![1024, 1024]⟩ .bf16)
    (x10 : FVec Ideal ⟨2, ![1, 1024]⟩ .f32) : Wts where
  u k j := x7 (ix2 k j)
  v k j := x8 (ix2 k j)
  w k j := x9 (ix2 k j)
  g j := x10 (ix2 0 j)

end Cert.Head

end
-- ==== Proof.HeadReal.lean ====
/- Real numbers among the extended ones, and the norm's gradient over them. -/
module

public import proofs.«01_k».proof.Proof.HeadRow
public import proofs.«01_k».proof.Proof.Reals

@[expose] public section

noncomputable section

open Idealize.ShloMosaic

namespace Cert.Reals

def IsReal (x : EReal) : Prop := ∃ r : ℝ, x = (r : EReal)

theorem isReal_coe (r : ℝ) : IsReal (r : EReal) := ⟨r, rfl⟩
theorem IsReal.add {x y : EReal} : IsReal x → IsReal y → IsReal (x + y) := by
  rintro ⟨a, rfl⟩ ⟨b, rfl⟩; exact ⟨a + b, (EReal.coe_add a b).symm⟩
theorem IsReal.sub {x y : EReal} : IsReal x → IsReal y → IsReal (x - y) := by
  rintro ⟨a, rfl⟩ ⟨b, rfl⟩; exact ⟨a - b, (EReal.coe_sub a b).symm⟩
theorem IsReal.mul {x y : EReal} : IsReal x → IsReal y → IsReal (x * y) := by
  rintro ⟨a, rfl⟩ ⟨b, rfl⟩; exact ⟨a * b, (EReal.coe_mul a b).symm⟩
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]
theorem IsReal.sum {ι : Type} (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩

theorem isReal_logistic (x : EReal) : IsReal (Ideal.logistic x) := by
  induction x with
  | bot => exact ⟨0, by simp⟩
  | top => exact ⟨1, by simp⟩
  | coe r => exact ⟨_, Ideal.logistic_coe r⟩

theorem word_1024 : Ideal.ofBits .f32 0x44800000#32 = ((1024 : ℝ) : EReal) := by
  simp [Ideal.ofBits, Ideal.ieee, -EReal.coe_mul]; norm_num
theorem word_inv1024 : Ideal.ofBits .f32 0x3A800000#32 = ((1 / 1024 : ℝ) : EReal) := by
  simp [Ideal.ofBits, Ideal.ieee, -EReal.coe_mul]; norm_num
theorem word_inv2048 : Ideal.ofBits .f32 0x3A000000#32 = ((1 / 2048 : ℝ) : EReal) := by
  simp [Ideal.ofBits, Ideal.ieee, -EReal.coe_mul]; norm_num
theorem word_half : Ideal.ofBits .f32 0x3F000000#32 = ((1 / 2 : ℝ) : EReal) := by
  simp [Ideal.ofBits, Ideal.ieee, -EReal.coe_mul]; norm_num
theorem word_neg_half : Ideal.ofBits .f32 0xBF000000#32 = ((-(1 / 2) : ℝ) : EReal) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; norm_num
/-- The norm's small constant is a positive real. -/
theorem word_eps : ∃ e : ℝ, 0 < e ∧ Ideal.ofBits .f32 0x358637BD#32 = (e : EReal) := by
  refine ⟨8796093 / 8796093022208, by norm_num, ?_⟩
  simp [Ideal.ofBits, Ideal.ieee, -EReal.coe_mul]; norm_num

theorem div_1024 (r : ℝ) : Ideal.div (r : EReal) ((1024 : ℝ) : EReal) = ((r / 1024 : ℝ) : EReal) := by
  rw [Ideal.div_coe (by norm_num), ← EReal.coe_mul]; congr 1; ring

end Cert.Reals

namespace Cert.Head

open Cert.Reals

/-- Every number a row brings, the merge gates aside, is real. -/
structure Row.Real (r : Row) : Prop where
  a : ∀ k, IsReal (r.a k)
  b : ∀ k, IsReal (r.b k)
  za : ∀ k, IsReal (r.za k)
  zb : ∀ k, IsReal (r.zb k)
  x : ∀ j, IsReal (r.x j)
  t : ∀ j, IsReal (r.t j)

structure Wts.Real (P : Wts) : Prop where
  u : ∀ k j, IsReal (P.u k j)
  v : ∀ k j, IsReal (P.v k j)
  w : ∀ k j, IsReal (P.w k j)
  g : ∀ j, IsReal (P.g j)

variable {P : Wts} {r : Row} (hP : P.Real) (hr : r.Real)
include hP hr

theorem isReal_out (j : Fin 1024) : IsReal (out P r j) :=
  .sum _ fun k => .mul (.add (.mul (isReal_logistic _) (.sum _ fun i => .mul (.mul (hr.a i) (.mul (hr.za i) (isReal_logistic _))) (hP.u i k)))
    (.mul (isReal_logistic _) (.sum _ fun i => .mul (.mul (hr.b i) (.mul (hr.zb i) (isReal_logistic _))) (hP.v i k)))) (hP.w k j)

/-- The mean square is positive, and the factor its reciprocal root. -/
theorem ms_rs : ∃ q : ℝ, 0 < q ∧ ms P r = (q : EReal) ∧ rs P r = (((√q)⁻¹ : ℝ) : EReal) := by
  choose f hf using isReal_out hP hr
  obtain ⟨e, he, hw⟩ := word_eps
  have hq : ms P r = (((∑ j, f j * f j) / 1024 + e : ℝ) : EReal) := by
    unfold ms
    rw [hw, word_1024, Finset.sum_congr rfl fun j _ => show out P r j * out P r j = ((f j * f j : ℝ) : EReal) by rw [hf, EReal.coe_mul],
      ← coe_sum, div_1024, EReal.coe_add]
  have h0 : 0 < (∑ j, f j * f j) / 1024 + e :=
    add_pos_of_nonneg_of_pos (div_nonneg (Finset.sum_nonneg fun j _ => mul_self_nonneg _) (by norm_num)) he
  refine ⟨_, h0, hq, ?_⟩
  unfold rs
  rw [hq, Ideal.rsqrt_coe, if_neg (not_lt.2 h0.le), if_neg h0.ne']

theorem isReal_rs : IsReal (rs P r) := by
  obtain ⟨q, -, -, h⟩ := ms_rs hP hr
  exact ⟨_, h⟩

theorem isReal_err (j : Fin 1024) : IsReal (err P r j) :=
  ((hr.x j).add (((isReal_out hP hr j).mul (isReal_rs hP hr)).mul (hP.g j))).sub (hr.t j)

theorem isReal_gd (j : Fin 1024) : IsReal (gd P r j) :=
  ((isReal_err hP hr j).mul ⟨_, word_inv1024⟩).mul (hP.g j)

/-- The norm's gradient, taken operation by operation from the reciprocal root and the mean square, is the one written in closed form. -/
theorem dout_steps (j : Fin 1024) :
    gd P r j * rs P r
        + out P r j * Ideal.div ((∑ k, out P r k * gd P r k) * (Ideal.ofBits .f32 0xBF000000#32 * Ideal.div (rs P r) (ms P r)))
            (Ideal.ofBits .f32 0x44800000#32)
      + Ideal.div ((∑ k, out P r k * gd P r k) * (Ideal.ofBits .f32 0xBF000000#32 * Ideal.div (rs P r) (ms P r)))
            (Ideal.ofBits .f32 0x44800000#32) * out P r j
    = dout P r j := by
  choose f hf using isReal_out hP hr
  choose d hd using isReal_gd hP hr
  obtain ⟨q, h0, hm, hs⟩ := ms_rs hP hr
  unfold dout
  have h1 : ∑ k, out P r k * gd P r k = ((∑ k, f k * d k : ℝ) : EReal) := by
    rw [coe_sum]; exact Finset.sum_congr rfl fun k _ => by rw [hf, hd, EReal.coe_mul]
  have h2 : ∑ k, gd P r k * out P r k = ((∑ k, f k * d k : ℝ) : EReal) := by
    rw [coe_sum]; exact Finset.sum_congr rfl fun k _ => by rw [hf, hd, ← EReal.coe_mul, mul_comm]
  rw [h1, h2, hm, hs, hf, hd, word_1024, word_neg_half, Ideal.div_coe h0.ne']
  simp only [← EReal.coe_mul, div_1024, ← EReal.coe_add, ← EReal.coe_sub]
  congr 1
  have hq : (√q)⁻¹ * (√q)⁻¹ = 1 / q := by rw [← mul_inv, Real.mul_self_sqrt h0.le, one_div]
  rw [hq]
  ring

theorem isReal_dout (j : Fin 1024) : IsReal (dout P r j) := by
  choose f hf using isReal_out hP hr
  choose d hd using isReal_gd hP hr
  refine (isReal_rs hP hr).mul ((isReal_gd hP hr j).sub (((isReal_out hP hr j).mul ((isReal_rs hP hr).mul (isReal_rs hP hr))).mul ?_))
  obtain ⟨y, hy⟩ := IsReal.sum Finset.univ fun k => (isReal_gd hP hr k).mul (isReal_out hP hr k)
  exact ⟨_, by rw [hy, word_1024, div_1024]⟩

theorem isReal_dm (j : Fin 1024) : IsReal (dm P r j) := .sum _ fun k => (isReal_dout hP hr k).mul (hP.w j k)
theorem isReal_dam (k : Fin 512) : IsReal (dam P r k) := .sum _ fun j => ((isReal_dm hP hr j).mul (isReal_logistic _)).mul (hP.u k j)
theorem isReal_dbm (k : Fin 512) : IsReal (dbm P r k) := .sum _ fun j => ((isReal_dm hP hr j).mul (isReal_logistic _)).mul (hP.v k j)

omit hP hr in
/-- The activation's gradient, taken by the product rule. -/
theorem dsilu_steps {z d : EReal} (hz : IsReal z) (hd : IsReal d) :
    d * Ideal.logistic z + z * d * (Ideal.logistic z * (1 - Ideal.logistic z)) = d * dsilu z := by
  obtain ⟨z, rfl⟩ := hz
  obtain ⟨d, rfl⟩ := hd
  unfold dsilu
  obtain ⟨s, hs⟩ := isReal_logistic z
  rw [hs, ← EReal.coe_one]
  simp only [← EReal.coe_mul, ← EReal.coe_add, ← EReal.coe_sub]
  congr 1
  ring

end Cert.Head

end
-- ==== Proof.HeadRef.lean ====
/- What the reference computes of the loss head and its gradient, row by row. -/
module

public import proofs.«01_k».proof.Proof.Gen.Reference2Ideal.Read
public import proofs.«01_k».proof.Proof.HeadReal

@[expose] public section

set_option maxRecDepth 16384

noncomputable section

open Idealize.ShloMosaic

namespace Cert.Reference2Ideal.Head

open Cert.Reference2Ideal Cert.Reference2Ideal.Gen Cert.Reference2Ideal.Read Cert.Head Cert.Reals

variable {P : Wts} {R : Fin 8192 → Row}
variable {x0 x1 x2 x3 : FVec Ideal S8192x512 .f32} {x4 : FVec Ideal S8192x2048 .f32} {x5 x6 : FVec Ideal S8192x1024 .f32}
  {x7 x8 : FVec Ideal S512x1024 .bf16} {x9 : FVec Ideal S1024x1024 .bf16} {x10 : FVec Ideal S1x1024 .f32}

/-- The arguments hold these rows and weights. -/
structure Holds (P : Wts) (R : Fin 8192 → Row) (x0 x1 x2 x3 : FVec Ideal S8192x512 .f32) (x4 : FVec Ideal S8192x2048 .f32)
    (x5 x6 : FVec Ideal S8192x1024 .f32) (x7 x8 : FVec Ideal S512x1024 .bf16) (x9 : FVec Ideal S1024x1024 .bf16)
    (x10 : FVec Ideal S1x1024 .f32) : Prop where
  a : ∀ p k, x0 (ix2 p k) = (R p).a k
  b : ∀ p k, x1 (ix2 p k) = (R p).b k
  za : ∀ p k, x2 (ix2 p k) = (R p).za k
  zb : ∀ p k, x3 (ix2 p k) = (R p).zb k
  ga : ∀ p (j : Fin 1024), x4 (ix2 p ⟨j.val, by omega⟩) = (R p).ga j
  gb : ∀ p (j : Fin 1024), x4 (ix2 p ⟨1024 + j.val, by omega⟩) = (R p).gb j
  x : ∀ p j, x5 (ix2 p j) = (R p).x j
  t : ∀ p j, x6 (ix2 p j) = (R p).t j
  u : ∀ k j, x7 (ix2 k j) = P.u k j
  v : ∀ k j, x8 (ix2 k j) = P.v k j
  w : ∀ k j, x9 (ix2 k j) = P.w k j
  g : ∀ j, x10 (ix2 0 j) = P.g j

theorem holds (x0 x1 x2 x3 : FVec Ideal S8192x512 .f32) (x4 : FVec Ideal S8192x2048 .f32) (x5 x6 : FVec Ideal S8192x1024 .f32)
    (x7 x8 : FVec Ideal S512x1024 .bf16) (x9 : FVec Ideal S1024x1024 .bf16) (x10 : FVec Ideal S1x1024 .f32) :
    Holds (wts x7 x8 x9 x10) (rows x0 x1 x2 x3 x4 x5 x6) x0 x1 x2 x3 x4 x5 x6 x7 x8 x9 x10 :=
  ⟨fun _ _ => rfl, fun _ _ => rfl, fun _ _ => rfl, fun _ _ => rfl, fun _ _ => rfl, fun _ _ => rfl, fun _ _ => rfl, fun _ _ => rfl,
    fun _ _ => rfl, fun _ _ => rfl, fun _ _ => rfl, fun _ => rfl⟩

/-- The gate's activation as the quotient the reference writes. -/
theorem sig2 (i : S8192x512.Idx) : val_main_v3_2 (F := Ideal) x2 i = Ideal.logistic (x2 i) := by
  pointwise [val_main_v3_2, val_main_call0_v0, val_main_call0_v1, val_main_call0_cst, val_main_call0_v2, val_main_call0_v3, val_main_call0_cst_0,
    val_main_call0_v4]
  rfl

theorem sig3 (i : S8192x512.Idx) : val_main_v6_2 (F := Ideal) x3 i = Ideal.logistic (x3 i) := by
  pointwise [val_main_v6_2, val_main_call1_v0, val_main_call1_v1, val_main_call1_cst, val_main_call1_v2, val_main_call1_v3, val_main_call1_cst_0,
    val_main_call1_v4]
  rfl

variable (H : Holds P R x0 x1 x2 x3 x4 x5 x6 x7 x8 x9 x10)
include H

theorem am_at (p : Fin 8192) (k : Fin 512) : val_main_v4 (F := Ideal) x0 x2 (ix2 p k) = am (R p) k := by
  pointwise [val_main_v4, val_main_v3_0, sig2, H.a, H.za]
  rfl

theorem bm_at (p : Fin 8192) (k : Fin 512) : val_main_v7 (F := Ideal) x1 x3 (ix2 p k) = bm (R p) k := by
  pointwise [val_main_v7, val_main_v6_0, sig3, H.b, H.zb]
  rfl

theorem ya_at (p : Fin 8192) (j : Fin 1024) : val_main_v5 (F := Ideal) x0 x2 x7 (ix2 p j) = ya P (R p) j := by
  pointwise [val_main_v5, val_main_v0, am_at H, H.u]
  rfl

theorem yb_at (p : Fin 8192) (j : Fin 1024) : val_main_v8 (F := Ideal) x1 x3 x8 (ix2 p j) = yb P (R p) j := by
  pointwise [val_main_v8, val_main_v1, bm_at H, H.v]
  rfl

theorem sga_at (p : Fin 8192) (j : Fin 1024) : val_main_v15 (F := Ideal) x4 (ix2 p j) = Ideal.logistic ((R p).ga j) := by
  rw [← H.ga]
  pointwise [val_main_v15, val_main_v14, val_main_v13, val_main_v12, val_main_v11, val_main_v10, val_main_v9, val_main_cst, val_main_cst_0]
  rfl

theorem sgb_at (p : Fin 8192) (j : Fin 1024) : val_main_v26 (F := Ideal) x4 (ix2 p j) = Ideal.logistic ((R p).gb j) := by
  rw [← H.gb]
  pointwise [val_main_v26, val_main_v25, val_main_v24, val_main_v23, val_main_v22, val_main_v21, val_main_v20, val_main_cst_2, val_main_cst_3]
  rfl

theorem merged_at (p : Fin 8192) (j : Fin 1024) : val_main_v31 (F := Ideal) x0 x1 x2 x3 x4 x7 x8 (ix2 p j) = merged P (R p) j := by
  pointwise [val_main_v31, val_main_v30, val_main_v19, sga_at H, sgb_at H, ya_at H, yb_at H]
  rfl

theorem out_at (p : Fin 8192) (j : Fin 1024) : val_main_v32 (F := Ideal) x0 x1 x2 x3 x4 x7 x8 x9 (ix2 p j) = out P (R p) j := by
  pointwise [val_main_v32, val_main_v2, merged_at H, H.w]
  rfl

theorem ms_at (p : Fin 8192) : val_main_v39 (F := Ideal) x0 x1 x2 x3 x4 x7 x8 x9 (ix2 p 0) = ms P (R p) := by
  pointwise [val_main_v39, val_main_v38, val_main_v37, val_main_v36, val_main_v35, val_main_v34, val_main_v33, val_main_cst_5, val_main_cst_6,
    val_main_cst_7, out_at H]
  rfl

theorem rs_at (p : Fin 8192) : val_main_v40 (F := Ideal) x0 x1 x2 x3 x4 x7 x8 x9 (ix2 p 0) = rs P (R p) := by
  pointwise [val_main_v40, ms_at H]
  rfl

theorem err_at (p : Fin 8192) (j : Fin 1024) : val_main_v49 (F := Ideal) x0 x1 x2 x3 x4 x5 x6 x7 x8 x9 x10 (ix2 p j) = err P (R p) j := by
  pointwise [val_main_v49, val_main_v48, val_main_v47, val_main_v46, val_main_v45, val_main_v44, out_at H, rs_at H, H.x, H.t, H.g]
  rfl

theorem dx_at (p : Fin 8192) (j : Fin 1024) : val_main_v63 (F := Ideal) x0 x1 x2 x3 x4 x5 x6 x7 x8 x9 x10 (ix2 p j) = dx P (R p) j := by
  pointwise [val_main_v63, val_main_v62, val_main_v61, val_main_v60, val_main_v59, val_main_v58, val_main_v52, val_main_v51, val_main_cst_9,
    val_main_cst_14, val_main_cst_15, val_main_cst_16, err_at H]
  unfold dx
  rw [word_half, word_two, word_inv1024, word_1024, div_1024, ← mul_assoc, ← EReal.coe_mul, mul_comm]
  norm_num

theorem gd_at (p : Fin 8192) (j : Fin 1024) : val_main_v68 (F := Ideal) x0 x1 x2 x3 x4 x5 x6 x7 x8 x9 x10 (ix2 p j) = gd P (R p) j := by
  pointwise [val_main_v68, val_main_v67, dx_at H, H.g]
  rfl

/-- The gain's gradient. -/
theorem dg_at (j : Fin 1024) : val_main_v66 (F := Ideal) x0 x1 x2 x3 x4 x5 x6 x7 x8 x9 x10 (ix2 0 j)
    = ∑ p : Fin 8192, dx P (R p) j * out P (R p) j * rs P (R p) := by
  pointwise [val_main_v66, val_main_v65, val_main_v64, val_main_v45, val_main_v44, val_main_cst_17, out_at H, rs_at H, dx_at H]
  exact Finset.sum_congr rfl fun p _ => by rw [mul_comm, mul_assoc]

variable (hP : P.Real) (hR : ∀ p, (R p).Real)
include hP hR

theorem dout_at (p : Fin 8192) (j : Fin 1024) : val_main_v82 (F := Ideal) x0 x1 x2 x3 x4 x5 x6 x7 x8 x9 x10 (ix2 p j) = dout P (R p) j := by
  pointwise [val_main_v82, val_main_v81, val_main_v80, val_main_v79, val_main_v78, val_main_v77, val_main_v76, val_main_v75, val_main_v74, val_main_v73,
    val_main_v72, val_main_v71, val_main_v70, val_main_v69, val_main_v43, val_main_v42, val_main_v41, val_main_cst_8, val_main_cst_18,
    val_main_cst_19, val_main_cst_20, out_at H, gd_at H, rs_at H, ms_at H]
  simp only [Fin.sum_univ_one, Fin.isValue, ms_at H, rs_at H]
  exact dout_steps hP (hR p) j

theorem dm_at (p : Fin 8192) (j : Fin 1024) : val_main_v85 (F := Ideal) x0 x1 x2 x3 x4 x5 x6 x7 x8 x9 x10 (ix2 p j) = dm P (R p) j := by
  pointwise [val_main_v85, val_main_v2, dout_at H hP hR, H.w]
  rfl

theorem da_at (p : Fin 8192) (j : Fin 1024) : val_main_v90 (F := Ideal) x0 x1 x2 x3 x4 x5 x6 x7 x8 x9 x10 (ix2 p j) = da P (R p) j := by
  pointwise [val_main_v90, sga_at H, dm_at H hP hR]
  exact mul_comm _ _

theorem db_at (p : Fin 8192) (j : Fin 1024) : val_main_v86 (F := Ideal) x0 x1 x2 x3 x4 x5 x6 x7 x8 x9 x10 (ix2 p j) = db P (R p) j := by
  pointwise [val_main_v86, sgb_at H, dm_at H hP hR]
  exact mul_comm _ _

theorem dga_at (p : Fin 8192) (j : Fin 1024) : val_main_v92 (F := Ideal) x0 x1 x2 x3 x4 x5 x6 x7 x8 x9 x10 (ix2 p j) = dga P (R p) j := by
  pointwise [val_main_v92, val_main_v91, val_main_v18, val_main_v17, val_main_v16, val_main_cst_1, sga_at H, dm_at H hP hR, ya_at H]
  exact (mul_assoc _ _ _).symm

theorem dgb_at (p : Fin 8192) (j : Fin 1024) : val_main_v88 (F := Ideal) x0 x1 x2 x3 x4 x5 x6 x7 x8 x9 x10 (ix2 p j) = dgb P (R p) j := by
  pointwise [val_main_v88, val_main_v87, val_main_v29, val_main_v28, val_main_v27, val_main_cst_4, sgb_at H, dm_at H hP hR, yb_at H]
  exact (mul_assoc _ _ _).symm

/-- The merge gates' gradients, side by side. -/
theorem dg_left (p : Fin 8192) (j : Fin 1024) :
    val_main_v109 (F := Ideal) x0 x1 x2 x3 x4 x5 x6 x7 x8 x9 x10 (ix2 p ⟨j.val, by omega⟩) = dga P (R p) j := by
  rw [← dga_at H hP hR]
  pointwise [val_main_v109, val_main_v94, val_main_v93, val_main_v89, val_main_cst_21, val_main_cst_22]
  rw [dif_neg (by simp), zero_add]

theorem dg_right (p : Fin 8192) (j : Fin 1024) :
    val_main_v109 (F := Ideal) x0 x1 x2 x3 x4 x5 x6 x7 x8 x9 x10 (ix2 p ⟨1024 + j.val, by omega⟩) = dgb P (R p) j := by
  rw [← dgb_at H hP hR]
  pointwise [val_main_v109, val_main_v94, val_main_v93, val_main_v89, val_main_cst_21, val_main_cst_22]

theorem dwout_at (i j : Fin 1024) : val_main_v84 (F := Ideal) x0 x1 x2 x3 x4 x5 x6 x7 x8 x9 x10 (ix2 i j)
    = ∑ p : Fin 8192, merged P (R p) i * dout P (R p) j := by
  pointwise [val_main_v84, val_main_v83, dout_at H hP hR, merged_at H]
  exact Finset.sum_congr rfl fun p _ => mul_comm _ _

theorem dwua_at (k : Fin 512) (j : Fin 1024) : val_main_v102 (F := Ideal) x0 x1 x2 x3 x4 x5 x6 x7 x8 x9 x10 (ix2 k j)
    = ∑ p : Fin 8192, am (R p) k * da P (R p) j := by
  pointwise [val_main_v102, val_main_v101, da_at H hP hR, am_at H]
  exact Finset.sum_congr rfl fun p _ => mul_comm _ _

theorem dwur_at (k : Fin 512) (j : Fin 1024) : val_main_v96 (F := Ideal) x0 x1 x2 x3 x4 x5 x6 x7 x8 x9 x10 (ix2 k j)
    = ∑ p : Fin 8192, bm (R p) k * db P (R p) j := by
  pointwise [val_main_v96, val_main_v95, db_at H hP hR, bm_at H]
  exact Finset.sum_congr rfl fun p _ => mul_comm _ _

theorem dam_at (p : Fin 8192) (k : Fin 512) : val_main_v103 (F := Ideal) x0 x1 x2 x3 x4 x5 x6 x7 x8 x9 x10 (ix2 p k) = dam P (R p) k := by
  pointwise [val_main_v103, val_main_v0, da_at H hP hR, H.u]
  rfl

theorem dbm_at (p : Fin 8192) (k : Fin 512) : val_main_v97 (F := Ideal) x0 x1 x2 x3 x4 x5 x6 x7 x8 x9 x10 (ix2 p k) = dbm P (R p) k := by
  pointwise [val_main_v97, val_main_v1, db_at H hP hR, H.v]
  rfl

theorem doa_at (p : Fin 8192) (k : Fin 512) : val_main_v105 (F := Ideal) x0 x1 x2 x3 x4 x5 x6 x7 x8 x9 x10 (ix2 p k) = doa P (R p) k := by
  pointwise [val_main_v105, val_main_v3_0, sig2, dam_at H hP hR, H.za]
  rfl

theorem dob_at (p : Fin 8192) (k : Fin 512) : val_main_v99 (F := Ideal) x0 x1 x2 x3 x4 x5 x6 x7 x8 x9 x10 (ix2 p k) = dob P (R p) k := by
  pointwise [val_main_v99, val_main_v6_0, sig3, dbm_at H hP hR, H.zb]
  rfl

theorem dza_at (p : Fin 8192) (k : Fin 512) : val_main_v107 (F := Ideal) x0 x1 x2 x3 x4 x5 x6 x7 x8 x9 x10 (ix2 p k) = dza P (R p) k := by
  pointwise [val_main_v107, val_main_v106, val_main_call3_v0, val_main_call3_v1, val_main_call3_v2, val_main_v104, val_main_v3_1, val_main_call0_v7,
    val_main_call0_v6, val_main_call0_cst_1, sig2, dam_at H hP hR, H.a, H.za]
  rw [dsilu_steps ((hR p).za k) (((hR p).a k).mul (isReal_dam hP (hR p) k)), mul_comm ((R p).a k)]
  rfl

theorem dzb_at (p : Fin 8192) (k : Fin 512) : val_main_v108 (F := Ideal) x0 x1 x2 x3 x4 x5 x6 x7 x8 x9 x10 (ix2 p k) = dzb P (R p) k := by
  pointwise [val_main_v108, val_main_v100, val_main_call2_v0, val_main_call2_v1, val_main_call2_v2, val_main_v98, val_main_v6_1, val_main_call1_v7,
    val_main_call1_v6, val_main_call1_cst_1, sig3, dbm_at H hP hR, H.b, H.zb]
  rw [dsilu_steps ((hR p).zb k) (((hR p).b k).mul (isReal_dbm hP (hR p) k)), mul_comm ((R p).b k)]
  rfl

/-- The loss, its mean taken over the rows' sums. -/
theorem loss_at : val_main_v110 (F := Ideal) x0 x1 x2 x3 x4 x5 x6 x7 x8 x9 x10 (ix2 0 0)
    = (∑ j : Fin 1024, ∑ p : Fin 8192, err P (R p) j * err P (R p) j) * Ideal.ofBits .f32 0x3A000000#32 := by
  pointwise [val_main_v110, val_main_v57, val_main_v56, val_main_v55, val_main_v54, val_main_v53, val_main_v50, val_main_cst_10, val_main_cst_11,
    val_main_cst_12, val_main_cst_13, err_at H]
  choose f hf using fun p => isReal_err hP (hR p)
  simp only [hf, ← EReal.coe_mul, ← coe_sum, word_1024, div_1024, word_half, word_inv2048]
  congr 1
  rw [← Finset.sum_div, Finset.sum_comm]
  ring

end Cert.Reference2Ideal.Head

end
-- ==== Proof.HeadPre.lean ====
/- What the loss head's precondition says: its arguments are arrays of real numbers. -/
module

public import proofs.«01_k».proof.Proof.Reals
public import proofs.«01_k».proof.Proof.HeadReal
public import proofs.«01_k».proof.Proof.Gen.Pre_finite_head
public import Idealize.ShloMosaic.Lib.ReduceAll
public import Idealize.ShloMosaic.Lib.Affine
public import Idealize.ShloMosaic.Lib.Pointwise

@[expose] public section

noncomputable section

open Idealize.ShloMosaic Idealize.ShloMosaic.TcCoe

namespace Cert.Reals

/-- A test that every entry of an array lies strictly between the infinities. -/
theorem real_of_all {S T : Shape} [Subsingleton T.Idx] {f : FTy} {ax : List (Fin S.rank)} (x y : FVec Ideal S f) (hy : ∀ i, y i = Ideal.ofBits .f32 0x7F800000#32) (v : IVec T 1)
    (h : S.ReducesTo ax T) (hT : 0 < T.numel) (j : T.Idx)
    (e : Host.reduce IntOp.andi (cmpf .olt (Host.absf x) y) v h hT j = 1#1) (i : S.Idx) : IsReal (x i) := by
  have := Host.reduce_andi_all _ _ _ _ j e i
  pointwise [] at this
  rw [hy] at this
  exact real_of_test this

end Cert.Reals

namespace Cert.Pre_finite_head

open Cert.Reals Cert.Head

variable (x0 x1 x2 x3 : FVec Ideal S8192x512 .f32) (x4 : FVec Ideal S8192x2048 .f32) (x5 x6 : FVec Ideal S8192x1024 .f32)
  (x7 x8 : FVec Ideal S512x1024 .bf16) (x9 : FVec Ideal S1024x1024 .bf16) (x10 : FVec Ideal S1x1024 .f32)

theorem reals (h : fn (F := Ideal) x0 x1 x2 x3 x4 x5 x6 x7 x8 x9 x10 = fun _ => 1#1) :
    (wts x7 x8 x9 x10).Real ∧ ∀ p, (rows x0 x1 x2 x3 x4 x5 x6 p).Real := by
  have h0 := congrFun h ix0
  unfold fn fn_part1 fn_part2 at h0
  obtain ⟨h0, e10⟩ := IntOp.andi_eq_one.mp h0
  obtain ⟨h0, e9⟩ := IntOp.andi_eq_one.mp h0
  obtain ⟨h0, e8⟩ := IntOp.andi_eq_one.mp h0
  obtain ⟨h0, e7⟩ := IntOp.andi_eq_one.mp h0
  obtain ⟨h0, e6⟩ := IntOp.andi_eq_one.mp h0
  obtain ⟨h0, e5⟩ := IntOp.andi_eq_one.mp h0
  obtain ⟨h0, e3⟩ := IntOp.andi_eq_one.mp h0
  obtain ⟨h0, e2⟩ := IntOp.andi_eq_one.mp h0
  obtain ⟨e0, e1⟩ := IntOp.andi_eq_one.mp h0
  refine ⟨⟨fun k j => ?_, fun k j => ?_, fun k j => ?_, fun j => ?_⟩, fun p => ⟨fun k => ?_, fun k => ?_, fun k => ?_, fun k => ?_, fun j => ?_, fun j => ?_⟩⟩
  · exact real_of_all _ _ (fun _ => rfl) _ _ _ _ e7 (ix2 k j)
  · exact real_of_all _ _ (fun _ => rfl) _ _ _ _ e8 (ix2 k j)
  · exact real_of_all _ _ (fun _ => rfl) _ _ _ _ e9 (ix2 k j)
  · exact real_of_all _ _ (fun _ => rfl) _ _ _ _ e10 (ix2 0 j)
  · exact real_of_all _ _ (fun _ => rfl) _ _ _ _ e0 (ix2 p k)
  · exact real_of_all _ _ (fun _ => rfl) _ _ _ _ e1 (ix2 p k)
  · exact real_of_all _ _ (fun _ => rfl) _ _ _ _ e2 (ix2 p k)
  · exact real_of_all _ _ (fun _ => rfl) _ _ _ _ e3 (ix2 p k)
  · exact real_of_all _ _ (fun _ => rfl) _ _ _ _ e5 (ix2 p j)
  · exact real_of_all _ _ (fun _ => rfl) _ _ _ _ e6 (ix2 p j)

end Cert.Pre_finite_head

end
-- ==== Proof.HeadPay.lean ====
/- What the loss head's body computes of one block of rows, row by row. -/
module

public import proofs.«01_k».proof.Proof.Gen.Kernel2Ideal.Skeleton
public import proofs.«01_k».proof.Proof.HeadRow
public import Idealize.ShloMosaic.Lib.Pointwise

@[expose] public section

set_option maxRecDepth 16384

noncomputable section

open Idealize.ShloMosaic Idealize.ShloMosaic.TcCoe Idealize.SL.Sem

namespace Cert.Kernel2Ideal.Head

open Cert.Kernel2Ideal Cert.Kernel2Ideal.Gen Cert.Head

variable (P : Wts) (R : Fin 256 → Row)
variable {v0 v1 v2 v3 : FVec Ideal S256x512 .f32} {v4 v5 x t : FVec Ideal S256x1024 .f32} {u v : FVec Ideal S512x1024 .bf16}
  {w : FVec Ideal S1024x1024 .bf16} {g : FVec Ideal S1x1024 .f32}

theorem am_at (h0 : ∀ p k, v0 (ix2 p k) = (R p).a k) (h2 : ∀ p k, v2 (ix2 p k) = (R p).za k) (p : Fin 256) (k : Fin 512) :
    k0_pay10 (F := Ideal) v0 v2 (ix2 p k) = am (R p) k := by
  pointwise [k0_pay10, h0, h2]
  rfl

theorem bm_at (h1 : ∀ p k, v1 (ix2 p k) = (R p).b k) (h3 : ∀ p k, v3 (ix2 p k) = (R p).zb k) (p : Fin 256) (k : Fin 512) :
    k0_pay11 (F := Ideal) v1 v3 (ix2 p k) = bm (R p) k := by
  pointwise [k0_pay11, h1, h3]
  rfl

theorem ya_at (h0 : ∀ p k, v0 (ix2 p k) = (R p).a k) (h2 : ∀ p k, v2 (ix2 p k) = (R p).za k) (hu : ∀ k j, u (ix2 k j) = P.u k j)
    (p : Fin 256) (j : Fin 1024) : k0_pay12 (F := Ideal) v0 v2 u (ix2 p j) = ya P (R p) j := by
  pointwise [k0_pay12, am_at R h0 h2, hu]
  rfl

theorem yb_at (h1 : ∀ p k, v1 (ix2 p k) = (R p).b k) (h3 : ∀ p k, v3 (ix2 p k) = (R p).zb k) (hv : ∀ k j, v (ix2 k j) = P.v k j)
    (p : Fin 256) (j : Fin 1024) : k0_pay13 (F := Ideal) v1 v3 v (ix2 p j) = yb P (R p) j := by
  pointwise [k0_pay13, bm_at R h1 h3, hv]
  rfl

/-- The blocks of a point hold these rows and weights. -/
structure Holds (v0 v1 v2 v3 : FVec Ideal S256x512 .f32) (v4 v5 x t : FVec Ideal S256x1024 .f32) (u v : FVec Ideal S512x1024 .bf16)
    (w : FVec Ideal S1024x1024 .bf16) (g : FVec Ideal S1x1024 .f32) : Prop where
  a : ∀ p k, v0 (ix2 p k) = (R p).a k
  b : ∀ p k, v1 (ix2 p k) = (R p).b k
  za : ∀ p k, v2 (ix2 p k) = (R p).za k
  zb : ∀ p k, v3 (ix2 p k) = (R p).zb k
  ga : ∀ p j, v4 (ix2 p j) = (R p).ga j
  gb : ∀ p j, v5 (ix2 p j) = (R p).gb j
  x : ∀ p j, x (ix2 p j) = (R p).x j
  t : ∀ p j, t (ix2 p j) = (R p).t j
  u : ∀ k j, u (ix2 k j) = P.u k j
  v : ∀ k j, v (ix2 k j) = P.v k j
  w : ∀ k j, w (ix2 k j) = P.w k j
  g : ∀ j, g (ix2 0 j) = P.g j

variable (H : Holds P R v0 v1 v2 v3 v4 v5 x t u v w g)
include H

theorem merged_at (p : Fin 256) (j : Fin 1024) : k0_pay16 (F := Ideal) v0 v1 v2 v3 v4 v5 u v (ix2 p j) = merged P (R p) j := by
  pointwise [k0_pay16, k0_pay14, k0_pay15, H.ga, H.gb, ya_at P R H.a H.za H.u, yb_at P R H.b H.zb H.v]
  rfl

theorem out_at (p : Fin 256) (j : Fin 1024) : k0_pay17 (F := Ideal) v0 v1 v2 v3 v4 v5 u v w (ix2 p j) = out P (R p) j := by
  pointwise [k0_pay17, merged_at P R H, H.w]
  rfl

theorem rs_at (p : Fin 256) : k0_pay18 (F := Ideal) v0 v1 v2 v3 v4 v5 u v w (ix2 p 0) = rs P (R p) := by
  pointwise [k0_pay18, out_at P R H]
  rfl

theorem err_at (p : Fin 256) (j : Fin 1024) : k0_pay19 (F := Ideal) (k0_pay17 (F := Ideal) v0 v1 v2 v3 v4 v5 u v w)
    (k0_pay18 (F := Ideal) v0 v1 v2 v3 v4 v5 u v w) g x t (ix2 p j) = err P (R p) j := by
  pointwise [k0_pay19, H.g, H.x, H.t, out_at P R H, rs_at P R H]
  rfl

theorem dx_at (p : Fin 256) (j : Fin 1024) : k0_pay21 (F := Ideal) (k0_pay17 (F := Ideal) v0 v1 v2 v3 v4 v5 u v w)
    (k0_pay18 (F := Ideal) v0 v1 v2 v3 v4 v5 u v w) g x t (ix2 p j) = dx P (R p) j := by
  pointwise [k0_pay21, err_at P R H]
  rfl

theorem dout_at (p : Fin 256) (j : Fin 1024) : k0_pay23 (F := Ideal) (k0_pay17 (F := Ideal) v0 v1 v2 v3 v4 v5 u v w)
    (k0_pay18 (F := Ideal) v0 v1 v2 v3 v4 v5 u v w) g x t (ix2 p j) = dout P (R p) j := by
  pointwise [k0_pay23, H.g, out_at P R H, rs_at P R H, dx_at P R H]
  rfl

theorem dm_at (p : Fin 256) (j : Fin 1024) : k0_pay24 (F := Ideal) (k0_pay17 (F := Ideal) v0 v1 v2 v3 v4 v5 u v w)
    (k0_pay18 (F := Ideal) v0 v1 v2 v3 v4 v5 u v w) g x t w (ix2 p j) = dm P (R p) j := by
  pointwise [k0_pay24, H.w, dout_at P R H]
  rfl

theorem sq_part (j : Fin 1024) : k0_pay20 (F := Ideal) (k0_pay17 (F := Ideal) v0 v1 v2 v3 v4 v5 u v w)
    (k0_pay18 (F := Ideal) v0 v1 v2 v3 v4 v5 u v w) g x t (ix2 0 j) = ∑ p : Fin 256, err P (R p) j * err P (R p) j := by
  pointwise [k0_pay20, err_at P R H]

theorem g_part (j : Fin 1024) : k0_pay22 (F := Ideal) (k0_pay17 (F := Ideal) v0 v1 v2 v3 v4 v5 u v w)
    (k0_pay18 (F := Ideal) v0 v1 v2 v3 v4 v5 u v w) g x t (ix2 0 j) = ∑ p : Fin 256, dx P (R p) j * out P (R p) j * rs P (R p) := by
  pointwise [k0_pay22, out_at P R H, rs_at P R H, dx_at P R H]

theorem w_part (i j : Fin 1024) : k0_pay25 (F := Ideal) (k0_pay16 (F := Ideal) v0 v1 v2 v3 v4 v5 u v) (k0_pay17 (F := Ideal) v0 v1 v2 v3 v4 v5 u v w)
    (k0_pay18 (F := Ideal) v0 v1 v2 v3 v4 v5 u v w) g x t (ix2 i j)
    = ∑ p : Fin 256, merged P (R p) i * dout P (R p) j := by
  pointwise [k0_pay25, merged_at P R H, dout_at P R H]

theorem da_at (p : Fin 256) (j : Fin 1024) : k0_pay26 (F := Ideal) (k0_pay14 (F := Ideal) v4) (k0_pay17 (F := Ideal) v0 v1 v2 v3 v4 v5 u v w)
    (k0_pay18 (F := Ideal) v0 v1 v2 v3 v4 v5 u v w) g x t w (ix2 p j) = da P (R p) j := by
  pointwise [k0_pay26, k0_pay14, H.ga, dm_at P R H]
  rfl

theorem db_at (p : Fin 256) (j : Fin 1024) : k0_pay27 (F := Ideal) (k0_pay15 (F := Ideal) v5) (k0_pay17 (F := Ideal) v0 v1 v2 v3 v4 v5 u v w)
    (k0_pay18 (F := Ideal) v0 v1 v2 v3 v4 v5 u v w) g x t w (ix2 p j) = db P (R p) j := by
  pointwise [k0_pay27, k0_pay15, H.gb, dm_at P R H]
  rfl

theorem dga_at (p : Fin 256) (j : Fin 1024) : k0_pay28 (F := Ideal) (k0_pay12 (F := Ideal) v0 v2 u) (k0_pay14 (F := Ideal) v4)
    (k0_pay24 (F := Ideal) (k0_pay17 (F := Ideal) v0 v1 v2 v3 v4 v5 u v w)
    (k0_pay18 (F := Ideal) v0 v1 v2 v3 v4 v5 u v w) g x t w) (ix2 p j) = dga P (R p) j := by
  pointwise [k0_pay28, k0_pay14, H.ga, dm_at P R H, ya_at P R H.a H.za H.u]
  rfl

theorem dgb_at (p : Fin 256) (j : Fin 1024) : k0_pay29 (F := Ideal) (k0_pay13 (F := Ideal) v1 v3 v) (k0_pay15 (F := Ideal) v5)
    (k0_pay24 (F := Ideal) (k0_pay17 (F := Ideal) v0 v1 v2 v3 v4 v5 u v w)
    (k0_pay18 (F := Ideal) v0 v1 v2 v3 v4 v5 u v w) g x t w) (ix2 p j) = dgb P (R p) j := by
  pointwise [k0_pay29, k0_pay15, H.gb, dm_at P R H, yb_at P R H.b H.zb H.v]
  rfl

theorem dam_at (p : Fin 256) (k : Fin 512) : k0_pay30 (F := Ideal) (k0_pay26 (F := Ideal) (k0_pay14 (F := Ideal) v4) (k0_pay17 (F := Ideal) v0 v1 v2 v3 v4 v5 u v w)
    (k0_pay18 (F := Ideal) v0 v1 v2 v3 v4 v5 u v w) g x t w) u (ix2 p k)
    = dam P (R p) k := by
  pointwise [k0_pay30, H.u, da_at P R H]
  rfl

theorem dbm_at (p : Fin 256) (k : Fin 512) : k0_pay31 (F := Ideal) (k0_pay27 (F := Ideal) (k0_pay15 (F := Ideal) v5) (k0_pay17 (F := Ideal) v0 v1 v2 v3 v4 v5 u v w)
    (k0_pay18 (F := Ideal) v0 v1 v2 v3 v4 v5 u v w) g x t w) v (ix2 p k)
    = dbm P (R p) k := by
  pointwise [k0_pay31, H.v, db_at P R H]
  rfl

theorem u_part (k : Fin 512) (j : Fin 1024) : k0_pay32 (F := Ideal) (k0_pay10 (F := Ideal) v0 v2)
    (k0_pay26 (F := Ideal) (k0_pay14 (F := Ideal) v4) (k0_pay17 (F := Ideal) v0 v1 v2 v3 v4 v5 u v w)
    (k0_pay18 (F := Ideal) v0 v1 v2 v3 v4 v5 u v w) g x t w) (ix2 k j) = ∑ p : Fin 256, am (R p) k * da P (R p) j := by
  pointwise [k0_pay32, am_at R H.a H.za, da_at P R H]

theorem v_part (k : Fin 512) (j : Fin 1024) : k0_pay33 (F := Ideal) (k0_pay11 (F := Ideal) v1 v3)
    (k0_pay27 (F := Ideal) (k0_pay15 (F := Ideal) v5) (k0_pay17 (F := Ideal) v0 v1 v2 v3 v4 v5 u v w)
    (k0_pay18 (F := Ideal) v0 v1 v2 v3 v4 v5 u v w) g x t w) (ix2 k j) = ∑ p : Fin 256, bm (R p) k * db P (R p) j := by
  pointwise [k0_pay33, bm_at R H.b H.zb, db_at P R H]

theorem doa_at (p : Fin 256) (k : Fin 512) : k0_pay34 (F := Ideal) v2 (k0_pay26 (F := Ideal) (k0_pay14 (F := Ideal) v4) (k0_pay17 (F := Ideal) v0 v1 v2 v3 v4 v5 u v w)
    (k0_pay18 (F := Ideal) v0 v1 v2 v3 v4 v5 u v w) g x t w) u (ix2 p k)
    = doa P (R p) k := by
  pointwise [k0_pay34, H.za, dam_at P R H]
  rfl

theorem dza_at (p : Fin 256) (k : Fin 512) : k0_pay35 (F := Ideal) v0 v2 (k0_pay26 (F := Ideal) (k0_pay14 (F := Ideal) v4) (k0_pay17 (F := Ideal) v0 v1 v2 v3 v4 v5 u v w)
    (k0_pay18 (F := Ideal) v0 v1 v2 v3 v4 v5 u v w) g x t w) u (ix2 p k)
    = dza P (R p) k := by
  pointwise [k0_pay35, H.a, H.za, dam_at P R H]
  rfl

theorem dob_at (p : Fin 256) (k : Fin 512) : k0_pay1 (F := Ideal) v3
    (k0_pay31 (F := Ideal) (k0_pay27 (F := Ideal) (k0_pay15 (F := Ideal) v5) (k0_pay17 (F := Ideal) v0 v1 v2 v3 v4 v5 u v w)
    (k0_pay18 (F := Ideal) v0 v1 v2 v3 v4 v5 u v w) g x t w) v) (k0_pay36 (F := Ideal) v3) (ix2 p k)
    = dob P (R p) k := by
  pointwise [k0_pay1, k0_pay36, H.zb, dbm_at P R H]
  rfl

theorem dzb_at (p : Fin 256) (k : Fin 512) : k0_pay2 (F := Ideal) v1 v3
    (k0_pay31 (F := Ideal) (k0_pay27 (F := Ideal) (k0_pay15 (F := Ideal) v5) (k0_pay17 (F := Ideal) v0 v1 v2 v3 v4 v5 u v w)
    (k0_pay18 (F := Ideal) v0 v1 v2 v3 v4 v5 u v w) g x t w) v) (ix2 p k) = dzb P (R p) k := by
  pointwise [k0_pay2, H.b, H.zb, dbm_at P R H]
  rfl

end Cert.Kernel2Ideal.Head

end
-- ==== Proof.HeadKernel.lean ====
/- What the loss head's kernel leaves in its result arrays. -/
module

public import proofs.«01_k».proof.Proof.Gen.Kernel2Ideal.Frame
public import proofs.«01_k».proof.Proof.HeadPay
public import Idealize.ShloMosaic.Lib.Pipeline.ValueKit

@[expose] public section

set_option maxRecDepth 16384
set_option maxHeartbeats 4000000

noncomputable section

open Idealize.ShloMosaic Idealize.ShloMosaic.TcCoe

namespace Cert.Kernel2Ideal.Head

open Cert.Kernel2Ideal Cert.Kernel2Ideal.Gen Cert.Head

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![0, 0] ∧ win0_8.index t = ![0, 0] ∧ win0_9.index t = ![0, 0] ∧ win0_10.index t = ![0, 0]
    ∧ win0_11.index t = ![t.val, 0] ∧ win0_12.index t = ![t.val, 0] ∧ win0_13.index t = ![t.val, 0] ∧ win0_14.index t = ![t.val, 0]
    ∧ win0_15.index t = ![t.val, 0] ∧ win0_16.index t = ![t.val, 0] :=
  (by decide +kernel : ∀ t : Fin grid0.N, _)

/-- The rows and the weights of the launch's arguments. -/
abbrev R (p : Fin 8192) : Row :=
  rows (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) p

abbrev P : Wts :=
  wts (m ((c : Thread nD τ).loc main_arg7)) (m ((c : Thread nD τ).loc main_arg8)) (m ((c : Thread nD τ).loc main_arg9))
    (m ((c : Thread nD τ).loc main_arg10))

/-- The number of a row among all. -/
def row (t : Fin cfg0.N) (p : Fin 256) : Fin 8192 := ⟨256 * t.val + p.val, by have : t.val < 32 := t.isLt; omega⟩

theorem kinds (t : Fin cfg0.N) : (t.val % 32 = 0 ∧ ¬1 ≤ t.val ∧ ¬t.val % 32 = 31) ∨ (¬t.val % 32 = 0 ∧ 1 ≤ t.val ∧ ¬t.val % 32 = 31)
    ∨ (¬t.val % 32 = 0 ∧ 1 ≤ t.val ∧ t.val % 32 = 31) := by
  have : t.val < 32 := t.isLt
  omega

/-- The blocks of a point hold its rows. -/
theorem holds (t : Fin cfg0.N) (v4 v5 : FVec Ideal S256x1024 .f32) (h4 : ∀ p (j : Fin 1024), v4 (ix2 p j) = iblk m c 4 t (ix2 p ⟨j.val, by omega⟩))
    (h5 : ∀ p (j : Fin 1024), v5 (ix2 p j) = iblk m c 4 t (ix2 p ⟨1024 + j.val, by omega⟩)) :
    Holds (P m c) (fun p => R m c (row t p)) (iblk m c 0 t) (iblk m c 1 t) (iblk m c 2 t) (iblk m c 3 t) v4 v5 (iblk m c 5 t) (iblk m c 6 t)
      (iblk m c 7 t) (iblk m c 8 t) (iblk m c 9 t) (iblk m c 10 t) where
  a p k := by blk_ext [iblk, V, idx t, R, rows, row]
  b p k := by blk_ext [iblk, V, idx t, R, rows, row]
  za p k := by blk_ext [iblk, V, idx t, R, rows, row]
  zb p k := by blk_ext [iblk, V, idx t, R, rows, row]
  ga p j := (h4 p j).trans (by blk_ext [iblk, V, idx t, R, rows, row])
  gb p j := (h5 p j).trans (by blk_ext [iblk, V, idx t, R, rows, row])
  x p j := by blk_ext [iblk, V, idx t, R, rows, row]
  t p j := by blk_ext [iblk, V, idx t, R, rows, row]
  u k j := by blk_ext [iblk, V, idx t, P, wts]
  v k j := by blk_ext [iblk, V, idx t, P, wts]
  w k j := by blk_ext [iblk, V, idx t, P, wts]
  g j := by blk_ext [iblk, V, idx t, P, wts]

theorem out11 (t : Fin cfg0.N) (p : Fin 256) (j : Fin 1024) :
    (outsAt0 m c t.val t.isLt).1 (ix2 p j) = dx (P m c) (R m c (row t p)) j := by
  obtain ⟨h0, h1, h2⟩ | ⟨h0, h1, h2⟩ | ⟨h0, h1, h2⟩ := kinds t
  · rw [outsAt0_A m c t h0 h1 h2]; frame_out
    refine dx_at (P m c) (fun p => R m c (row t p)) ?_ p j
    exact holds m c t _ _ (fun p j => by pointwise []) (fun p j => by pointwise [])
  · rw [outsAt0_B m c t h0 h1 h2]; frame_out
    refine dx_at (P m c) (fun p => R m c (row t p)) ?_ p j
    exact holds m c t _ _ (fun p j => by pointwise []) (fun p j => by pointwise [])
  · rw [outsAt0_C m c t h0 h1 h2]; frame_out
    refine dx_at (P m c) (fun p => R m c (row t p)) ?_ p j
    exact holds m c t _ _ (fun p j => by pointwise []) (fun p j => by pointwise [])

/-- The gradient at the attention's output. -/
theorem out12 (t : Fin cfg0.N) (p : Fin 256) (j : Fin 512) :
    (outsAt0 m c t.val t.isLt).2.1 (ix2 p j) = doa (P m c) (R m c (row t p)) j := by
  obtain ⟨h0, h1, h2⟩ | ⟨h0, h1, h2⟩ | ⟨h0, h1, h2⟩ := kinds t
  · rw [outsAt0_A m c t h0 h1 h2]; frame_out
    refine doa_at (P m c) (fun p => R m c (row t p)) ?_ p j
    exact holds m c t _ _ (fun p j => by pointwise []) (fun p j => by pointwise [])
  · rw [outsAt0_B m c t h0 h1 h2]; frame_out
    refine doa_at (P m c) (fun p => R m c (row t p)) ?_ p j
    exact holds m c t _ _ (fun p j => by pointwise []) (fun p j => by pointwise [])
  · rw [outsAt0_C m c t h0 h1 h2]; frame_out
    refine doa_at (P m c) (fun p => R m c (row t p)) ?_ p j
    exact holds m c t _ _ (fun p j => by pointwise []) (fun p j => by pointwise [])

/-- The gradient at the recurrence's output. -/
theorem out13 (t : Fin cfg0.N) (p : Fin 256) (j : Fin 512) :
    (outsAt0 m c t.val t.isLt).2.2.1 (ix2 p j) = dob (P m c) (R m c (row t p)) j := by
  obtain ⟨h0, h1, h2⟩ | ⟨h0, h1, h2⟩ | ⟨h0, h1, h2⟩ := kinds t
  · rw [outsAt0_A m c t h0 h1 h2]; frame_out
    refine dob_at (P m c) (fun p => R m c (row t p)) ?_ p j
    exact holds m c t _ _ (fun p j => by pointwise []) (fun p j => by pointwise [])
  · rw [outsAt0_B m c t h0 h1 h2]; frame_out
    refine dob_at (P m c) (fun p => R m c (row t p)) ?_ p j
    exact holds m c t _ _ (fun p j => by pointwise []) (fun p j => by pointwise [])
  · rw [outsAt0_C m c t h0 h1 h2]; frame_out
    refine dob_at (P m c) (fun p => R m c (row t p)) ?_ p j
    exact holds m c t _ _ (fun p j => by pointwise []) (fun p j => by pointwise [])

/-- The gradient at the attention's gate. -/
theorem out14 (t : Fin cfg0.N) (p : Fin 256) (j : Fin 512) :
    (outsAt0 m c t.val t.isLt).2.2.2.1 (ix2 p j) = dza (P m c) (R m c (row t p)) j := by
  obtain ⟨h0, h1, h2⟩ | ⟨h0, h1, h2⟩ | ⟨h0, h1, h2⟩ := kinds t
  · rw [outsAt0_A m c t h0 h1 h2]; frame_out
    refine dza_at (P m c) (fun p => R m c (row t p)) ?_ p j
    exact holds m c t _ _ (fun p j => by pointwise []) (fun p j => by pointwise [])
  · rw [outsAt0_B m c t h0 h1 h2]; frame_out
    refine dza_at (P m c) (fun p => R m c (row t p)) ?_ p j
    exact holds m c t _ _ (fun p j => by pointwise []) (fun p j => by pointwise [])
  · rw [outsAt0_C m c t h0 h1 h2]; frame_out
    refine dza_at (P m c) (fun p => R m c (row t p)) ?_ p j
    exact holds m c t _ _ (fun p j => by pointwise []) (fun p j => by pointwise [])

/-- The gradient at the recurrence's gate. -/
theorem out15 (t : Fin cfg0.N) (p : Fin 256) (j : Fin 512) :
    (outsAt0 m c t.val t.isLt).2.2.2.2.1 (ix2 p j) = dzb (P m c) (R m c (row t p)) j := by
  obtain ⟨h0, h1, h2⟩ | ⟨h0, h1, h2⟩ | ⟨h0, h1, h2⟩ := kinds t
  · rw [outsAt0_A m c t h0 h1 h2]; frame_out
    refine dzb_at (P m c) (fun p => R m c (row t p)) ?_ p j
    exact holds m c t _ _ (fun p j => by pointwise []) (fun p j => by pointwise [])
  · rw [outsAt0_B m c t h0 h1 h2]; frame_out
    refine dzb_at (P m c) (fun p => R m c (row t p)) ?_ p j
    exact holds m c t _ _ (fun p j => by pointwise []) (fun p j => by pointwise [])
  · rw [outsAt0_C m c t h0 h1 h2]; frame_out
    refine dzb_at (P m c) (fun p => R m c (row t p)) ?_ p j
    exact holds m c t _ _ (fun p j => by pointwise []) (fun p j => by pointwise [])

/-- The gradients at the two merge gates lie side by side: the first in the left half. -/
theorem out16_left (t : Fin cfg0.N) (p : Fin 256) (j : Fin 1024) :
    (outsAt0 m c t.val t.isLt).2.2.2.2.2.1 (ix2 p ⟨j.val, by omega⟩) = dga (P m c) (R m c (row t p)) j := by
  obtain ⟨h0, h1, h2⟩ | ⟨h0, h1, h2⟩ | ⟨h0, h1, h2⟩ := kinds t
  · rw [outsAt0_A m c t h0 h1 h2]; frame_out; clear h0 h1 h2
    canon_tiles x h
    · simp at h1 x1_lt; omega
    · idx_vars x
      obtain rfl : p = x0 := Fin.ext (by simpa using h0)
      obtain rfl : j = x1 := Fin.ext (by simpa using h1)
      refine dga_at (P m c) (fun p => R m c (row t p)) ?_ p j
      exact holds m c t _ _ (fun p j => by pointwise []) (fun p j => by pointwise [])
  · rw [outsAt0_B m c t h0 h1 h2]; frame_out; clear h0 h1 h2
    canon_tiles x h
    · simp at h1 x1_lt; omega
    · idx_vars x
      obtain rfl : p = x0 := Fin.ext (by simpa using h0)
      obtain rfl : j = x1 := Fin.ext (by simpa using h1)
      refine dga_at (P m c) (fun p => R m c (row t p)) ?_ p j
      exact holds m c t _ _ (fun p j => by pointwise []) (fun p j => by pointwise [])
  · rw [outsAt0_C m c t h0 h1 h2]; frame_out; clear h0 h1 h2
    canon_tiles x h
    · simp at h1 x1_lt; omega
    · idx_vars x
      obtain rfl : p = x0 := Fin.ext (by simpa using h0)
      obtain rfl : j = x1 := Fin.ext (by simpa using h1)
      refine dga_at (P m c) (fun p => R m c (row t p)) ?_ p j
      exact holds m c t _ _ (fun p j => by pointwise []) (fun p j => by pointwise [])

/-- … and the second in the right half. -/
theorem out16_right (t : Fin cfg0.N) (p : Fin 256) (j : Fin 1024) :
    (outsAt0 m c t.val t.isLt).2.2.2.2.2.1 (ix2 p ⟨1024 + j.val, by omega⟩) = dgb (P m c) (R m c (row t p)) j := by
  obtain ⟨h0, h1, h2⟩ | ⟨h0, h1, h2⟩ | ⟨h0, h1, h2⟩ := kinds t
  · rw [outsAt0_A m c t h0 h1 h2]; frame_out; clear h0 h1 h2
    canon_tiles x h
    · idx_vars x
      obtain rfl : p = x0 := Fin.ext (by simpa using h0)
      obtain rfl : j = x1 := Fin.ext (by simpa using h1)
      refine dgb_at (P m c) (fun p => R m c (row t p)) ?_ p j
      exact holds m c t _ _ (fun p j => by pointwise []) (fun p j => by pointwise [])
    · simp at h1 x1_lt; omega
  · rw [outsAt0_B m c t h0 h1 h2]; frame_out; clear h0 h1 h2
    canon_tiles x h
    · idx_vars x
      obtain rfl : p = x0 := Fin.ext (by simpa using h0)
      obtain rfl : j = x1 := Fin.ext (by simpa using h1)
      refine dgb_at (P m c) (fun p => R m c (row t p)) ?_ p j
      exact holds m c t _ _ (fun p j => by pointwise []) (fun p j => by pointwise [])
    · simp at h1 x1_lt; omega
  · rw [outsAt0_C m c t h0 h1 h2]; frame_out; clear h0 h1 h2
    canon_tiles x h
    · idx_vars x
      obtain rfl : p = x0 := Fin.ext (by simpa using h0)
      obtain rfl : j = x1 := Fin.ext (by simpa using h1)
      refine dgb_at (P m c) (fun p => R m c (row t p)) ?_ p j
      exact holds m c t _ _ (fun p j => by pointwise []) (fun p j => by pointwise [])
    · simp at h1 x1_lt; omega

end Cert.Kernel2Ideal.Head

end
-- ==== Proof.HeadSums.lean ====
/- The sums the loss head's kernel carries from one block of rows to the next. -/
module

public import proofs.«01_k».proof.Proof.HeadKernel
public import Idealize.ShloMosaic.Lib.Pipeline.ReadBack

@[expose] public section

set_option maxRecDepth 16384
set_option maxHeartbeats 4000000

noncomputable section

open Idealize.ShloMosaic Idealize.ShloMosaic.TcCoe

namespace Cert.Kernel2Ideal.Head

open Cert.Kernel2Ideal Cert.Kernel2Ideal.Gen Cert.Head

variable (m : (ℓ : Loc nD τ sig) → Buf (Elt Ideal) ℓ) (c : Dev nD)

/-- What starts at a block's part and adds every further block's part ends at the sum over the rows. -/
theorem sum_run (f : (n : ℕ) → n < cfg0.N → EReal) (F : Fin 8192 → EReal)
    (h0 : ∀ t : Fin cfg0.N, t.val % 32 = 0 → f t.val t.isLt = ∑ p : Fin 256, F (row t p))
    (hs : ∀ t : Fin cfg0.N, ¬t.val % 32 = 0 →
      f t.val t.isLt = f (t.val - 1) (Nat.lt_of_le_of_lt (Nat.sub_le _ _) t.isLt) + ∑ p : Fin 256, F (row t p))
    (t : Fin cfg0.N) (ht : t.val % 32 = 31) : f t.val t.isLt = ∑ r : Fin 8192, F r := by
  have run : ∀ n (h : n < 32), f n h = ∑ i : Fin (n + 1), ∑ p : Fin 256, F ⟨256 * i.val + p.val, by omega⟩ := by
    intro n
    induction n with
    | zero => intro h; rw [Fin.sum_univ_one]; exact h0 ⟨0, h⟩ rfl
    | succ n ih =>
      intro h
      rw [Fin.sum_univ_castSucc]
      refine (hs ⟨n + 1, h⟩ (by show ¬(n + 1) % 32 = 0; omega)).trans ?_
      exact congrArg₂ _ (ih (by omega)) rfl
  have hl : t.val = 31 := by have : t.val < 32 := t.isLt; omega
  have e : f t.val t.isLt = f 31 (by decide) := by congr 1
  rw [e]
  refine (run 31 (by decide)).trans ?_
  rw [Fin.sum_univ_tiles 32 256 rfl F]
  exact Finset.sum_congr rfl fun i _ => Finset.sum_congr rfl fun p _ => congrArg F (Fin.ext (by show 256 * i.val + p.val = i.val * 256 + p.val; omega))

/-- The attention branch's up-projection: its gradient summed so far. -/
theorem last17 (t : Fin cfg0.N) (ht : t.val % 32 = 31) (k : Fin 512) (j : Fin 1024) :
    (outsAt0 m c t.val t.isLt).2.2.2.2.2.2.1 (ix2 k j) = ∑ r : Fin 8192, am (R m c r) k * da (P m c) (R m c r) j := by
  refine sum_run (fun n h => (outsAt0 m c n h).2.2.2.2.2.2.1 (ix2 k j)) (fun r => am (R m c r) k * da (P m c) (R m c r) j) ?_ ?_ t ht
  · intro t h0
    have ht : t.val < 32 := t.isLt
    show (outsAt0 m c t.val t.isLt).2.2.2.2.2.2.1 (ix2 k j) = _
    rw [outsAt0_A m c t h0 (by omega) (by omega)]; frame_out
    refine u_part (P m c) (fun p => R m c (row t p)) ?_ k j
    exact holds m c t _ _ (fun p j => by pointwise []) (fun p j => by pointwise [])
  · intro t h0
    have ht : t.val < 32 := t.isLt
    show (outsAt0 m c t.val t.isLt).2.2.2.2.2.2.1 (ix2 k j) = (outsAt0 m c (t.val - 1) _).2.2.2.2.2.2.1 (ix2 k j) + _
    by_cases h2 : t.val % 32 = 31
    · rw [outsAt0_C m c t h0 (by omega) h2]; frame_out
      pointwise [k0_pay4]
      refine congrArg _ ?_
      refine u_part (P m c) (fun p => R m c (row t p)) ?_ k j
      exact holds m c t _ _ (fun p j => by pointwise []) (fun p j => by pointwise [])
    · rw [outsAt0_B m c t h0 (by omega) h2]; frame_out
      pointwise [k0_pay4]
      refine congrArg _ ?_
      refine u_part (P m c) (fun p => R m c (row t p)) ?_ k j
      exact holds m c t _ _ (fun p j => by pointwise []) (fun p j => by pointwise [])

/-- The recurrence branch's up-projection. -/
theorem last18 (t : Fin cfg0.N) (ht : t.val % 32 = 31) (k : Fin 512) (j : Fin 1024) :
    (outsAt0 m c t.val t.isLt).2.2.2.2.2.2.2.1 (ix2 k j) = ∑ r : Fin 8192, bm (R m c r) k * db (P m c) (R m c r) j := by
  refine sum_run (fun n h => (outsAt0 m c n h).2.2.2.2.2.2.2.1 (ix2 k j)) (fun r => bm (R m c r) k * db (P m c) (R m c r) j) ?_ ?_ t ht
  · intro t h0
    have ht : t.val < 32 := t.isLt
    show (outsAt0 m c t.val t.isLt).2.2.2.2.2.2.2.1 (ix2 k j) = _
    rw [outsAt0_A m c t h0 (by omega) (by omega)]; frame_out
    refine v_part (P m c) (fun p => R m c (row t p)) ?_ k j
    exact holds m c t _ _ (fun p j => by pointwise []) (fun p j => by pointwise [])
  · intro t h0
    have ht : t.val < 32 := t.isLt
    show (outsAt0 m c t.val t.isLt).2.2.2.2.2.2.2.1 (ix2 k j) = (outsAt0 m c (t.val - 1) _).2.2.2.2.2.2.2.1 (ix2 k j) + _
    by_cases h2 : t.val % 32 = 31
    · rw [outsAt0_C m c t h0 (by omega) h2]; frame_out
      pointwise [k0_pay5]
      refine congrArg _ ?_
      refine v_part (P m c) (fun p => R m c (row t p)) ?_ k j
      exact holds m c t _ _ (fun p j => by pointwise []) (fun p j => by pointwise [])
    · rw [outsAt0_B m c t h0 (by omega) h2]; frame_out
      pointwise [k0_pay5]
      refine congrArg _ ?_
      refine v_part (P m c) (fun p => R m c (row t p)) ?_ k j
      exact holds m c t _ _ (fun p j => by pointwise []) (fun p j => by pointwise [])

/-- The output projection. -/
theorem last19 (t : Fin cfg0.N) (ht : t.val % 32 = 31) (i j : Fin 1024) :
    (outsAt0 m c t.val t.isLt).2.2.2.2.2.2.2.2.1 (ix2 i j) = ∑ r : Fin 8192, merged (P m c) (R m c r) i * dout (P m c) (R m c r) j := by
  refine sum_run (fun n h => (outsAt0 m c n h).2.2.2.2.2.2.2.2.1 (ix2 i j)) (fun r => merged (P m c) (R m c r) i * dout (P m c) (R m c r) j) ?_ ?_ t ht
  · intro t h0
    have ht : t.val < 32 := t.isLt
    show (outsAt0 m c t.val t.isLt).2.2.2.2.2.2.2.2.1 (ix2 i j) = _
    rw [outsAt0_A m c t h0 (by omega) (by omega)]; frame_out
    refine w_part (P m c) (fun p => R m c (row t p)) ?_ i j
    exact holds m c t _ _ (fun p j => by pointwise []) (fun p j => by pointwise [])
  · intro t h0
    have ht : t.val < 32 := t.isLt
    show (outsAt0 m c t.val t.isLt).2.2.2.2.2.2.2.2.1 (ix2 i j) = (outsAt0 m c (t.val - 1) _).2.2.2.2.2.2.2.2.1 (ix2 i j) + _
    by_cases h2 : t.val % 32 = 31
    · rw [outsAt0_C m c t h0 (by omega) h2]; frame_out
      pointwise [k0_pay6]
      refine congrArg _ ?_
      refine w_part (P m c) (fun p => R m c (row t p)) ?_ i j
      exact holds m c t _ _ (fun p j => by pointwise []) (fun p j => by pointwise [])
    · rw [outsAt0_B m c t h0 (by omega) h2]; frame_out
      pointwise [k0_pay6]
      refine congrArg _ ?_
      refine w_part (P m c) (fun p => R m c (row t p)) ?_ i j
      exact holds m c t _ _ (fun p j => by pointwise []) (fun p j => by pointwise [])

/-- The norm's gain. -/
theorem last20 (t : Fin cfg0.N) (ht : t.val % 32 = 31) (j : Fin 1024) :
    (outsAt0 m c t.val t.isLt).2.2.2.2.2.2.2.2.2.1 (ix2 0 j) = ∑ r : Fin 8192, dx (P m c) (R m c r) j * out (P m c) (R m c r) j * rs (P m c) (R m c r) := by
  refine sum_run (fun n h => (outsAt0 m c n h).2.2.2.2.2.2.2.2.2.1 (ix2 0 j)) (fun r => dx (P m c) (R m c r) j * out (P m c) (R m c r) j * rs (P m c) (R m c r)) ?_ ?_ t ht
  · intro t h0
    have ht : t.val < 32 := t.isLt
    show (outsAt0 m c t.val t.isLt).2.2.2.2.2.2.2.2.2.1 (ix2 0 j) = _
    rw [outsAt0_A m c t h0 (by omega) (by omega)]; frame_out
    refine g_part (P m c) (fun p => R m c (row t p)) ?_ j
    exact holds m c t _ _ (fun p j => by pointwise []) (fun p j => by pointwise [])
  · intro t h0
    have ht : t.val < 32 := t.isLt
    show (outsAt0 m c t.val t.isLt).2.2.2.2.2.2.2.2.2.1 (ix2 0 j) = (outsAt0 m c (t.val - 1) _).2.2.2.2.2.2.2.2.2.1 (ix2 0 j) + _
    by_cases h2 : t.val % 32 = 31
    · rw [outsAt0_C m c t h0 (by omega) h2]; frame_out
      pointwise [k0_pay7]
      refine congrArg _ ?_
      refine g_part (P m c) (fun p => R m c (row t p)) ?_ j
      exact holds m c t _ _ (fun p j => by pointwise []) (fun p j => by pointwise [])
    · rw [outsAt0_B m c t h0 (by omega) h2]; frame_out
      pointwise [k0_pay7]
      refine congrArg _ ?_
      refine g_part (P m c) (fun p => R m c (row t p)) ?_ j
      exact holds m c t _ _ (fun p j => by pointwise []) (fun p j => by pointwise [])

/-- The squared errors' running sum: a block's part is added … -/
theorem pay8_at (a b : Vec Ideal S1x1024 .f32) (j : Fin 1024) : k0_pay8 (F := Ideal) a b (ix2 0 j) = b (ix2 0 j) + a (ix2 0 j) := by
  pointwise [k0_pay8]

/-- … or, first, laid down. -/
theorem pay3_at (a : Vec Ideal S1x1024 .f32) (j : Fin 1024) : k0_pay3 (F := Ideal) a (ix2 0 j) = a (ix2 0 j) := by
  pointwise [k0_pay3]

/-- The loss from the running sum. -/
theorem pay9_at (a : Vec Ideal S1x1024 .f32) :
    k0_pay9 (F := Ideal) a (ix2 0 0) = (∑ j : Fin 1024, a (ix2 0 j)) * Ideal.ofBits .f32 0x3A000000#32 := by
  pointwise [k0_pay9]

/-- The squared errors, column by column. -/
theorem lastsq (t : Fin cfg0.N) (ht : t.val % 32 = 31) (j : Fin 1024) :
    (outsAt0 m c t.val t.isLt).2.2.2.2.2.2.2.2.2.2.2 (ix2 0 j) = ∑ r : Fin 8192, err (P m c) (R m c r) j * err (P m c) (R m c r) j := by
  refine sum_run (fun n h => (outsAt0 m c n h).2.2.2.2.2.2.2.2.2.2.2 (ix2 0 j)) (fun r => err (P m c) (R m c r) j * err (P m c) (R m c r) j) ?_ ?_ t ht
  · intro t h0
    have ht : t.val < 32 := t.isLt
    show (outsAt0 m c t.val t.isLt).2.2.2.2.2.2.2.2.2.2.2 (ix2 0 j) = _
    rw [outsAt0_A m c t h0 (by omega) (by omega)]; frame_out; rw [pay3_at]
    refine sq_part (P m c) (fun p => R m c (row t p)) ?_ j
    exact holds m c t _ _ (fun p j => by pointwise []) (fun p j => by pointwise [])
  · intro t h0
    have ht : t.val < 32 := t.isLt
    show (outsAt0 m c t.val t.isLt).2.2.2.2.2.2.2.2.2.2.2 (ix2 0 j) = (outsAt0 m c (t.val - 1) _).2.2.2.2.2.2.2.2.2.2.2 (ix2 0 j) + _
    by_cases h2 : t.val % 32 = 31
    · rw [outsAt0_C m c t h0 (by omega) h2]; frame_out
      rw [read_unread_whole, pay8_at]
      refine congrArg _ ?_
      refine sq_part (P m c) (fun p => R m c (row t p)) ?_ j
      exact holds m c t _ _ (fun p j => by pointwise []) (fun p j => by pointwise [])
    · rw [outsAt0_B m c t h0 (by omega) h2]; frame_out
      rw [read_unread_whole, pay8_at]
      refine congrArg _ ?_
      refine sq_part (P m c) (fun p => R m c (row t p)) ?_ j
      exact holds m c t _ _ (fun p j => by pointwise []) (fun p j => by pointwise [])

/-- The loss: the last point scales the sum of the columns. -/
theorem last21 (t : Fin cfg0.N) (ht : t.val % 32 = 31) : (outsAt0 m c t.val t.isLt).2.2.2.2.2.2.2.2.2.2.1 (ix2 0 0)
    = (∑ j : Fin 1024, ∑ r : Fin 8192, err (P m c) (R m c r) j * err (P m c) (R m c r) j) * Ideal.ofBits .f32 0x3A000000#32 := by
  have hs := fun j => lastsq m c t ht j
  rw [outsAt0_C m c t (by omega) (by omega) ht] at hs ⊢
  frame_out
  frame_out at hs
  rw [pay9_at]
  exact congrArg (· * _) (Finset.sum_congr rfl fun j _ => hs j)

end Cert.Kernel2Ideal.Head

end
-- ==== Proof.HeadFinal.lean ====
/- The arrays the loss head's kernel leaves. -/
module

public import proofs.«01_k».proof.Proof.HeadSums

@[expose] public section

set_option maxRecDepth 16384
set_option maxHeartbeats 4000000

noncomputable section

open Idealize.ShloMosaic Idealize.ShloMosaic.TcCoe

namespace Cert.Kernel2Ideal.Head

open Cert.Kernel2Ideal Cert.Kernel2Ideal.Gen Cert.Head

variable (m : (ℓ : Loc nD τ sig) → Buf (Elt Ideal) ℓ) (c : Dev nD)

/-- Where the arrays' blocks lie. -/
theorem idx_sum : ∀ t : Fin cfg0.N, win0_17.index t = ![0, 0] ∧ win0_18.index t = ![0, 0] ∧ win0_19.index t = ![0, 0]
    ∧ win0_20.index t = ![0, 0] ∧ win0_21.index t = ![0, 0] :=
  (by decide +kernel : ∀ t : Fin grid0.N, _)

theorem final11 (A : FVec Ideal S8192x1024 .f32) (h : ∀ r j, A (ix2 r j) = dx (P m c) (R m c r) j) :
    (dats m 0 c).arrAt 11 (cfgs 0).N = A := by
  refine (dats m 0 c).arrAt_eq_of_covers 11 _ (by decide +kernel) fun t _ y => ?_
  blk_simp
  rw [after0_11]
  idx_vars y
  have he : ((View.whole main_v0_0).slice (win0_11.rect t)).emb (ix2 y0 y1) = ix2 (row t y0) y1 := by blk_ext [idx t, row]
  rw [he]
  exact (out11 m c t y0 y1).trans (h _ _).symm

theorem final12 (A : FVec Ideal S8192x512 .f32) (h : ∀ r j, A (ix2 r j) = doa (P m c) (R m c r) j) :
    (dats m 0 c).arrAt 12 (cfgs 0).N = A := by
  refine (dats m 0 c).arrAt_eq_of_covers 12 _ (by decide +kernel) fun t _ y => ?_
  blk_simp
  rw [after0_12]
  idx_vars y
  have he : ((View.whole main_v0_1).slice (win0_12.rect t)).emb (ix2 y0 y1) = ix2 (row t y0) y1 := by blk_ext [idx t, row]
  rw [he]
  exact (out12 m c t y0 y1).trans (h _ _).symm

theorem final13 (A : FVec Ideal S8192x512 .f32) (h : ∀ r j, A (ix2 r j) = dob (P m c) (R m c r) j) :
    (dats m 0 c).arrAt 13 (cfgs 0).N = A := by
  refine (dats m 0 c).arrAt_eq_of_covers 13 _ (by decide +kernel) fun t _ y => ?_
  blk_simp
  rw [after0_13]
  idx_vars y
  have he : ((View.whole main_v0_2).slice (win0_13.rect t)).emb (ix2 y0 y1) = ix2 (row t y0) y1 := by blk_ext [idx t, row]
  rw [he]
  exact (out13 m c t y0 y1).trans (h _ _).symm

theorem final14 (A : FVec Ideal S8192x512 .bf16) (h : ∀ r j, A (ix2 r j) = dza (P m c) (R m c r) j) :
    (dats m 0 c).arrAt 14 (cfgs 0).N = A := by
  refine (dats m 0 c).arrAt_eq_of_covers 14 _ (by decide +kernel) fun t _ y => ?_
  blk_simp
  rw [after0_14]
  idx_vars y
  have he : ((View.whole main_v0_3).slice (win0_14.rect t)).emb (ix2 y0 y1) = ix2 (row t y0) y1 := by blk_ext [idx t, row]
  rw [he]
  exact (out14 m c t y0 y1).trans (h _ _).symm

theorem final15 (A : FVec Ideal S8192x512 .bf16) (h : ∀ r j, A (ix2 r j) = dzb (P m c) (R m c r) j) :
    (dats m 0 c).arrAt 15 (cfgs 0).N = A := by
  refine (dats m 0 c).arrAt_eq_of_covers 15 _ (by decide +kernel) fun t _ y => ?_
  blk_simp
  rw [after0_15]
  idx_vars y
  have he : ((View.whole main_v0_4).slice (win0_15.rect t)).emb (ix2 y0 y1) = ix2 (row t y0) y1 := by blk_ext [idx t, row]
  rw [he]
  exact (out15 m c t y0 y1).trans (h _ _).symm

theorem final16 (A : FVec Ideal S8192x2048 .bf16) (hl : ∀ r (j : Fin 1024), A (ix2 r ⟨j.val, by omega⟩) = dga (P m c) (R m c r) j)
    (hr : ∀ r (j : Fin 1024), A (ix2 r ⟨1024 + j.val, by omega⟩) = dgb (P m c) (R m c r) j) :
    (dats m 0 c).arrAt 16 (cfgs 0).N = A := by
  refine (dats m 0 c).arrAt_eq_of_covers 16 _ (by decide +kernel) fun t _ y => ?_
  blk_simp
  rw [after0_16]
  idx_vars y
  have he : ((View.whole main_v0_5).slice (win0_16.rect t)).emb (ix2 y0 y1) = ix2 (row t y0) y1 := by blk_ext [idx t, row]
  rw [he]
  by_cases hy : y1.val < 1024
  · exact (out16_left m c t y0 ⟨y1.val, hy⟩).trans (hl (row t y0) ⟨y1.val, hy⟩).symm
  · have e : y1 = (⟨1024 + (⟨y1.val - 1024, by omega⟩ : Fin 1024).val, by simp; omega⟩ : Fin 2048) := Fin.ext (by simp; omega)
    rw [e]
    exact (out16_right m c t y0 _).trans (hr (row t y0) _).symm

theorem final17 (A : FVec Ideal S512x1024 .f32) (h : ∀ i j, A (ix2 i j) = ∑ r : Fin 8192, am (R m c r) i * da (P m c) (R m c r) j) :
    (dats m 0 c).arrAt 17 (cfgs 0).N = A := by
  refine (dats m 0 c).arrAt_eq_of_covers 17 _ (by decide +kernel) fun t hf y => ?_
  blk_simp
  rw [after0_17]
  idx_vars y
  have he : ((View.whole main_v0_6).slice (win0_17.rect t)).emb (ix2 y0 y1) = ix2 y0 y1 := by blk_ext [idx_sum t]
  rw [he]
  exact (last17 m c t ((flush0_17 t).mp hf) y0 y1).trans (h _ _).symm

theorem final18 (A : FVec Ideal S512x1024 .f32) (h : ∀ i j, A (ix2 i j) = ∑ r : Fin 8192, bm (R m c r) i * db (P m c) (R m c r) j) :
    (dats m 0 c).arrAt 18 (cfgs 0).N = A := by
  refine (dats m 0 c).arrAt_eq_of_covers 18 _ (by decide +kernel) fun t hf y => ?_
  blk_simp
  rw [after0_18]
  idx_vars y
  have he : ((View.whole main_v0_7).slice (win0_18.rect t)).emb (ix2 y0 y1) = ix2 y0 y1 := by blk_ext [idx_sum t]
  rw [he]
  exact (last18 m c t ((flush0_18 t).mp hf) y0 y1).trans (h _ _).symm

theorem final19 (A : FVec Ideal S1024x1024 .f32) (h : ∀ i j, A (ix2 i j) = ∑ r : Fin 8192, merged (P m c) (R m c r) i * dout (P m c) (R m c r) j) :
    (dats m 0 c).arrAt 19 (cfgs 0).N = A := by
  refine (dats m 0 c).arrAt_eq_of_covers 19 _ (by decide +kernel) fun t hf y => ?_
  blk_simp
  rw [after0_19]
  idx_vars y
  have he : ((View.whole main_v0_8).slice (win0_19.rect t)).emb (ix2 y0 y1) = ix2 y0 y1 := by blk_ext [idx_sum t]
  rw [he]
  exact (last19 m c t ((flush0_19 t).mp hf) y0 y1).trans (h _ _).symm

theorem final20 (A : FVec Ideal S1x1024 .f32)
    (h : ∀ j, A (ix2 0 j) = ∑ r : Fin 8192, dx (P m c) (R m c r) j * out (P m c) (R m c r) j * rs (P m c) (R m c r)) :
    (dats m 0 c).arrAt 20 (cfgs 0).N = A := by
  refine (dats m 0 c).arrAt_eq_of_covers 20 _ (by decide +kernel) fun t hf y => ?_
  blk_simp
  rw [after0_20]
  idx_vars y
  obtain rfl : y0 = 0 := Subsingleton.elim _ _
  have he : ((View.whole main_v0_9).slice (win0_20.rect t)).emb (ix2 0 y1) = ix2 0 y1 := by blk_ext [idx_sum t]
  rw [he]
  exact (last20 m c t ((flush0_20 t).mp hf) y1).trans (h _).symm

theorem final21 (A : FVec Ideal S1x1 .f32) (h : A (ix2 0 0)
      = (∑ j : Fin 1024, ∑ r : Fin 8192, err (P m c) (R m c r) j * err (P m c) (R m c r) j) * Ideal.ofBits .f32 0x3A000000#32) :
    (dats m 0 c).arrAt 21 (cfgs 0).N = A := by
  refine (dats m 0 c).arrAt_eq_of_covers 21 _ (by decide +kernel) fun t hf y => ?_
  blk_simp
  rw [after0_21]
  idx_vars y
  obtain rfl : y0 = 0 := Subsingleton.elim _ _
  obtain rfl : y1 = 0 := Subsingleton.elim _ _
  have he : ((View.whole main_v0_10).slice (win0_21.rect t)).emb (ix2 0 0) = ix2 0 0 := by blk_ext [idx_sum t]
  rw [he]
  exact (last21 m c t ((flush0_21 t).mp hf)).trans h.symm

end Cert.Kernel2Ideal.Head

end
-- ==== Proof.BiasBins.lean ====
/- The gradient of the bias table: which element of it a cell belongs to. -/
module

public import Idealize.ShloMosaic.Lib.Pointwise

@[expose] public section

noncomputable section

open Idealize.ShloMosaic

namespace Cert.Bias

/-- The sum of a matrix over the places where the table names bucket `c`. -/
def bin (t : Fin 128 → Fin 256 → BitVec 32) (d : Fin 128 → Fin 256 → EReal) (c : BitVec 32) : EReal :=
  ∑ p : Fin 128, ∑ q : Fin 256, if t p q = c then d p q else 0

/-- Row `r` of the result is head `r % 8` of group `r / 8`: its table … -/
def table (x1 : IVec ⟨3, ![3, 128, 256]⟩ 32) (r : Fin 24) (p : Fin 128) (q : Fin 256) : BitVec 32 :=
  x1 (ix3 ⟨r.val / 8, by omega⟩ p q)

/-- … and its matrix. -/
def cell (x0 : FVec Ideal ⟨4, ![4, 6, 128, 256]⟩ .f32) (r : Fin 24) (p : Fin 128) (q : Fin 256) : EReal :=
  x0 (ix4 ⟨r.val % 8 / 2, by omega⟩ ⟨2 * (r.val / 8) + r.val % 2, by omega⟩ p q)

/-- The result: a sum a bucket in the first 32 columns, zero in the others. -/
def grad (x0 : FVec Ideal ⟨4, ![4, 6, 128, 256]⟩ .f32) (x1 : IVec ⟨3, ![3, 128, 256]⟩ 32) (r : Fin 24) (c : Fin 128) : EReal :=
  if c.val < 32 then bin (table x1 r) (cell x0 r) (BitVec.ofNat 32 c.val) else 0

end Cert.Bias

end
-- ==== Proof.BiasRow.lean ====
/- One row of the bias table's gradient, built bucket by bucket. -/
module

public import proofs.«01_k».proof.Proof.Gen.Kernel4Ideal.Skeleton
public import proofs.«01_k».proof.Proof.BiasBins
public import Idealize.ShloMosaic.Lib.Pointwise

@[expose] public section

set_option maxRecDepth 16384

noncomputable section

open Idealize.ShloMosaic Idealize.ShloMosaic.TcCoe Idealize.SL.Sem

namespace Cert.Kernel4Ideal.Bias

open Cert.Kernel4Ideal Cert.Kernel4Ideal.Gen Cert.Bias

/-- One bucket's sum put into its lane of the row. -/
def put (t : IVec S128x256 32) (d : FVec Ideal S128x256 .f32) (row : FVec Ideal S1x128 .f32) (b : BitVec 32) : FVec Ideal S1x128 .f32 :=
  select (cmpi .eq (iota .tc S1x128 32 [1] iota_S1x128_d1_w32) (broadcast S1x128 b))
    (broadcastTo S1x128 (shapeCast S1x1 (shapeCast S1x1 (multiReduction .add [1] S1
      (shapeCast S1x256 (multiReduction .add [0] S256
        (select (cmpi .eq t (broadcast S128x256 b)) d (broadcast S128x256 (Scalar.ofBits .f32 0x00000000#32)))
        0x00000000#32 reduces_S128x256_S256 (.inl rfl) rfl) shapeCasts_S256_S1x256)
      0x00000000#32 reduces_S1x256_S1 (.inl rfl) rfl) shapeCasts_S1_S1x1) shapeCasts_S1x1_S1x1) broadcasts_S1x1_S1x128)
    row

/-- The buckets, in the order in which the body takes them. -/
def buckets : List (BitVec 32) :=
  [0#32, 1#32, 2#32, 3#32, 4#32, 5#32, 6#32, 7#32, 8#32, 9#32, 10#32, 11#32, 12#32, 13#32, 14#32, 15#32,
   16#32, 17#32, 18#32, 19#32, 20#32, 21#32, 22#32, 23#32, 24#32, 25#32, 26#32, 27#32, 28#32, 29#32, 30#32, 31#32]

/-- The row after all of them. -/
def full (t : IVec S128x256 32) (d : FVec Ideal S128x256 .f32) : FVec Ideal S1x128 .f32 :=
  buckets.foldl (put t d) (broadcast S1x128 (Scalar.ofBits .f32 0x00000000#32))

variable (t : IVec S128x256 32) (d : FVec Ideal S128x256 .f32)

/-- A choice by a test of equality. -/
theorem choose {α : Type} (a b : BitVec 32) (x y : α) : Scalar.select (IntOp.cmpi .eq a b) x y = if a = b then x else y := by
  by_cases h : a = b
  · simp [Scalar.select, IntOp.cmpi, h]
  · have : (a == b) = false := by simpa using h
    simp [Scalar.select, IntOp.cmpi, this, h]

theorem put_at (row : FVec Ideal S1x128 .f32) (b : BitVec 32) (c : Fin 128) :
    put t d row b (ix2 0 c)
      = if BitVec.ofNat 32 c.val = b then bin (fun p q => t (ix2 p q)) (fun p q => d (ix2 p q)) b else row (ix2 0 c) := by
  pointwise [put]
  simp only [choose, bin]
  split
  · exact Finset.sum_comm
  · rfl

theorem fold_at (c : Fin 128) (L : List (BitVec 32)) (row : FVec Ideal S1x128 .f32) :
    L.foldl (put t d) row (ix2 0 c) = if BitVec.ofNat 32 c.val ∈ L
      then bin (fun p q => t (ix2 p q)) (fun p q => d (ix2 p q)) (BitVec.ofNat 32 c.val) else row (ix2 0 c) := by
  induction L generalizing row with
  | nil => simp
  | cons b L ih =>
    rw [List.foldl_cons, ih, put_at]
    by_cases h : BitVec.ofNat 32 c.val ∈ L
    · simp [h]
    · by_cases e : BitVec.ofNat 32 c.val = b
      · simp [e]
      · simp [h, e]

theorem mem_buckets : ∀ c : Fin 128, BitVec.ofNat 32 c.val ∈ buckets ↔ c.val < 32 := by decide

theorem full_at (c : Fin 128) : full t d (ix2 0 c) = if c.val < 32
    then bin (fun p q => t (ix2 p q)) (fun p q => d (ix2 p q)) (BitVec.ofNat 32 c.val) else 0 := by
  unfold full
  rw [fold_at]
  simp only [mem_buckets]
  congr 1
  pointwise []

end Cert.Kernel4Ideal.Bias

end
-- ==== Proof.BiasKernel.lean ====
/- What the bias table's gradient leaves in its result array. -/
module

public import proofs.«01_k».proof.Proof.Gen.Kernel4Ideal.Frame
public import proofs.«01_k».proof.Proof.BiasRow
public import Idealize.ShloMosaic.Lib.Pipeline.ValueKit
public import Idealize.ShloMosaic.Lib.Claim

@[expose] public section

set_option maxRecDepth 16384
set_option maxHeartbeats 1000000

noncomputable section

open Idealize.ShloMosaic Idealize.ShloMosaic.TcCoe

namespace Cert.Kernel4Ideal.Bias

open Cert.Kernel4Ideal Cert.Kernel4Ideal.Gen Cert.Bias

/-- One stored row is the gradient's row of its number. -/
theorem piece {x0 : FVec Ideal S4x6x128x256 .f32} {x1 : IVec S3x128x256 32} {y : S24x128.Idx} {x : S1x128.Idx}
    (t : IVec S128x256 32) (d : FVec Ideal S128x256 .f32) (h1 : (y 1).val = (x 1).val)
    (ht : ∀ p q, t (ix2 p q) = table x1 (y 0) p q) (hd : ∀ p q, d (ix2 p q) = cell x0 (y 0) p q) :
    full t d x = grad x0 x1 (y 0) (y 1) := by
  obtain ⟨c, rfl⟩ : ∃ c : Fin 128, x = ix2 0 c := ⟨x 1, by
    funext a
    match a with
    | ⟨0, _⟩ => exact Subsingleton.elim (α := Fin 1) _ _
    | ⟨1, _⟩ => rfl⟩
  have e1 : y 1 = c := Fin.ext h1
  rw [e1, full_at]
  simp only [ht, hd]
  rfl

/-- The result: every row stands at its number. -/
theorem out_at (x0 : FVec Ideal S4x6x128x256 .f32) (x1 : IVec S3x128x256 32) (y : S24x128.Idx) :
    (out0_2 (F := Ideal) x0 x1 : FVec Ideal S24x128 .f32) y = grad x0 x1 (y 0) (y 1) := by
  frame_out
  canon_tiles x h
  all_goals
    refine piece _ _ h1 (fun p q => ?_) (fun p q => ?_)
    · pointwise [k0_pay616, k0_pay2, k0_pay625, k0_pay196, k0_pay634, k0_pay444, table]
      blk_ext []
    · pointwise [k0_pay617, k0_pay3, k0_pay618, k0_pay26, k0_pay619, k0_pay49, k0_pay620, k0_pay74, k0_pay621, k0_pay99, k0_pay622, k0_pay125, k0_pay623,
        k0_pay148, k0_pay624, k0_pay171, k0_pay626, k0_pay197, k0_pay627, k0_pay229, k0_pay628, k0_pay261, k0_pay629, k0_pay290, k0_pay630, k0_pay319,
        k0_pay631, k0_pay351, k0_pay632, k0_pay383, k0_pay633, k0_pay415, k0_pay635, k0_pay445, k0_pay636, k0_pay465, k0_pay637, k0_pay486, k0_pay638,
        k0_pay509, k0_pay639, k0_pay531, k0_pay640, k0_pay551, k0_pay641, k0_pay571, k0_pay642, k0_pay592, cell]
      blk_ext []

theorem idx : ∀ t : Fin cfg0.N, win0_0.index t = ![0, 0, 0, 0] ∧ win0_1.index t = ![0, 0, 0] ∧ win0_2.index t = ![0, 0] :=
  (by decide +kernel : ∀ t : Fin grid0.N, _)

variable (m : (ℓ : Loc nD τ sig) → Buf (Elt Ideal) ℓ) (c : Dev nD)

/-- The array after the run. -/
theorem final : (dats m 0 c).arrAt 2 (cfgs 0).N
    = (fun i => grad (m ((c : Thread nD τ).loc main_arg0)) (m ((c : Thread nD τ).loc main_arg1)) (i 0) (i 1) : FVec Ideal S24x128 .f32) := by
  refine (dats m 0 c).arrAt_eq_of_covers 2 _ (by decide +kernel) fun t _ y => ?_
  blk_simp
  rw [after0_2]
  obtain ⟨n0, n1, n2⟩ := idx t
  have e0 : (iblk m c 0 t : FVec Ideal S4x6x128x256 .f32) = m ((c : Thread nD τ).loc main_arg0) := by
    funext i; idx_vars i; blk_ext [iblk, V, n0]
  have e1 : (iblk m c 1 t : IVec S3x128x256 32) = m ((c : Thread nD τ).loc main_arg1) := by
    funext i; idx_vars i; blk_ext [iblk, V, n1]
  refine (out_at _ _ y).trans ?_
  rw [e0, e1]
  idx_vars y
  have he : ((View.whole main_v0).slice (win0_2.rect t)).emb (ix2 y0 y1) = ix2 y0 y1 := by blk_ext [n2]
  rw [he]
  rfl

end Cert.Kernel4Ideal.Bias

end
-- ==== Proof.BiasRef.lean ====
/- What the reference computes of the bias table's gradient. -/
module

public import proofs.«01_k».proof.Proof.Gen.Reference4Ideal.Read
public import proofs.«01_k».proof.Proof.BiasBins
public import Idealize.ShloMosaic.Lib.Routing.OpsPair
public import Idealize.ShloMosaic.Lib.Pipeline.ValueKit

@[expose] public section

set_option maxRecDepth 16384

noncomputable section

open Idealize.ShloMosaic

namespace Cert.Reference4Ideal.Bias

open Cert.Reference4Ideal Cert.Reference4Ideal.Gen Cert.Reference4Ideal.Read Cert.Bias Facts₀

/-- An update lands in the row that its word names, in its own column. -/
theorem lands (idx : IVec S128x256x1 32) (p : Fin 128) (q : Fin 256) (k e : Fin 8) (j : Fin 32) :
    scatter_S32x8_S128x256x1_S128x256x8_2_0_0_2.resultIdx? (ix3 p q k) idx = some (ix2 j e)
      ↔ (idx (ix3 p q 0)).toInt = (j.val : Int) ∧ k = e := by
  have h0 : scatter_S32x8_S128x256x1_S128x256x8_2_0_0_2.start (ix3 p q k) idx 0 = (idx (ix3 p q 0)).toInt := by
    have : scatter_S32x8_S128x256x1_S128x256x8_2_0_0_2.siIdx (ix3 p q k) ⟨0, by decide⟩ = ix3 p q 0 := by
      funext b
      match b with
      | ⟨0, _⟩ => rfl
      | ⟨1, _⟩ => rfl
      | ⟨2, _⟩ => rfl
    rw [← this]
    rfl
  have h1 : scatter_S32x8_S128x256x1_S128x256x8_2_0_0_2.start (ix3 p q k) idx 1 = 0 := rfl
  have w0 : scatter_S32x8_S128x256x1_S128x256x8_2_0_0_2.window (ix3 p q k) 0 = 0 := rfl
  have w1 : scatter_S32x8_S128x256x1_S128x256x8_2_0_0_2.window (ix3 p q k) 1 = k.val := rfl
  rw [Routing.resultIdx?_eq_some]
  constructor
  · intro h
    have a0 := h 0
    have a1 := h 1
    rw [h0, w0] at a0
    rw [h1, w1] at a1
    refine ⟨?_, Fin.ext ?_⟩
    · simpa using a0
    · simpa using a1
  · rintro ⟨e0, rfl⟩ a
    match a with
    | ⟨0, _⟩ => exact (congrArg₂ (· + ·) h0 (congrArg Nat.cast w0)).trans (by rw [e0]; simp)
    | ⟨1, _⟩ => exact (congrArg₂ (· + ·) h1 (congrArg Nat.cast w1)).trans (by simp)

/-- A word that is not negative is a small number exactly if its signed reading is. -/
theorem word_eq (w : BitVec 32) (hw : 0 ≤ w.toInt) (j : Fin 32) :
    w.toInt = (j.val : Int) ↔ w = BitVec.ofNat 32 j.val := by
  have hj := j.isLt
  rw [← BitVec.toNat_inj, BitVec.toNat_ofNat, Nat.mod_eq_of_lt (by omega)]
  rw [BitVec.toInt_eq_toNat_cond] at hw ⊢
  have := w.isLt
  split at hw <;> split <;> omega

/-- The accumulating scatter: the sum over the places of one bucket. -/
theorem scatter_at (x : FVec Ideal S32x8 .f32) (idx : IVec S128x256x1 32) (u : FVec Ideal S128x256x8 .f32)
    (hi : ∀ p q, 0 ≤ (idx (ix3 p q 0)).toInt) (j : Fin 32) (e : Fin 8) :
    Host.scatterAdd scatter_S32x8_S128x256x1_S128x256x8_2_0_0_2 x idx u (ix2 j e)
      = x (ix2 j e) + bin (fun p q => idx (ix3 p q 0)) (fun p q => u (ix3 p q e)) (BitVec.ofNat 32 j.val) := by
  show x (ix2 j e) + _ = _
  congr 1
  rw [Finset.sum_filter, sum_idx3]
  refine Finset.sum_congr rfl fun p _ => Finset.sum_congr rfl fun q _ => ?_
  simp only [lands, word_eq _ (hi p q)]
  rw [Finset.sum_eq_single e (fun k _ hk => if_neg fun h => hk h.2) (fun h => absurd (Finset.mem_univ e) h)]
  simp only [and_true]

variable (x0 : FVec Ideal S4x6x128x256 .f32) (x1 : IVec S3x128x256 32)

/-- The word under which a place is taken: a negative one would count from the end. -/
theorem word_at (hx : ∀ g p q, 0 ≤ (x1 (ix3 g p q)).toInt) (p : Fin 128) (q : Fin 256) :
    val_main_v9 (F := Ideal) x1 (ix3 p q 0) = x1 (ix3 0 p q) ∧ val_main_v20 (F := Ideal) x1 (ix3 p q 0) = x1 (ix3 1 p q)
      ∧ val_main_v31 (F := Ideal) x1 (ix3 p q 0) = x1 (ix3 2 p q) := by
  have not_slt (w : BitVec 32) (h : 0 ≤ w.toInt) : IntOp.cmpi .slt w 0#32 = 0#1 := by
    have : w.slt 0#32 = false := by simpa [BitVec.slt] using h
    simp [IntOp.cmpi, this]
  refine ⟨?_, ?_, ?_⟩
  · pointwise [val_main_v9, val_main_v8, val_main_v7, val_main_v6, val_main_v5, val_main_v4, val_main_v3, val_main_v2, val_main_c, val_main_c_0]
    rw [not_slt _ (hx 0 p q)]
    rfl
  · pointwise [val_main_v20, val_main_v19, val_main_v18, val_main_v17, val_main_v16, val_main_v15, val_main_v14, val_main_v13, val_main_c_1, val_main_c_2]
    rw [not_slt _ (hx 1 p q)]
    rfl
  · pointwise [val_main_v31, val_main_v30, val_main_v29, val_main_v28, val_main_v27, val_main_v26, val_main_v25, val_main_v24, val_main_c_3, val_main_c_4]
    rw [not_slt _ (hx 2 p q)]
    rfl

/-- What is added there. -/
theorem upd_at (p : Fin 128) (q : Fin 256) (e : Fin 8) :
    val_main_v61 (F := Ideal) x0 (ix3 p q e) = x0 (ix4 ⟨e.val / 2, by omega⟩ ⟨e.val % 2, by omega⟩ p q)
      ∧ val_main_v56 (F := Ideal) x0 (ix3 p q e) = x0 (ix4 ⟨e.val / 2, by omega⟩ ⟨2 + e.val % 2, by omega⟩ p q)
      ∧ val_main_v52 (F := Ideal) x0 (ix3 p q e) = x0 (ix4 ⟨e.val / 2, by omega⟩ ⟨4 + e.val % 2, by omega⟩ p q) := by
  refine ⟨?_, ?_, ?_⟩
  · pointwise [val_main_v61, val_main_v51, val_main_v44, val_main_v43, val_main_v42]
  · pointwise [val_main_v56, val_main_v50, val_main_v46, val_main_v45, val_main_v42]
  · pointwise [val_main_v52, val_main_v49, val_main_v48, val_main_v47, val_main_v42]

theorem same (t t' : Fin 128 → Fin 256 → BitVec 32) (d d' : Fin 128 → Fin 256 → EReal) {b : BitVec 32} (ht : ∀ p q, t p q = t' p q)
    (hd : ∀ p q, d p q = d' p q) : bin t d b = bin t' d' b := by
  rw [show t = t' from funext fun p => funext fun q => ht p q, show d = d' from funext fun p => funext fun q => hd p q]

/-- One group's table: the sums of its eight heads. -/
theorem part_at (hx : ∀ g p q, 0 ≤ (x1 (ix3 g p q)).toInt) (r : Fin 24) (c : Fin 32) (e : Fin 8) (h : r.val % 8 = e.val) :
    (r.val / 8 = 0 → val_main_v63 (F := Ideal) x0 x1 (ix2 c e) = bin (table x1 r) (cell x0 r) (BitVec.ofNat 32 c.val))
      ∧ (r.val / 8 = 1 → val_main_v58 (F := Ideal) x0 x1 (ix2 c e) = bin (table x1 r) (cell x0 r) (BitVec.ofNat 32 c.val))
      ∧ (r.val / 8 = 2 → val_main_v54 (F := Ideal) x0 x1 (ix2 c e) = bin (table x1 r) (cell x0 r) (BitVec.ofNat 32 c.val)) := by
  have w := word_at x1 hx
  refine ⟨fun hr => ?_, fun hr => ?_, fun hr => ?_⟩
  · unfold val_main_v63
    rw [scatter_at _ _ _ (fun p q => by rw [(w p q).1]; exact hx 0 p q)]
    simp only [(w _ _).1, (upd_at x0 _ _ e).1]
    pointwise [val_main_v62, val_main_cst_9]
    exact same _ _ _ _ (fun p q => by blk_ext [table]) (fun p q => by blk_ext [cell])
  · unfold val_main_v58
    rw [scatter_at _ _ _ (fun p q => by rw [(w p q).2.1]; exact hx 1 p q)]
    simp only [(w _ _).2.1, (upd_at x0 _ _ e).2.1]
    pointwise [val_main_v57, val_main_cst_7]
    exact same _ _ _ _ (fun p q => by blk_ext [table]) (fun p q => by blk_ext [cell])
  · unfold val_main_v54
    rw [scatter_at _ _ _ (fun p q => by rw [(w p q).2.2]; exact hx 2 p q)]
    simp only [(w _ _).2.2, (upd_at x0 _ _ e).2.2]
    pointwise [val_main_v53, val_main_cst_5]
    exact same _ _ _ _ (fun p q => by blk_ext [table]) (fun p q => by blk_ext [cell])

theorem sum_at (hx : ∀ g p q, 0 ≤ (x1 (ix3 g p q)).toInt) (r : Fin 24) (c : Fin 32) :
    val_main_v65 (F := Ideal) x0 x1 (ix2 c r) = bin (table x1 r) (cell x0 r) (BitVec.ofNat 32 c.val) := by
  pointwise [val_main_v65, val_main_v64, val_main_v60, val_main_v59, val_main_v55, val_main_cst_6, val_main_cst_8, val_main_cst_10]
  have hp := fun e h => part_at x0 x1 hx r c e h
  by_cases h1 : 16 ≤ r.val
  · rw [dif_pos ⟨h1, by omega⟩, dif_neg (by omega), dif_neg (by omega), add_zero, add_zero]
    exact (hp _ (by simp; omega)).2.2 (by omega)
  · by_cases h2 : 8 ≤ r.val
    · rw [dif_neg (by omega), dif_pos ⟨h2, by omega⟩, dif_neg (by omega), add_zero, zero_add]
      exact (hp _ (by simp; omega)).2.1 (by omega)
    · rw [dif_neg (by omega), dif_neg (by omega), dif_pos (by omega), zero_add, zero_add]
      exact (hp _ (by simp; omega)).1 (by omega)

/-- The reference's result. -/
theorem out_at (hx : ∀ g p q, 0 ≤ (x1 (ix3 g p q)).toInt) (r : Fin 24) (c : Fin 128) :
    val_main_v67 (F := Ideal) x0 x1 (ix2 r c) = grad x0 x1 r c := by
  pointwise [val_main_v67, val_main_v66, val_main_call0_v0, val_main_c_11]
  unfold grad
  split
  · exact sum_at x0 x1 hx r _
  · show (((0#32).toInt : ℝ) : EReal) = 0
    simp

end Cert.Reference4Ideal.Bias

end
-- ==== Proof.BiasPre.lean ====
/- What the bias gradient's precondition says: the table's words are not negative. -/
module

public import proofs.«01_k».proof.Proof.Gen.Pre_buckets
public import Idealize.ShloMosaic.Lib.ReduceAll
public import Idealize.ShloMosaic.Lib.Pointwise

@[expose] public section

noncomputable section

open Idealize.ShloMosaic Idealize.ShloMosaic.TcCoe

namespace Cert.Pre_buckets

variable (x0 : FVec Ideal S4x6x128x256 .f32) (x1 : IVec S3x128x256 32)

theorem words (h : fn (F := Ideal) x0 x1 = fun _ => 1#1) (g : Fin 3) (p : Fin 128) (q : Fin 256) : 0 ≤ (x1 (ix3 g p q)).toInt := by
  have h0 := congrFun h ix0
  unfold fn at h0
  have h1 := Host.reduce_andi_all _ _ _ _ _ h0 (ix3 g p q)
  pointwise [] at h1
  by_contra hn
  have : (0#32).sle (x1 (ix3 g p q)) = false := by simpa [BitVec.sle] using hn
  simp [IntOp.cmpi, this] at h1

end Cert.Pre_buckets

end
-- ==== Proof.GatesRow.lean ====
/- One token of the gradient at the recurrence's inputs, as functions of the token and of the weights. -/
module

public import proofs.«01_k».proof.Proof.HeadReal

@[expose] public section

noncomputable section

open Idealize.ShloMosaic

namespace Cert.Gates

open Cert.Reals

/-- What one token brings: its projected row and the one before it, and the gradients at the six inputs of the recurrence. -/
structure Tok where
  x : Fin 1664 → EReal
  y : Fin 1664 → EReal
  dr : Fin 512 → EReal
  dw : Fin 512 → EReal
  dk : Fin 512 → EReal
  dv : Fin 512 → EReal
  dn : Fin 512 → EReal
  da : Fin 512 → EReal

/-- The shares of the previous row, and the parameters of decay, rate and keys. -/
structure Wts where
  mix : Fin 1664 → EReal
  w0 : Fin 512 → EReal
  wu : Fin 64 → Fin 512 → EReal
  a0 : Fin 512 → EReal
  au : Fin 64 → Fin 512 → EReal
  kk : Fin 512 → EReal
  ka : Fin 512 → EReal

variable (P : Wts) (T : Tok)

/-- The row after the token shift. -/
def sh (j : Fin 1664) : EReal := T.x j + (T.y j - T.x j) * P.mix j
def key (k : Fin 512) : EReal := sh P T ⟨512 + k.val, by omega⟩
def wl (c : Fin 64) : EReal := Ideal.tanh (sh P T ⟨1536 + c.val, by omega⟩)
def al (c : Fin 64) : EReal := sh P T ⟨1600 + c.val, by omega⟩
/-- What the decay is a function of. -/
def u (k : Fin 512) : EReal := P.w0 k + ∑ c : Fin 64, wl P T c * P.wu c k
/-- The rate. -/
def gate (k : Fin 512) : EReal := Ideal.logistic (P.a0 k + ∑ c : Fin 64, al P T c * P.au c k)

/-- The softened maximum of a number and zero. -/
def soft (v : EReal) : EReal := max v 0 + Ideal.log1p (Ideal.exp (-(max v (-v))))
/-- The gradient at what the decay is a function of. -/
def fall (d v : EReal) : EReal := -(-(-d * Ideal.exp (-soft v - Ideal.ofBits .f32 0x3F000000#32)) * Ideal.exp (v - soft v))
def du (k : Fin 512) : EReal := fall (T.dw k) (-u P T k)
/-- The gradient at what the rate is a function of. -/
def dz (k : Fin 512) : EReal := (T.da k + key P T k * T.dk k * P.ka k) * (gate P T k * (1 - gate P T k))
/-- The gradients at the key, at the decay's and at the rate's low-rank row. -/
def dkey (k : Fin 512) : EReal := T.dk k * (1 + (gate P T k - 1) * P.ka k) + T.dn k * P.kk k
def dwl (c : Fin 64) : EReal := (∑ k : Fin 512, du P T k * P.wu c k) * ((1 + wl P T c) * (1 - wl P T c))
def dal (c : Fin 64) : EReal := ∑ k : Fin 512, dz P T k * P.au c k

/-- The gradient at the row after the token shift, by its five parts. -/
def dsh (j : Fin 1664) : EReal :=
  if h : j.val < 512 then T.dr ⟨j.val, h⟩
  else if h : j.val < 1024 then dkey P T ⟨j.val - 512, by omega⟩
  else if h : j.val < 1536 then T.dv ⟨j.val - 1024, by omega⟩
  else if h : j.val < 1600 then dwl P T ⟨j.val - 1536, by omega⟩
  else dal P T ⟨j.val - 1600, by omega⟩

/-- A token's part of the gradient at the shares, and at the parameters. -/
def pmix (j : Fin 1664) : EReal := dsh P T j * (T.y j - T.x j)
def pwu (c : Fin 64) (k : Fin 512) : EReal := wl P T c * du P T k
def pau (c : Fin 64) (k : Fin 512) : EReal := al P T c * dz P T k
def pkk (k : Fin 512) : EReal := key P T k * T.dn k
def pka (k : Fin 512) : EReal := (gate P T k - 1) * (key P T k * T.dk k)

/-- The tokens of the arguments. -/
def toks (x0 : FVec Ideal ⟨3, ![4, 2048, 1664]⟩ .f32) (x1 x2 x3 x4 x5 x6 : FVec Ideal ⟨3, ![4, 2048, 512]⟩ .f32)
    (b : Fin 4) (s : Fin 2048) : Tok where
  x j := x0 (ix3 b s j)
  y j := if h : s.val = 0 then 0 else x0 (ix3 b ⟨s.val - 1, by omega⟩ j)
  dr k := x1 (ix3 b s k)
  dw k := x2 (ix3 b s k)
  dk k := x3 (ix3 b s k)
  dv k := x4 (ix3 b s k)
  dn k := x5 (ix3 b s k)
  da k := x6 (ix3 b s k)

/-- The weights of the arguments. -/
def wts (x7 : FVec Ideal ⟨2, ![1, 1664]⟩ .f32) (x8 : FVec Ideal ⟨2, ![1, 512]⟩ .f32) (x9 : FVec Ideal ⟨2, ![64, 512]⟩ .bf16)
    (x10 : FVec Ideal ⟨2, ![1, 512]⟩ .f32) (x11 : FVec Ideal ⟨2, ![64, 512]⟩ .bf16) (x12 x13 : FVec Ideal ⟨2, ![1, 512]⟩ .f32) : Wts where
  mix j := x7 (ix2 0 j)
  w0 k := x8 (ix2 0 k)
  wu c k := x9 (ix2 c k)
  a0 k := x10 (ix2 0 k)
  au c k := x11 (ix2 c k)
  kk k := x12 (ix2 0 k)
  ka k := x13 (ix2 0 k)

end Cert.Gates

end
-- ==== Proof.GatesReal.lean ====
/- The softened maximum, and the two ways its gradient is taken. -/
module

public import proofs.«01_k».proof.Proof.GatesRow

@[expose] public section

noncomputable section

open Idealize.ShloMosaic

namespace Cert.Gates

open Cert.Reals

theorem coe_max (a b : ℝ) : max (a : EReal) b = ((max a b : ℝ) : EReal) := (EReal.coe_strictMono.monotone.map_max).symm

/-- A sum over the first two of three coordinates. -/
theorem sum01 {n0 n1 n2 : Nat} (h : (⟨3, ![n0, n1, n2]⟩ : Shape).ReducesTo [0, 1] ⟨1, ![n2]⟩) (v : (⟨3, ![n0, n1, n2]⟩ : Shape).Idx → EReal) (j : Fin n2) :
    Ideal.hostReduceAdd h v 0 (ix1 j) = ∑ b : Fin n0, ∑ s : Fin n1, v (ix3 b s j) := by
  rw [Ideal.hostReduceAdd, zero_add]
  refine (Finset.sum_filter_eq_sum_of_fiber _ (fun k : Fin n0 × Fin n1 => (ix3 k.1 k.2 j : (⟨3, ![n0, n1, n2]⟩ : Shape).Idx))
    (fun _ _ e => Prod.ext (congrFun e 0) (congrFun e 1)) (fun i => ?_) v).trans ?_
  · constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨k, rfl⟩
      funext b
      apply Fin.ext
      match b with
      | ⟨0, _⟩ => rfl
  · simp only [Fintype.sum_prod_type]

/-- The size of a number, as both programs take it. -/
def size (v : EReal) : EReal := max v (-v)

theorem size_coe (r : ℝ) : size (r : EReal) = ((|r| : ℝ) : EReal) := by
  rw [size, ← EReal.coe_neg, coe_max]; rfl

theorem soft_coe (r : ℝ) : soft (r : EReal) = ((max r 0 + Real.log (1 + Real.exp (-|r|)) : ℝ) : EReal) := by
  have hp : ¬ (1 + Real.exp (-|r|)) ≤ 0 := by have := Real.exp_pos (-|r|); linarith
  have h : soft (r : EReal) = max (r : EReal) 0 + Ideal.log1p (Ideal.exp (-(size r))) := rfl
  rw [h, size_coe, ← EReal.coe_neg, Ideal.exp_coe, Ideal.log1p, ← EReal.coe_one, ← EReal.coe_add, Ideal.log_coe, if_neg hp,
    ← EReal.coe_zero, coe_max, ← EReal.coe_add]

theorem soft_bot : soft ⊥ = 0 := by
  have h : soft ⊥ = max ⊥ 0 + Ideal.log1p (Ideal.exp (-(max ⊥ (-⊥)))) := rfl
  rw [h, EReal.neg_bot, max_eq_right bot_le, max_eq_right bot_le, EReal.neg_top, Ideal.exp_bot, Ideal.log1p, add_zero, ← EReal.coe_one,
    Ideal.log_coe, if_neg (by norm_num), Real.log_one, EReal.coe_zero, zero_add]

theorem soft_top : soft ⊤ = ⊤ := by
  have h : soft ⊤ = max ⊤ 0 + Ideal.log1p (Ideal.exp (-(max ⊤ (-⊤)))) := rfl
  rw [h, EReal.neg_top, max_eq_left le_top, max_eq_left bot_le, EReal.neg_top, Ideal.exp_bot, Ideal.log1p, add_zero, ← EReal.coe_one,
    Ideal.log_coe, if_neg (by norm_num), Real.log_one, EReal.coe_zero, add_zero]

/-- What both programs weigh the gradient with: the decay's own logarithm. -/
def weight (v : EReal) : EReal := Ideal.exp (-soft v - Ideal.ofBits .f32 0x3F000000#32)

theorem weight_printed (v : EReal) : Ideal.exp (0 - (max v 0 + Ideal.log (1 + Ideal.exp (0 - size v))) - Ideal.ofBits .f32 0x3F000000#32) = weight v := by
  rw [zero_sub, zero_sub]; rfl

theorem weight_top : weight ⊤ = 0 := by
  rw [weight, soft_top, EReal.neg_top, sub_eq_add_neg, EReal.bot_add, Ideal.exp_bot]

theorem weight_real (v : EReal) (hv : v ≠ ⊤) : ∃ r : ℝ, weight v = (r : EReal) := by
  rw [weight, word_half]
  induction v with
  | bot => rw [soft_bot, neg_zero, zero_sub, ← EReal.coe_neg, Ideal.exp_coe]; exact ⟨_, rfl⟩
  | top => exact absurd rfl hv
  | coe r => rw [soft_coe, ← EReal.coe_neg, ← EReal.coe_sub, Ideal.exp_coe]; exact ⟨_, rfl⟩

theorem fall_eq (d v : EReal) : fall d v = -(-(-d * weight v) * Ideal.exp (v - soft v)) := rfl

/-- The reference asks whether a number is infinite before it takes a difference. -/
theorem fall_asked (d v : EReal) : -(-(-d * weight v) * Ideal.exp ((if v = ⊤ then 0 else v) - if soft v = ⊤ then 0 else soft v)) = fall d v := by
  rw [fall_eq]
  induction v with
  | bot => rw [if_neg (by decide), soft_bot, if_neg (by decide)]
  | top => rw [weight_top, mul_zero, neg_zero, zero_mul, zero_mul]
  | coe r => rw [if_neg (EReal.coe_ne_top r), soft_coe, if_neg (EReal.coe_ne_top _)]

/-- The kernel takes the gradients of the maximum and of the size apart: what it adds up. -/
def apart (w v e : EReal) : EReal :=
  0 - ((if 0 ≤ v then 0 - Ideal.div w (1 + e) * e else 0) + (0 - (if 0 ≤ v then 0 else 0 - Ideal.div w (1 + e) * e))
    + w * (if 0 < v then 1 else if v = 0 then Ideal.ofBits .f32 0x3F000000#32 else 0))

theorem apart_coe (w r : ℝ) (hr : r ≠ 0) : apart w r (Ideal.exp (0 - size r)) = -((w : EReal) * Ideal.exp ((r : EReal) - soft r)) := by
  have hE : Ideal.exp (0 - size (r : EReal)) = ((Real.exp (-|r|) : ℝ) : EReal) := by
    rw [size_coe, zero_sub, ← EReal.coe_neg, Ideal.exp_coe]
  have hp : 0 < 1 + Real.exp (-|r|) := by have := Real.exp_pos (-|r|); linarith
  have hd : Ideal.div (w : EReal) (1 + ((Real.exp (-|r|) : ℝ) : EReal)) = ((w / (1 + Real.exp (-|r|)) : ℝ) : EReal) := by
    rw [← EReal.coe_one, ← EReal.coe_add, Ideal.div_coe hp.ne', ← EReal.coe_mul, mul_one_div]
  have hx : Ideal.exp ((r : EReal) - soft r) = ((Real.exp (r - max r 0) / (1 + Real.exp (-|r|)) : ℝ) : EReal) := by
    rw [soft_coe, ← EReal.coe_sub, Ideal.exp_coe, ← sub_sub, Real.exp_sub, Real.exp_log hp]
  rw [hE, apart, hd, hx]
  rcases lt_or_gt_of_ne hr with h | h
  · rw [if_neg (by rw [← EReal.coe_zero, EReal.coe_le_coe_iff]; exact not_le.mpr h), if_neg (by rw [← EReal.coe_zero, EReal.coe_le_coe_iff]; exact not_le.mpr h),
      if_neg (by rw [← EReal.coe_zero, EReal.coe_lt_coe_iff]; exact not_lt.mpr h.le), if_neg (by rw [← EReal.coe_zero, EReal.coe_eq_coe_iff]; exact hr)]
    rw [abs_of_neg h, max_eq_right h.le]
    norm_cast
    rw [neg_neg, sub_zero]; ring
  · rw [if_pos (by rw [← EReal.coe_zero, EReal.coe_le_coe_iff]; exact h.le), if_pos (by rw [← EReal.coe_zero, EReal.coe_le_coe_iff]; exact h.le),
      if_pos (by rw [← EReal.coe_zero, EReal.coe_lt_coe_iff]; exact h)]
    rw [abs_of_pos h] at hp ⊢
    rw [max_eq_left h.le, sub_zero (0 : EReal), add_zero, mul_one, zero_sub, zero_sub, sub_self, Real.exp_zero]
    norm_cast
    field_simp
    ring

/-- Away from zero the two agree. -/
theorem fall_apart (d v : EReal) (hd : IsReal d) (hv : v ≠ 0) : apart (0 - (0 - d) * weight v) v (Ideal.exp (0 - size v)) = fall d v := by
  obtain ⟨d, rfl⟩ := hd
  rw [fall_eq, zero_sub, zero_sub]
  induction v with
  | top =>
    rw [weight_top, mul_zero, neg_zero, zero_mul, neg_zero, apart]
    simp [Ideal.div, size]
  | bot =>
    obtain ⟨r, hr⟩ := weight_real ⊥ (by decide)
    have hs : size ⊥ = ⊤ := by rw [size, EReal.neg_bot]; exact max_eq_right bot_le
    have he : (0 : EReal) - ⊤ = ⊥ := by rw [zero_sub, EReal.neg_top]
    rw [hr, hs, soft_bot, sub_zero, Ideal.exp_bot, mul_zero, he, Ideal.exp_bot, apart]
    simp
  | coe r =>
    obtain ⟨q, hq⟩ := weight_real (r : EReal) (EReal.coe_ne_top r)
    rw [hq]
    have h := apart_coe (-(-d * q)) r (by rintro rfl; exact hv rfl)
    push_cast at h
    exact h

end Cert.Gates

end
-- ==== Proof.GatesPay.lean ====
/- What the gradient at the recurrence's inputs computes of one block of tokens, token by token. -/
module

public import proofs.«01_k».proof.Proof.Gen.Kernel5Ideal.Skeleton
public import proofs.«01_k».proof.Proof.GatesReal
public import Idealize.ShloMosaic.Lib.Pointwise

@[expose] public section

set_option maxRecDepth 16384

noncomputable section

open Idealize.ShloMosaic Idealize.ShloMosaic.TcCoe Idealize.SL.Sem

namespace Cert.Kernel5Ideal.Gates

open Cert.Kernel5Ideal Cert.Kernel5Ideal.Gen Cert.Gates Cert.Reals

variable (P : Wts) (T : Fin 512 → Tok)
variable {i : grid0.Coords} {v0 v3 : FVec Ideal S1x512x1664 .f32} {v6 : FVec Ideal S1x1x1664 .f32} {v19 : FVec Ideal S1x1664 .f32}
  {v26 v29 v32 v33 : FVec Ideal S1x512 .f32} {v27 v30 : FVec Ideal S64x512 .bf16} {v88 v90 v92 v94 v96 v98 : FVec Ideal S1x512x512 .f32}
  {z : FVec Ideal S512x512 .f32}

/-- The blocks of a point hold these tokens and weights. -/
structure Holds (i : grid0.Coords) (v0 v3 : FVec Ideal S1x512x1664 .f32) (v6 : FVec Ideal S1x1x1664 .f32) (v19 : FVec Ideal S1x1664 .f32)
    (v26 v29 v32 v33 : FVec Ideal S1x512 .f32) (v27 v30 : FVec Ideal S64x512 .bf16) (v88 v90 v92 v94 v96 v98 : FVec Ideal S1x512x512 .f32)
    (z : FVec Ideal S512x512 .f32) : Prop where
  x : ∀ p j, v0 (ix3 0 p j) = (T p).x j
  y : ∀ p j, k0_pay14 (F := Ideal) i v3 v6 (ix2 p j) = (T p).y j
  mix : ∀ j, v19 (ix2 0 j) = P.mix j
  w0 : ∀ k, v26 (ix2 0 k) = P.w0 k
  wu : ∀ c k, v27 (ix2 c k) = P.wu c k
  a0 : ∀ k, v29 (ix2 0 k) = P.a0 k
  au : ∀ c k, v30 (ix2 c k) = P.au c k
  kk : ∀ k, v32 (ix2 0 k) = P.kk k
  ka : ∀ k, v33 (ix2 0 k) = P.ka k
  dr : ∀ p k, v88 (ix3 0 p k) = (T p).dr k
  dw : ∀ p k, v90 (ix3 0 p k) = (T p).dw k
  dk : ∀ p k, v92 (ix3 0 p k) = (T p).dk k
  dv : ∀ p k, v94 (ix3 0 p k) = (T p).dv k
  dn : ∀ p k, v96 (ix3 0 p k) = (T p).dn k
  da : ∀ p k, v98 (ix3 0 p k) = (T p).da k
  z : ∀ p k, z (ix2 p k) = 0
  /-- The gradients at the decay are numbers, and the decay is taken away from its corner. -/
  real : ∀ p k, IsReal ((T p).dw k)
  away : ∀ p k, -u P (T p) k ≠ 0

variable (H : Holds P T i v0 v3 v6 v19 v26 v29 v32 v33 v27 v30 v88 v90 v92 v94 v96 v98 z)
include H

theorem sh_at (p : Fin 512) (j : Fin 1664) : k0_pay15 (F := Ideal) i v0 v3 v6 v19 (ix2 p j) = sh P (T p) j := by
  pointwise [k0_pay15, k0_pay13, H.x, H.y, H.mix]
  rfl

theorem key_at (p k : Fin 512) : k0_pay16 (F := Ideal) i v0 v3 v6 v19 (ix2 p k) = key P (T p) k := by
  pointwise [k0_pay16, sh_at P T H]
  rfl

theorem al_at (p : Fin 512) (c : Fin 64) : k0_pay18 (F := Ideal) i v0 v3 v6 v19 (ix2 p c) = al P (T p) c := by
  pointwise [k0_pay18, sh_at P T H]
  rfl

theorem wl_at (p : Fin 512) (c : Fin 64) : k0_pay21 (F := Ideal) (k0_pay17 (F := Ideal) i v0 v3 v6 v19) (ix2 p c) = wl P (T p) c := by
  pointwise [k0_pay21, k0_pay17, sh_at P T H]
  rfl

theorem wl_slope (p : Fin 512) (c : Fin 64) : k0_pay22 (F := Ideal) (k0_pay17 (F := Ideal) i v0 v3 v6 v19) (ix2 p c) = (1 + wl P (T p) c) * (1 - wl P (T p) c) := by
  pointwise [k0_pay22, wl_at P T H]

theorem wu_at (c : Fin 64) (k : Fin 512) : k0_pay19 (F := Ideal) v27 (ix2 c k) = P.wu c k := by
  pointwise [k0_pay19, H.wu]

theorem au_at (c : Fin 64) (k : Fin 512) : k0_pay20 (F := Ideal) v30 (ix2 c k) = P.au c k := by
  pointwise [k0_pay20, H.au]

theorem u_at (p k : Fin 512) : k0_pay23 (F := Ideal) (k0_pay17 (F := Ideal) i v0 v3 v6 v19) v26 (k0_pay19 (F := Ideal) v27) (ix2 p k) = -u P (T p) k := by
  pointwise [k0_pay23, k0_pay21, k0_pay19, k0_pay17, sh_at P T H, H.w0, H.wu]
  exact zero_sub _

theorem gate_at (p k : Fin 512) : k0_pay31 (F := Ideal) v29 (k0_pay29 (F := Ideal) (k0_pay18 (F := Ideal) i v0 v3 v6 v19))
    (k0_pay30 (F := Ideal) (k0_pay20 (F := Ideal) v30)) z (ix2 p k) = gate P (T p) k := by
  pointwise [k0_pay31, k0_pay30, k0_pay29, k0_pay20, k0_pay18, sh_at P T H, H.a0, H.au, H.z]
  rfl

theorem du_at (p k : Fin 512) : k0_pay51 (F := Ideal)
    (k0_pay24 (F := Ideal) (k0_pay17 (F := Ideal) i v0 v3 v6 v19) v26 (k0_pay19 (F := Ideal) v27))
    (k0_pay25 (F := Ideal) (k0_pay17 (F := Ideal) i v0 v3 v6 v19) v26 (k0_pay19 (F := Ideal) v27))
    (k0_pay26 (F := Ideal) (k0_pay17 (F := Ideal) i v0 v3 v6 v19) v26 (k0_pay19 (F := Ideal) v27))
    (k0_pay27 (F := Ideal) (k0_pay17 (F := Ideal) i v0 v3 v6 v19) v26 (k0_pay19 (F := Ideal) v27))
    (k0_pay28 (F := Ideal) (k0_pay17 (F := Ideal) i v0 v3 v6 v19) v26 (k0_pay19 (F := Ideal) v27))
    (k0_pay35 (F := Ideal) v90) (ix2 p k) = du P (T p) k := by
  refine Eq.trans ?_ (fall_apart _ _ (H.real p k) (H.away p k))
  pointwise [k0_pay51, k0_pay28, k0_pay27, k0_pay26, k0_pay25, k0_pay24, k0_pay35, u_at P T H, H.dw]
  rw [← weight_printed]
  rfl

theorem dz_at (p k : Fin 512) : k0_pay46 (F := Ideal)
    (k0_pay32 (F := Ideal) v29 (k0_pay29 (F := Ideal) (k0_pay18 (F := Ideal) i v0 v3 v6 v19)) (k0_pay30 (F := Ideal) (k0_pay20 (F := Ideal) v30)) z)
    (k0_pay42 (F := Ideal) (k0_pay16 (F := Ideal) i v0 v3 v6 v19) v33 v92 v98) (ix2 p k) = dz P (T p) k := by
  pointwise [k0_pay46, k0_pay42, k0_pay39, k0_pay36, k0_pay32, k0_pay16, sh_at P T H, gate_at P T H, H.dk, H.da, H.ka]
  rfl

theorem dkey_at (p k : Fin 512) : k0_pay45 (F := Ideal) (k0_pay38 (F := Ideal) v96)
    (k0_pay40 (F := Ideal) v29 v33 (k0_pay29 (F := Ideal) (k0_pay18 (F := Ideal) i v0 v3 v6 v19)) (k0_pay30 (F := Ideal) (k0_pay20 (F := Ideal) v30)) z v92)
    (k0_pay44 (F := Ideal) v32) (ix2 p k) = dkey P (T p) k := by
  pointwise [k0_pay45, k0_pay44, k0_pay40, k0_pay38, k0_pay36, k0_pay33, gate_at P T H, H.dk, H.dn, H.kk, H.ka]
  rfl

theorem dwl_at (p : Fin 512) (c : Fin 64) : k0_pay55 (F := Ideal) (k0_pay19 (F := Ideal) v27) (k0_pay22 (F := Ideal) (k0_pay17 (F := Ideal) i v0 v3 v6 v19))
    (k0_pay24 (F := Ideal) (k0_pay17 (F := Ideal) i v0 v3 v6 v19) v26 (k0_pay19 (F := Ideal) v27))
    (k0_pay25 (F := Ideal) (k0_pay17 (F := Ideal) i v0 v3 v6 v19) v26 (k0_pay19 (F := Ideal) v27))
    (k0_pay26 (F := Ideal) (k0_pay17 (F := Ideal) i v0 v3 v6 v19) v26 (k0_pay19 (F := Ideal) v27))
    (k0_pay27 (F := Ideal) (k0_pay17 (F := Ideal) i v0 v3 v6 v19) v26 (k0_pay19 (F := Ideal) v27))
    (k0_pay28 (F := Ideal) (k0_pay17 (F := Ideal) i v0 v3 v6 v19) v26 (k0_pay19 (F := Ideal) v27))
    (k0_pay35 (F := Ideal) v90) (ix2 p c) = dwl P (T p) c := by
  pointwise [k0_pay55, k0_pay53, wl_slope P T H, du_at P T H, wu_at P T H]
  rfl

theorem dal_at (p : Fin 512) (c : Fin 64) : k0_pay49 (F := Ideal) (k0_pay20 (F := Ideal) v30)
    (k0_pay32 (F := Ideal) v29 (k0_pay29 (F := Ideal) (k0_pay18 (F := Ideal) i v0 v3 v6 v19)) (k0_pay30 (F := Ideal) (k0_pay20 (F := Ideal) v30)) z)
    (k0_pay42 (F := Ideal) (k0_pay16 (F := Ideal) i v0 v3 v6 v19) v33 v92 v98) (ix2 p c) = dal P (T p) c := by
  pointwise [k0_pay49, k0_pay48, dz_at P T H, au_at P T H]
  rfl

/-- The block's parts of the gradients at the parameters. -/
theorem w0_part (k : Fin 512) : k0_pay52 (F := Ideal)
    (k0_pay24 (F := Ideal) (k0_pay17 (F := Ideal) i v0 v3 v6 v19) v26 (k0_pay19 (F := Ideal) v27))
    (k0_pay25 (F := Ideal) (k0_pay17 (F := Ideal) i v0 v3 v6 v19) v26 (k0_pay19 (F := Ideal) v27))
    (k0_pay26 (F := Ideal) (k0_pay17 (F := Ideal) i v0 v3 v6 v19) v26 (k0_pay19 (F := Ideal) v27))
    (k0_pay27 (F := Ideal) (k0_pay17 (F := Ideal) i v0 v3 v6 v19) v26 (k0_pay19 (F := Ideal) v27))
    (k0_pay28 (F := Ideal) (k0_pay17 (F := Ideal) i v0 v3 v6 v19) v26 (k0_pay19 (F := Ideal) v27))
    (k0_pay35 (F := Ideal) v90) (ix2 0 k) = ∑ p : Fin 512, du P (T p) k := by
  pointwise [k0_pay52, du_at P T H]

theorem wu_part (c : Fin 64) (k : Fin 512) : k0_pay54 (F := Ideal) (k0_pay21 (F := Ideal) (k0_pay17 (F := Ideal) i v0 v3 v6 v19))
    (k0_pay24 (F := Ideal) (k0_pay17 (F := Ideal) i v0 v3 v6 v19) v26 (k0_pay19 (F := Ideal) v27))
    (k0_pay25 (F := Ideal) (k0_pay17 (F := Ideal) i v0 v3 v6 v19) v26 (k0_pay19 (F := Ideal) v27))
    (k0_pay26 (F := Ideal) (k0_pay17 (F := Ideal) i v0 v3 v6 v19) v26 (k0_pay19 (F := Ideal) v27))
    (k0_pay27 (F := Ideal) (k0_pay17 (F := Ideal) i v0 v3 v6 v19) v26 (k0_pay19 (F := Ideal) v27))
    (k0_pay28 (F := Ideal) (k0_pay17 (F := Ideal) i v0 v3 v6 v19) v26 (k0_pay19 (F := Ideal) v27))
    (k0_pay35 (F := Ideal) v90) (ix2 c k) = ∑ p : Fin 512, pwu P (T p) c k := by
  pointwise [k0_pay54, k0_pay53, wl_at P T H, du_at P T H]
  rfl

theorem a0_part (k : Fin 512) : k0_pay47 (F := Ideal)
    (k0_pay32 (F := Ideal) v29 (k0_pay29 (F := Ideal) (k0_pay18 (F := Ideal) i v0 v3 v6 v19)) (k0_pay30 (F := Ideal) (k0_pay20 (F := Ideal) v30)) z)
    (k0_pay42 (F := Ideal) (k0_pay16 (F := Ideal) i v0 v3 v6 v19) v33 v92 v98) (ix2 0 k) = ∑ p : Fin 512, dz P (T p) k := by
  pointwise [k0_pay47, dz_at P T H]

theorem au_part (c : Fin 64) (k : Fin 512) : k0_pay50 (F := Ideal) (k0_pay18 (F := Ideal) i v0 v3 v6 v19)
    (k0_pay32 (F := Ideal) v29 (k0_pay29 (F := Ideal) (k0_pay18 (F := Ideal) i v0 v3 v6 v19)) (k0_pay30 (F := Ideal) (k0_pay20 (F := Ideal) v30)) z)
    (k0_pay42 (F := Ideal) (k0_pay16 (F := Ideal) i v0 v3 v6 v19) v33 v92 v98) (ix2 c k) = ∑ p : Fin 512, pau P (T p) c k := by
  pointwise [k0_pay50, k0_pay48, al_at P T H, dz_at P T H]
  rfl

theorem kk_part (k : Fin 512) : k0_pay43 (F := Ideal) (k0_pay16 (F := Ideal) i v0 v3 v6 v19) v96 (ix2 0 k) = ∑ p : Fin 512, pkk P (T p) k := by
  pointwise [k0_pay43, k0_pay38, k0_pay16, sh_at P T H, H.dn]
  rfl

theorem ka_part (k : Fin 512) : k0_pay41 (F := Ideal) (k0_pay16 (F := Ideal) i v0 v3 v6 v19) v29
    (k0_pay29 (F := Ideal) (k0_pay18 (F := Ideal) i v0 v3 v6 v19)) (k0_pay30 (F := Ideal) (k0_pay20 (F := Ideal) v30)) z v92 (ix2 0 k) = ∑ p : Fin 512, pka P (T p) k := by
  pointwise [k0_pay41, k0_pay39, k0_pay36, k0_pay33, k0_pay16, sh_at P T H, gate_at P T H, H.dk]
  rfl

theorem mix_part (v164 : FVec Ideal S1x512x1664 .f32) (hv : ∀ p j, v164 (ix3 0 p j) = dsh P (T p) j) (j : Fin 1664) :
    k0_pay5 (F := Ideal) (k0_pay13 (F := Ideal) v0) (k0_pay14 (F := Ideal) i v3 v6) v164 (ix2 0 j) = ∑ p : Fin 512, pmix P (T p) j := by
  pointwise [k0_pay5, k0_pay13, H.x, H.y, hv]
  rfl

end Cert.Kernel5Ideal.Gates

end
-- ==== Proof.GatesSums.lean ====
/- Sums over the tokens of four sequences, taken block by block. -/
module

public import proofs.«01_k».proof.Proof.GatesRow

@[expose] public section

noncomputable section

open Idealize.ShloMosaic

namespace Cert.Gates

/-- The sum over the tokens of the `t`-th block, of sixteen. -/
def tile (F : Fin 4 → Fin 2048 → EReal) (t : ℕ) (h : t < 16) : EReal :=
  ∑ p : Fin 512, F ⟨t / 4, by omega⟩ ⟨t % 4 * 512 + p.val, by omega⟩

theorem sum_tiles (F : Fin 4 → Fin 2048 → EReal) : ∑ t : Fin 16, tile F t.val t.isLt = ∑ b : Fin 4, ∑ s : Fin 2048, F b s := by
  rw [Fin.sum_univ_tiles 4 4 rfl (fun t : Fin 16 => tile F t.val t.isLt)]
  refine Finset.sum_congr rfl fun b _ => ?_
  rw [Fin.sum_univ_tiles 4 512 rfl (F b)]
  refine Finset.sum_congr rfl fun i _ => Finset.sum_congr rfl fun p _ => ?_
  have hi := i.isLt
  exact congrArg₂ F (Fin.ext (by show (b.val * 4 + i.val) / 4 = b.val; omega))
    (Fin.ext (by show (b.val * 4 + i.val) % 4 * 512 + p.val = i.val * 512 + p.val; omega))

/-- What starts at the first block's sum and adds every further block's ends at the sum over all tokens. -/
theorem sum_run (f : (n : ℕ) → n < 16 → EReal) (F : Fin 4 → Fin 2048 → EReal)
    (h0 : ∀ (t : ℕ) (h : t < 16), t % 16 = 0 → f t h = tile F t h)
    (hs : ∀ (t : ℕ) (h : t < 16), ¬t % 16 = 0 → f t h = f (t - 1) (Nat.lt_of_le_of_lt (Nat.sub_le _ _) h) + tile F t h)
    (t : ℕ) (h : t < 16) (ht : t % 16 = 15) : f t h = ∑ b : Fin 4, ∑ s : Fin 2048, F b s := by
  have run : ∀ n (h : n < 16), f n h = ∑ i : Fin (n + 1), tile F i.val (by omega) := by
    intro n
    induction n with
    | zero => intro h; rw [Fin.sum_univ_one]; exact h0 0 h rfl
    | succ n ih =>
      intro h
      rw [Fin.sum_univ_castSucc]
      refine (hs (n + 1) h (by omega)).trans ?_
      exact congrArg₂ _ (ih (by omega)) rfl
  obtain rfl : t = 15 := by omega
  exact (run 15 h).trans (sum_tiles F)

end Cert.Gates

end
-- ==== Proof.GatesBlock.lean ====
/- The blocks of the gradient at the recurrence's inputs: which tokens they hold, and the five stores of a row's gradient. -/
module

public import proofs.«01_k».proof.Proof.Gen.Kernel5Ideal.Frame
public import proofs.«01_k».proof.Proof.GatesPay
public import proofs.«01_k».proof.Proof.GatesSums
public import Idealize.ShloMosaic.Lib.Pipeline.ValueKit
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.Gates

/-- A row's gradient, part by part. -/
theorem dsh_dr (P : Wts) (T : Tok) (j : Fin 1664) (k : Fin 512) (h : j.val = k.val) : dsh P T j = T.dr k := by
  have hk := k.isLt
  unfold dsh
  rw [dif_pos (by omega)]
  exact congrArg T.dr (Fin.ext h)

theorem dsh_key (P : Wts) (T : Tok) (j : Fin 1664) (k : Fin 512) (h : j.val = 512 + k.val) : dsh P T j = dkey P T k := by
  have hk := k.isLt
  unfold dsh
  rw [dif_neg (by omega), dif_pos (by omega)]
  exact congrArg (dkey P T) (Fin.ext (by show j.val - 512 = k.val; omega))

theorem dsh_dv (P : Wts) (T : Tok) (j : Fin 1664) (k : Fin 512) (h : j.val = 1024 + k.val) : dsh P T j = T.dv k := by
  have hk := k.isLt
  unfold dsh
  rw [dif_neg (by omega), dif_neg (by omega), dif_pos (by omega)]
  exact congrArg T.dv (Fin.ext (by show j.val - 1024 = k.val; omega))

theorem dsh_wl (P : Wts) (T : Tok) (j : Fin 1664) (k : Fin 64) (h : j.val = 1536 + k.val) : dsh P T j = dwl P T k := by
  have hk := k.isLt
  unfold dsh
  rw [dif_neg (by omega), dif_neg (by omega), dif_neg (by omega), dif_pos (by omega)]
  exact congrArg (dwl P T) (Fin.ext (by show j.val - 1536 = k.val; omega))

theorem dsh_al (P : Wts) (T : Tok) (j : Fin 1664) (k : Fin 64) (h : j.val = 1600 + k.val) : dsh P T j = dal P T k := by
  have hk := k.isLt
  unfold dsh
  rw [dif_neg (by omega), dif_neg (by omega), dif_neg (by omega), dif_neg (by omega)]
  exact congrArg (dal P T) (Fin.ext (by show j.val - 1600 = k.val; omega))

end Cert.Gates

namespace Cert.Kernel5Ideal.Gates

open Cert.Kernel5Ideal Cert.Kernel5Ideal.Gen Cert.Gates Cert.Reals

variable (m : (ℓ : Loc nD τ sig) → Buf (Elt Ideal) ℓ) (c : Dev nD)

theorem idx : ∀ t : Fin cfg0.N, win0_0.index t = ![t.val / 4, t.val % 4, 0]
    ∧ win0_1.index t = ![t.val / 4, 64 * (t.val % 4) - 1, 0] ∧ win0_2.index t = ![t.val / 4, t.val % 4, 0]
    ∧ win0_3.index t = ![t.val / 4, t.val % 4, 0] ∧ win0_4.index t = ![t.val / 4, t.val % 4, 0]
    ∧ win0_5.index t = ![t.val / 4, t.val % 4, 0] ∧ win0_6.index t = ![t.val / 4, t.val % 4, 0]
    ∧ win0_7.index t = ![t.val / 4, t.val % 4, 0] ∧ win0_8.index t = ![0, 0] ∧ win0_9.index t = ![0, 0]
    ∧ win0_10.index t = ![0, 0] ∧ win0_11.index t = ![0, 0] ∧ win0_12.index t = ![0, 0] ∧ win0_13.index t = ![0, 0]
    ∧ win0_14.index t = ![0, 0] ∧ win0_15.index t = ![t.val / 4, t.val % 4, 0] ∧ win0_16.index t = ![0, 0]
    ∧ win0_17.index t = ![0, 0] ∧ win0_18.index t = ![0, 0] ∧ win0_19.index t = ![0, 0] ∧ win0_20.index t = ![0, 0]
    ∧ win0_21.index t = ![0, 0] ∧ win0_22.index t = ![0, 0] ∧ (grid0.coords t 1).val = t.val % 4 :=
  (by decide +kernel : ∀ t : Fin grid0.N, _)

theorem t_lt (t : Fin cfg0.N) : t.val < 16 := t.isLt

/-- The sequence of a point, and the token of a row of its block. -/
def seq (t : Fin cfg0.N) : Fin 4 := ⟨t.val / 4, by have := t_lt t; omega⟩
def tok (t : Fin cfg0.N) (p : Fin 512) : Fin 2048 := ⟨t.val % 4 * 512 + p.val, by omega⟩

/-- The tokens and the weights of the launch's arguments. -/
abbrev T (b : Fin 4) (s : Fin 2048) : Tok :=
  toks (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) b s

abbrev P : Wts :=
  wts (m ((c : Thread nD τ).loc main_arg7)) (m ((c : Thread nD τ).loc main_arg8)) (m ((c : Thread nD τ).loc main_arg9))
    (m ((c : Thread nD τ).loc main_arg10)) (m ((c : Thread nD τ).loc main_arg11)) (m ((c : Thread nD τ).loc main_arg12))
    (m ((c : Thread nD τ).loc main_arg13))

/-- Where the gradients at the decay are numbers and no decay sits at its corner. -/
def Away : Prop := ∀ b s k, IsReal ((T m c b s).dw k) ∧ u (P m c) (T m c b s) k ≠ 0

theorem rows_at (t : Fin cfg0.N) (p : Fin 512) (j : Fin 1664) :
    iblk m c 0 t (ix3 0 p j) = m ((c : Thread nD τ).loc main_arg0) (ix3 (seq t) (tok t p) j) := by
  blk_ext [iblk, V, idx t, seq, tok]

/-- A row of a block looks back at the row before it, the first row at the last of the block before, a sequence's first at none. -/
theorem prev_at (t : Fin cfg0.N) (e : FVec Ideal S1x1x1664 .f32)
    (he : t.val % 4 ≠ 0 → ∀ j, e (ix3 0 0 j) = m ((c : Thread nD τ).loc main_arg0)
      (ix3 (seq t) (⟨t.val % 4 * 512 - 1, by omega⟩ : Fin 2048) j)) (p : Fin 512) (j : Fin 1664) :
    k0_pay14 (F := Ideal) (grid0.coords t) (iblk m c 0 t) e (ix2 p j) = (T m c (seq t) (tok t p)).y j := by
  have hg := (idx t).2.2.2.2.2.2.2.2.2.2.2.2.2.2.2.2.2.2.2.2.2.2.2
  pointwise [k0_pay14]
  rw [hg]
  have hz : Scalar.cmpi CmpIPredicate.eq (BitVec.ofNat 32 (t.val % 4)) 0#32 = BitVec.ofBool (decide (t.val % 4 = 0)) :=
    WordCmp.cmpi_eq_ofNat (by omega) (by decide)
  have hy : IntOp.cmpi CmpIPredicate.eq (BitVec.ofNat 32 p.val) 0#32 = BitVec.ofBool (decide (p.val = 0)) :=
    WordCmp.cmpi_eq_ofNat (by omega) (by decide)
  rw [hz, hy, WordCmp.select_decide, WordCmp.select_decide]
  show _ = if h : t.val % 4 * 512 + p.val = 0 then (0 : EReal) else m ((c : Thread nD τ).loc main_arg0)
    (ix3 (seq t) (⟨t.val % 4 * 512 + p.val - 1, by omega⟩ : Fin 2048) j)
  by_cases h : p.val = 0
  · rw [if_pos h]
    by_cases h' : t.val % 4 = 0
    · rw [if_pos h', dif_pos (by omega)]
    · rw [if_neg h', dif_neg (by omega), he h']
      blk_ext
  · rw [if_neg h, dif_neg (by omega)]
    rw [rows_at]
    blk_ext [tok]

set_option maxHeartbeats 4000000 in
/-- The blocks of a point hold its tokens. -/
theorem holds (ha : Away m c) (t : Fin cfg0.N) {e : FVec Ideal S1x1x1664 .f32} {z : FVec Ideal S512x512 .f32}
    (he : t.val % 4 ≠ 0 → ∀ j, e (ix3 0 0 j) = m ((c : Thread nD τ).loc main_arg0)
      (ix3 (seq t) (⟨t.val % 4 * 512 - 1, by omega⟩ : Fin 2048) j)) (hz : ∀ p k, z (ix2 p k) = 0) :
    Holds (P m c) (fun p => T m c (seq t) (tok t p)) (grid0.coords t) (iblk m c 0 t) (iblk m c 0 t) e (iblk m c 8 t) (iblk m c 9 t)
      (iblk m c 11 t) (iblk m c 13 t) (iblk m c 14 t) (iblk m c 10 t) (iblk m c 12 t) (iblk m c 2 t) (iblk m c 3 t) (iblk m c 4 t)
      (iblk m c 5 t) (iblk m c 6 t) (iblk m c 7 t) z where
  x p j := rows_at m c t p j
  y p j := prev_at m c t e he p j
  mix j := by blk_ext [iblk, V, idx t, P, wts]
  w0 j := by blk_ext [iblk, V, idx t, P, wts]
  wu j k := by blk_ext [iblk, V, idx t, P, wts]
  a0 j := by blk_ext [iblk, V, idx t, P, wts]
  au j k := by blk_ext [iblk, V, idx t, P, wts]
  kk j := by blk_ext [iblk, V, idx t, P, wts]
  ka j := by blk_ext [iblk, V, idx t, P, wts]
  dr p j := by blk_ext [iblk, V, idx t, T, toks, seq, tok]
  dw p j := by blk_ext [iblk, V, idx t, T, toks, seq, tok]
  dk p j := by blk_ext [iblk, V, idx t, T, toks, seq, tok]
  dv p j := by blk_ext [iblk, V, idx t, T, toks, seq, tok]
  dn p j := by blk_ext [iblk, V, idx t, T, toks, seq, tok]
  da p j := by blk_ext [iblk, V, idx t, T, toks, seq, tok]
  z := hz
  real p k := (ha _ _ k).1
  away p k := by
    intro h
    exact (ha (seq t) (tok t p) k).2 (by rw [← neg_neg (u _ _ k), h]; exact neg_zero)

end Cert.Kernel5Ideal.Gates

end
-- ==== Proof.GatesKernel.lean ====
/- What the gradient at the recurrence's inputs leaves in its result arrays. -/
module

public import proofs.«01_k».proof.Proof.GatesBlock
public import Idealize.ShloMosaic.Lib.Pipeline.ReadBack

@[expose] public section

set_option maxRecDepth 16384
set_option maxHeartbeats 4000000

noncomputable section

open Idealize.ShloMosaic Idealize.ShloMosaic.TcCoe Idealize.SL.Sem

namespace Cert.Kernel5Ideal.Gates

open Cert.Kernel5Ideal Cert.Kernel5Ideal.Gen Cert.Gates Cert.Reals

variable (m : (ℓ : Loc nD τ sig) → Buf (Elt Ideal) ℓ) (c : Dev nD)

/-- The last row of the block before, where there is one. -/
theorem edge_at (t : Fin cfg0.N) (h : t.val % 4 ≠ 0) (j : Fin 1664) :
    iblk m c 1 t (ix3 0 7 j) = m ((c : Thread nD τ).loc main_arg0)
      (ix3 (seq t) (⟨t.val % 4 * 512 - 1, by omega⟩ : Fin 2048) j) := by
  blk_ext [iblk, V, idx t, seq]

/-- Five stores side by side hold a row's gradient. -/
theorem five (P : Wts) (T : Fin 512 → Tok) (w0 w1 w2 : FVec Ideal S1x512x512 .f32) (w3 w4 : FVec Ideal S1x512x64 .f32)
    (h0 : ∀ p k, w0 (ix3 0 p k) = (T p).dr k) (h1 : ∀ p k, w1 (ix3 0 p k) = dkey P (T p) k) (h2 : ∀ p k, w2 (ix3 0 p k) = (T p).dv k)
    (h3 : ∀ p k, w3 (ix3 0 p k) = dwl P (T p) k) (h4 : ∀ p k, w4 (ix3 0 p k) = dal P (T p) k) (p : Fin 512) (j : Fin 1664) :
    View.canon (Val := Elt Ideal) (s := S1x512x1664) (e := .f32)
      [⟨Rect.unit ![0, 0, 1600] ![1, 512, 64] inb_S1x512x1664_S1x512x64_0_0_1600, w4⟩,
       ⟨Rect.unit ![0, 0, 1536] ![1, 512, 64] inb_S1x512x1664_S1x512x64_0_0_1536, w3⟩,
       ⟨Rect.unit ![0, 0, 1024] ![1, 512, 512] inb_S1x512x1664_S1x512x512_0_0_1024, w2⟩,
       ⟨Rect.unit ![0, 0, 512] ![1, 512, 512] inb_S1x512x1664_S1x512x512_0_0_512, w1⟩,
       ⟨Rect.unit ![0, 0, 0] ![1, 512, 512] inb_S1x512x1664_S1x512x512_0_0_0, w0⟩] (ix3 0 p j) = dsh P (T p) j := by
  canon_tiles x hx using View.cover_of_tiledBy _ ![1, 512, 64] (by sl_kernel_rfl) _
  all_goals
    idx_vars x
    obtain rfl : p = x1 := Fin.ext hx1
    obtain rfl : x0 = 0 := Subsingleton.elim _ _
  case piece0 => exact (h4 _ _).trans (dsh_al P (T p) j _ hx2).symm
  case piece1 => exact (h3 _ _).trans (dsh_wl P (T p) j _ hx2).symm
  case piece2 => exact (h2 _ _).trans (dsh_dv P (T p) j _ hx2).symm
  case piece3 => exact (h1 _ _).trans (dsh_key P (T p) j _ hx2).symm
  case piece4 => exact (h0 _ _).trans (dsh_dr P (T p) j _ hx2).symm

/-- The whole block read back. -/
theorem whole (p : Fin 512) (j : Fin 1664) :
    (Rect.unit (s := S1x512x1664) ![0, 0, 0] ![1, 512, 1664] inb_S1x512x1664_S1x512x1664_0_0_0).toLoadRect.idx (ix3 0 p j) = ix3 0 p j := by
  funext a
  apply Fin.ext
  show ((Rect.unit (s := S1x512x1664) ![0, 0, 0] ![1, 512, 1664] inb_S1x512x1664_S1x512x1664_0_0_0).idx (ix3 0 p j) a).val = _
  rw [Rect.idx_unit_val]
  fin_cases a <;> exact Nat.zero_add _

/-- The blocks of a point, as its arithmetic reads them. -/
theorem reads (ha : Away m c) (t : Fin cfg0.N) :
    Holds (P m c) (fun p => T m c (seq t) (tok t p)) (grid0.coords t) (iblk m c 0 t) (iblk m c 0 t)
      (View.ld (iblk m c 1 t) (Rect.unit ![0, 7, 0] ![1, 1, 1664] inb_S1x8x1664_S1x1x1664_0_7_0)) (iblk m c 8 t) (iblk m c 9 t)
      (iblk m c 11 t) (iblk m c 13 t) (iblk m c 14 t) (iblk m c 10 t) (iblk m c 12 t) (iblk m c 2 t) (iblk m c 3 t) (iblk m c 4 t)
      (iblk m c 5 t) (iblk m c 6 t) (iblk m c 7 t) (constant S512x512 .f32 0#32) :=
  holds m c ha t (fun h j => by pointwise []; exact edge_at m c t h j) (fun _ _ => by pointwise [])

theorem add6 (a b : FVec Ideal S1x1664 .f32) (k : Fin 1664) : k0_pay6 (F := Ideal) a b (ix2 0 k) = b (ix2 0 k) + a (ix2 0 k) := by
  pointwise [k0_pay6]

theorem add7 (a b : FVec Ideal S1x512 .f32) (k : Fin 512) : k0_pay7 (F := Ideal) a b (ix2 0 k) = b (ix2 0 k) + a (ix2 0 k) := by
  pointwise [k0_pay7]

theorem add8 (a b : FVec Ideal S64x512 .f32) (j : Fin 64) (k : Fin 512) :
    k0_pay8 (F := Ideal) a b (ix2 j k) = b (ix2 j k) + a (ix2 j k) := by
  pointwise [k0_pay8]

theorem add9 (a b : FVec Ideal S1x512 .f32) (k : Fin 512) :
    k0_pay9 (F := Ideal) a b (ix2 0 k) = b (ix2 0 k) + a (ix2 0 k) := by
  pointwise [k0_pay9]

theorem add10 (a b : FVec Ideal S64x512 .f32) (j : Fin 64) (k : Fin 512) :
    k0_pay10 (F := Ideal) a b (ix2 j k) = b (ix2 j k) + a (ix2 j k) := by
  pointwise [k0_pay10]

theorem add11 (a b : FVec Ideal S1x512 .f32) (k : Fin 512) :
    k0_pay11 (F := Ideal) a b (ix2 0 k) = b (ix2 0 k) + a (ix2 0 k) := by
  pointwise [k0_pay11]

theorem add12 (a b : FVec Ideal S1x512 .f32) (k : Fin 512) :
    k0_pay12 (F := Ideal) a b (ix2 0 k) = b (ix2 0 k) + a (ix2 0 k) := by
  pointwise [k0_pay12]

theorem out15 (ha : Away m c) (t : Fin cfg0.N) (p : Fin 512) (j : Fin 1664) :
    (outsAt0 m c t.val t.isLt).1 (ix3 0 p j) = dsh (P m c) (T m c (seq t) (tok t p)) j := by
  have hr := reads m c ha t
  have ht := t_lt t
  by_cases h0 : t.val % 16 = 0
  · rw [outsAt0_A m c t h0 (by omega)]; frame_out
    refine five (P m c) (fun p => T m c (seq t) (tok t p)) _ _ _ _ _ (fun p k => ?_) (fun p k => ?_) (fun p k => ?_) (fun p k => ?_) (fun p k => ?_) p j
    · pointwise [k0_pay56, k0_pay34]; exact hr.dr p k
    · pointwise [k0_pay1]; exact dkey_at _ _ hr p k
    · pointwise [k0_pay2, k0_pay37]; exact hr.dv p k
    · pointwise [k0_pay3]; exact dwl_at _ _ hr p k
    · pointwise [k0_pay4]; exact dal_at _ _ hr p k
  · rw [outsAt0_B m c t h0 (by omega)]; frame_out
    refine five (P m c) (fun p => T m c (seq t) (tok t p)) _ _ _ _ _ (fun p k => ?_) (fun p k => ?_) (fun p k => ?_) (fun p k => ?_) (fun p k => ?_) p j
    · pointwise [k0_pay56, k0_pay34]; exact hr.dr p k
    · pointwise [k0_pay1]; exact dkey_at _ _ hr p k
    · pointwise [k0_pay2, k0_pay37]; exact hr.dv p k
    · pointwise [k0_pay3]; exact dwl_at _ _ hr p k
    · pointwise [k0_pay4]; exact dal_at _ _ hr p k

theorem last17 (ha : Away m c) (t : Fin cfg0.N) (ht : t.val % 16 = 15) (k : Fin 512) :
    (outsAt0 m c t.val t.isLt).2.2.1 (ix2 0 k) = ∑ b : Fin 4, ∑ s : Fin 2048, du (P m c) (T m c b s) k := by
  refine sum_run (fun n h => (outsAt0 m c n h).2.2.1 (ix2 0 k)) (fun b s => du (P m c) (T m c b s) k) (fun n hn h0 => ?_) (fun n hn h0 => ?_)
    t.val t.isLt ht
  · show (outsAt0 m c n hn).2.2.1 (ix2 0 k) = _
    rw [outsAt0_A m c ⟨n, hn⟩ h0 (by show ¬1 ≤ n; omega)]; frame_out
    exact w0_part _ _ (reads m c ha ⟨n, hn⟩) k
  · show (outsAt0 m c n hn).2.2.1 (ix2 0 k) = (outsAt0 m c (n - 1) _).2.2.1 (ix2 0 k) + _
    rw [outsAt0_B m c ⟨n, hn⟩ h0 (by show 1 ≤ n; omega)]; frame_out
    rw [add7]
    exact congrArg _ (w0_part _ _ (reads m c ha ⟨n, hn⟩) k)

theorem last18 (ha : Away m c) (t : Fin cfg0.N) (ht : t.val % 16 = 15) (j : Fin 64) (k : Fin 512) :
    (outsAt0 m c t.val t.isLt).2.2.2.1 (ix2 j k) = ∑ b : Fin 4, ∑ s : Fin 2048, pwu (P m c) (T m c b s) j k := by
  refine sum_run (fun n h => (outsAt0 m c n h).2.2.2.1 (ix2 j k)) (fun b s => pwu (P m c) (T m c b s) j k) (fun n hn h0 => ?_) (fun n hn h0 => ?_)
    t.val t.isLt ht
  · show (outsAt0 m c n hn).2.2.2.1 (ix2 j k) = _
    rw [outsAt0_A m c ⟨n, hn⟩ h0 (by show ¬1 ≤ n; omega)]; frame_out
    exact wu_part _ _ (reads m c ha ⟨n, hn⟩) j k
  · show (outsAt0 m c n hn).2.2.2.1 (ix2 j k) = (outsAt0 m c (n - 1) _).2.2.2.1 (ix2 j k) + _
    rw [outsAt0_B m c ⟨n, hn⟩ h0 (by show 1 ≤ n; omega)]; frame_out
    rw [add8]
    exact congrArg _ (wu_part _ _ (reads m c ha ⟨n, hn⟩) j k)

theorem last19 (ha : Away m c) (t : Fin cfg0.N) (ht : t.val % 16 = 15) (k : Fin 512) :
    (outsAt0 m c t.val t.isLt).2.2.2.2.1 (ix2 0 k) = ∑ b : Fin 4, ∑ s : Fin 2048, dz (P m c) (T m c b s) k := by
  refine sum_run (fun n h => (outsAt0 m c n h).2.2.2.2.1 (ix2 0 k)) (fun b s => dz (P m c) (T m c b s) k) (fun n hn h0 => ?_) (fun n hn h0 => ?_)
    t.val t.isLt ht
  · show (outsAt0 m c n hn).2.2.2.2.1 (ix2 0 k) = _
    rw [outsAt0_A m c ⟨n, hn⟩ h0 (by show ¬1 ≤ n; omega)]; frame_out
    exact a0_part _ _ (reads m c ha ⟨n, hn⟩) k
  · show (outsAt0 m c n hn).2.2.2.2.1 (ix2 0 k) = (outsAt0 m c (n - 1) _).2.2.2.2.1 (ix2 0 k) + _
    rw [outsAt0_B m c ⟨n, hn⟩ h0 (by show 1 ≤ n; omega)]; frame_out
    rw [add9]
    exact congrArg _ (a0_part _ _ (reads m c ha ⟨n, hn⟩) k)

theorem last20 (ha : Away m c) (t : Fin cfg0.N) (ht : t.val % 16 = 15) (j : Fin 64) (k : Fin 512) :
    (outsAt0 m c t.val t.isLt).2.2.2.2.2.1 (ix2 j k) = ∑ b : Fin 4, ∑ s : Fin 2048, pau (P m c) (T m c b s) j k := by
  refine sum_run (fun n h => (outsAt0 m c n h).2.2.2.2.2.1 (ix2 j k)) (fun b s => pau (P m c) (T m c b s) j k) (fun n hn h0 => ?_) (fun n hn h0 => ?_)
    t.val t.isLt ht
  · show (outsAt0 m c n hn).2.2.2.2.2.1 (ix2 j k) = _
    rw [outsAt0_A m c ⟨n, hn⟩ h0 (by show ¬1 ≤ n; omega)]; frame_out
    exact au_part _ _ (reads m c ha ⟨n, hn⟩) j k
  · show (outsAt0 m c n hn).2.2.2.2.2.1 (ix2 j k) = (outsAt0 m c (n - 1) _).2.2.2.2.2.1 (ix2 j k) + _
    rw [outsAt0_B m c ⟨n, hn⟩ h0 (by show 1 ≤ n; omega)]; frame_out
    rw [add10]
    exact congrArg _ (au_part _ _ (reads m c ha ⟨n, hn⟩) j k)

theorem last21 (ha : Away m c) (t : Fin cfg0.N) (ht : t.val % 16 = 15) (k : Fin 512) :
    (outsAt0 m c t.val t.isLt).2.2.2.2.2.2.1 (ix2 0 k) = ∑ b : Fin 4, ∑ s : Fin 2048, pkk (P m c) (T m c b s) k := by
  refine sum_run (fun n h => (outsAt0 m c n h).2.2.2.2.2.2.1 (ix2 0 k)) (fun b s => pkk (P m c) (T m c b s) k) (fun n hn h0 => ?_) (fun n hn h0 => ?_)
    t.val t.isLt ht
  · show (outsAt0 m c n hn).2.2.2.2.2.2.1 (ix2 0 k) = _
    rw [outsAt0_A m c ⟨n, hn⟩ h0 (by show ¬1 ≤ n; omega)]; frame_out
    exact kk_part _ _ (reads m c ha ⟨n, hn⟩) k
  · show (outsAt0 m c n hn).2.2.2.2.2.2.1 (ix2 0 k) = (outsAt0 m c (n - 1) _).2.2.2.2.2.2.1 (ix2 0 k) + _
    rw [outsAt0_B m c ⟨n, hn⟩ h0 (by show 1 ≤ n; omega)]; frame_out
    rw [add11]
    exact congrArg _ (kk_part _ _ (reads m c ha ⟨n, hn⟩) k)

theorem last22 (ha : Away m c) (t : Fin cfg0.N) (ht : t.val % 16 = 15) (k : Fin 512) :
    (outsAt0 m c t.val t.isLt).2.2.2.2.2.2.2 (ix2 0 k) = ∑ b : Fin 4, ∑ s : Fin 2048, pka (P m c) (T m c b s) k := by
  refine sum_run (fun n h => (outsAt0 m c n h).2.2.2.2.2.2.2 (ix2 0 k)) (fun b s => pka (P m c) (T m c b s) k) (fun n hn h0 => ?_) (fun n hn h0 => ?_)
    t.val t.isLt ht
  · show (outsAt0 m c n hn).2.2.2.2.2.2.2 (ix2 0 k) = _
    rw [outsAt0_A m c ⟨n, hn⟩ h0 (by show ¬1 ≤ n; omega)]; frame_out
    exact ka_part _ _ (reads m c ha ⟨n, hn⟩) k
  · show (outsAt0 m c n hn).2.2.2.2.2.2.2 (ix2 0 k) = (outsAt0 m c (n - 1) _).2.2.2.2.2.2.2 (ix2 0 k) + _
    rw [outsAt0_B m c ⟨n, hn⟩ h0 (by show 1 ≤ n; omega)]; frame_out
    rw [add12]
    exact congrArg _ (ka_part _ _ (reads m c ha ⟨n, hn⟩) k)

theorem last16 (ha : Away m c) (t : Fin cfg0.N) (ht : t.val % 16 = 15) (k : Fin 1664) :
    (outsAt0 m c t.val t.isLt).2.1 (ix2 0 k) = ∑ b : Fin 4, ∑ s : Fin 2048, pmix (P m c) (T m c b s) k := by
  refine sum_run (fun n h => (outsAt0 m c n h).2.1 (ix2 0 k)) (fun b s => pmix (P m c) (T m c b s) k) (fun n hn h0 => ?_) (fun n hn h0 => ?_)
    t.val t.isLt ht
  · have ho := out15 m c ha ⟨n, hn⟩
    rw [outsAt0_A m c ⟨n, hn⟩ h0 (by show ¬1 ≤ n; omega)] at ho
    show (outsAt0 m c n hn).2.1 (ix2 0 k) = _
    rw [outsAt0_A m c ⟨n, hn⟩ h0 (by show ¬1 ≤ n; omega)]; frame_out
    frame_out at ho
    refine mix_part _ _ (reads m c ha ⟨n, hn⟩) _ (fun p j => ?_) k
    rw [View.readCov_eq_canon']
    exact (congrArg _ (whole p j)).trans (ho p j)
  · have ho := out15 m c ha ⟨n, hn⟩
    rw [outsAt0_B m c ⟨n, hn⟩ h0 (by show 1 ≤ n; omega)] at ho
    show (outsAt0 m c n hn).2.1 (ix2 0 k) = (outsAt0 m c (n - 1) _).2.1 (ix2 0 k) + _
    rw [outsAt0_B m c ⟨n, hn⟩ h0 (by show 1 ≤ n; omega)]; frame_out
    frame_out at ho
    rw [add6]
    refine congrArg _ (mix_part _ _ (reads m c ha ⟨n, hn⟩) _ (fun p j => ?_) k)
    rw [View.readCov_eq_canon']
    exact (congrArg _ (whole p j)).trans (ho p j)

theorem final15 (ha : Away m c) (A : FVec Ideal S4x2048x1664 .f32) (h : ∀ b s j, A (ix3 b s j) = dsh (P m c) (T m c b s) j) :
    (dats m 0 c).arrAt 15 (cfgs 0).N = A := by
  refine (dats m 0 c).arrAt_eq_of_covers 15 _ (by decide +kernel) fun t _ y => ?_
  blk_simp
  rw [after0_15]
  idx_vars y
  obtain rfl : y0 = 0 := Subsingleton.elim _ _
  have he : ((View.whole main_v0_0).slice (win0_15.rect t)).emb (ix3 0 y1 y2) = ix3 (seq t) (tok t y1) y2 := by blk_ext [idx t, seq, tok]
  rw [he]
  exact (out15 m c ha t y1 y2).trans (h _ _ _).symm

theorem final16 (ha : Away m c) (A : FVec Ideal S1x1664 .f32) (h : ∀ k, A (ix2 0 k) = ∑ b : Fin 4, ∑ s : Fin 2048, pmix (P m c) (T m c b s) k) :
    (dats m 0 c).arrAt 16 (cfgs 0).N = A := by
  refine (dats m 0 c).arrAt_eq_of_covers 16 _ (by decide +kernel) fun t hf y => ?_
  blk_simp
  rw [after0_16]
  idx_vars y
  obtain rfl : y0 = 0 := Subsingleton.elim _ _
  have he : ((View.whole main_v0_1).slice (win0_16.rect t)).emb (ix2 0 y1) = ix2 0 y1 := by blk_ext [idx t]
  rw [he]
  exact (last16 m c ha t ((flush0_16 t).mp hf) y1).trans (h _).symm

theorem final17 (ha : Away m c) (A : FVec Ideal S1x512 .f32) (h : ∀ k, A (ix2 0 k) = ∑ b : Fin 4, ∑ s : Fin 2048, du (P m c) (T m c b s) k) :
    (dats m 0 c).arrAt 17 (cfgs 0).N = A := by
  refine (dats m 0 c).arrAt_eq_of_covers 17 _ (by decide +kernel) fun t hf y => ?_
  blk_simp
  rw [after0_17]
  idx_vars y
  obtain rfl : y0 = 0 := Subsingleton.elim _ _
  have he : ((View.whole main_v0_2).slice (win0_17.rect t)).emb (ix2 0 y1) = ix2 0 y1 := by blk_ext [idx t]
  rw [he]
  exact (last17 m c ha t ((flush0_17 t).mp hf) y1).trans (h _).symm

theorem final18 (ha : Away m c) (A : FVec Ideal S64x512 .f32) (h : ∀ j k, A (ix2 j k) = ∑ b : Fin 4, ∑ s : Fin 2048, pwu (P m c) (T m c b s) j k) :
    (dats m 0 c).arrAt 18 (cfgs 0).N = A := by
  refine (dats m 0 c).arrAt_eq_of_covers 18 _ (by decide +kernel) fun t hf y => ?_
  blk_simp
  rw [after0_18]
  idx_vars y
  have he : ((View.whole main_v0_3).slice (win0_18.rect t)).emb (ix2 y0 y1) = ix2 y0 y1 := by blk_ext [idx t]
  rw [he]
  exact (last18 m c ha t ((flush0_18 t).mp hf) y0 y1).trans (h _ _).symm

theorem final19 (ha : Away m c) (A : FVec Ideal S1x512 .f32) (h : ∀ k, A (ix2 0 k) = ∑ b : Fin 4, ∑ s : Fin 2048, dz (P m c) (T m c b s) k) :
    (dats m 0 c).arrAt 19 (cfgs 0).N = A := by
  refine (dats m 0 c).arrAt_eq_of_covers 19 _ (by decide +kernel) fun t hf y => ?_
  blk_simp
  rw [after0_19]
  idx_vars y
  obtain rfl : y0 = 0 := Subsingleton.elim _ _
  have he : ((View.whole main_v0_4).slice (win0_19.rect t)).emb (ix2 0 y1) = ix2 0 y1 := by blk_ext [idx t]
  rw [he]
  exact (last19 m c ha t ((flush0_19 t).mp hf) y1).trans (h _).symm

theorem final20 (ha : Away m c) (A : FVec Ideal S64x512 .f32) (h : ∀ j k, A (ix2 j k) = ∑ b : Fin 4, ∑ s : Fin 2048, pau (P m c) (T m c b s) j k) :
    (dats m 0 c).arrAt 20 (cfgs 0).N = A := by
  refine (dats m 0 c).arrAt_eq_of_covers 20 _ (by decide +kernel) fun t hf y => ?_
  blk_simp
  rw [after0_20]
  idx_vars y
  have he : ((View.whole main_v0_5).slice (win0_20.rect t)).emb (ix2 y0 y1) = ix2 y0 y1 := by blk_ext [idx t]
  rw [he]
  exact (last20 m c ha t ((flush0_20 t).mp hf) y0 y1).trans (h _ _).symm

theorem final21 (ha : Away m c) (A : FVec Ideal S1x512 .f32) (h : ∀ k, A (ix2 0 k) = ∑ b : Fin 4, ∑ s : Fin 2048, pkk (P m c) (T m c b s) k) :
    (dats m 0 c).arrAt 21 (cfgs 0).N = A := by
  refine (dats m 0 c).arrAt_eq_of_covers 21 _ (by decide +kernel) fun t hf y => ?_
  blk_simp
  rw [after0_21]
  idx_vars y
  obtain rfl : y0 = 0 := Subsingleton.elim _ _
  have he : ((View.whole main_v0_6).slice (win0_21.rect t)).emb (ix2 0 y1) = ix2 0 y1 := by blk_ext [idx t]
  rw [he]
  exact (last21 m c ha t ((flush0_21 t).mp hf) y1).trans (h _).symm

theorem final22 (ha : Away m c) (A : FVec Ideal S1x512 .f32) (h : ∀ k, A (ix2 0 k) = ∑ b : Fin 4, ∑ s : Fin 2048, pka (P m c) (T m c b s) k) :
    (dats m 0 c).arrAt 22 (cfgs 0).N = A := by
  refine (dats m 0 c).arrAt_eq_of_covers 22 _ (by decide +kernel) fun t hf y => ?_
  blk_simp
  rw [after0_22]
  idx_vars y
  obtain rfl : y0 = 0 := Subsingleton.elim _ _
  have he : ((View.whole main_v0_7).slice (win0_22.rect t)).emb (ix2 0 y1) = ix2 0 y1 := by blk_ext [idx t]
  rw [he]
  exact (last22 m c ha t ((flush0_22 t).mp hf) y1).trans (h _).symm

end Cert.Kernel5Ideal.Gates

end
-- ==== Proof.GatesRef.lean ====
/- What the reference computes of the gradient at the recurrence's inputs, token by token. -/
module

public import proofs.«01_k».proof.Proof.Gen.Reference5Ideal.Read
public import proofs.«01_k».proof.Proof.GatesReal

@[expose] public section

set_option maxRecDepth 16384

noncomputable section

open Idealize.ShloMosaic

namespace Cert.Reference5Ideal.Gates

open Cert.Reference5Ideal Cert.Reference5Ideal.Gen Cert.Reference5Ideal.Read Cert.Gates Cert.Reals

variable (x0 : FVec Ideal S4x2048x1664 .f32) (x1 x2 x3 x4 x5 x6 : FVec Ideal S4x2048x512 .f32) (x7 : FVec Ideal S1x1664 .f32)
  (x8 : FVec Ideal S1x512 .f32) (x9 : FVec Ideal S64x512 .bf16) (x10 : FVec Ideal S1x512 .f32) (x11 : FVec Ideal S64x512 .bf16)
  (x12 x13 : FVec Ideal S1x512 .f32)

variable {T : Fin 4 → Fin 2048 → Tok} {P : Wts} (hT : T = toks x0 x1 x2 x3 x4 x5 x6) (hP : P = wts x7 x8 x9 x10 x11 x12 x13)
include hT hP

theorem diff_at (b : Fin 4) (s : Fin 2048) (j : Fin 1664) : val_main_v4 (F := Ideal) x0 (ix3 b s j) = (T b s).y j - (T b s).x j := by
  subst hT
  pointwise [val_main_v4, val_main_v3, val_main_v2, val_main_v1, val_main_v0, val_main_cst]
  simp only [toks, Nat.lt_one_iff]

theorem sh_at (b : Fin 4) (s : Fin 2048) (j : Fin 1664) : val_main_v9 (F := Ideal) x0 x7 (ix3 b s j) = sh P (T b s) j := by
  pointwise [val_main_v9, val_main_v8, val_main_v7, val_main_v6, val_main_v5, diff_at x0 x1 x2 x3 x4 x5 x6 x7 x8 x9 x10 x11 x12 x13 hT hP]
  subst hT hP
  rfl

theorem u_at (b : Fin 4) (s : Fin 2048) (k : Fin 512) : val_main_v28 (F := Ideal) x0 x7 x8 x9 (ix3 b s k) = -u P (T b s) k := by
  pointwise [val_main_v28, val_main_v27, val_main_v26, val_main_v25, val_main_v24, val_main_v18, val_main_v17, val_main_v15, val_main_v10,
    sh_at x0 x1 x2 x3 x4 x5 x6 x7 x8 x9 x10 x11 x12 x13 hT hP]
  subst hT hP
  rfl

theorem gate_at (b : Fin 4) (s : Fin 2048) (k : Fin 512) : val_main_v45 (F := Ideal) x0 x7 x10 x11 (ix3 b s k) = gate P (T b s) k := by
  pointwise [val_main_v45, val_main_v44, val_main_v43, val_main_v42, val_main_v41, val_main_v40, val_main_v39, val_main_v38, val_main_v37, val_main_v36,
    val_main_v35, val_main_v16, val_main_v11, val_main_cst_3, val_main_cst_4, sh_at x0 x1 x2 x3 x4 x5 x6 x7 x8 x9 x10 x11 x12 x13 hT hP]
  subst hT hP
  rfl

theorem du_at (b : Fin 4) (s : Fin 2048) (k : Fin 512) : val_main_v92 (F := Ideal) x0 x2 x7 x8 x9 (ix3 b s k) = du P (T b s) k := by
  pointwise [val_main_v92, val_main_v91, val_main_v90, val_main_v89, val_main_v88, val_main_v33, val_main_v32, val_main_v31, val_main_v30, val_main_v29_1,
    val_main_v29_0, val_main_cst_2, val_main_call0_v21, val_main_call0_v20, val_main_call0_v19, val_main_call0_v18, val_main_call0_v17, val_main_call0_v16,
    val_main_call0_v15, val_main_call0_v14, val_main_call0_v13, val_main_call0_v11, val_main_call0_v10, val_main_call0_v9, val_main_call0_v8,
    val_main_call0_v7, val_main_call0_v6, val_main_call0_v5, val_main_call0_v4, val_main_call0_v3, val_main_call0_v2, val_main_call0_v1, val_main_call0_v0,
    val_main_call0_cst, val_main_call0_cst_0, val_main_call0_cst_1, val_main_call0_cst_2, val_main_call0_cst_3, u_at x0 x1 x2 x3 x4 x5 x6 x7 x8 x9 x10 x11 x12 x13 hT hP]
  simp only [ne_eq, not_true_eq_false, if_false, inf_word]
  subst hT hP
  exact fall_asked _ _

theorem dz_at (b : Fin 4) (s : Fin 2048) (k : Fin 512) : val_main_v80 (F := Ideal) x0 x3 x6 x7 x10 x11 x13 (ix3 b s k) = dz P (T b s) k := by
  pointwise [val_main_v80, val_main_v69, val_main_v68, val_main_v67, val_main_v62, val_main_v56, val_main_v55, val_main_v48, val_main_v47, val_main_v46,
    val_main_cst_5, val_main_v13, sh_at x0 x1 x2 x3 x4 x5 x6 x7 x8 x9 x10 x11 x12 x13 hT hP, gate_at x0 x1 x2 x3 x4 x5 x6 x7 x8 x9 x10 x11 x12 x13 hT hP]
  subst hT hP
  rfl

theorem dkey_at (b : Fin 4) (s : Fin 2048) (k : Fin 512) : val_main_v77 (F := Ideal) x0 x3 x5 x7 x10 x11 x12 x13 (ix3 b s k) = dkey P (T b s) k := by
  pointwise [val_main_v77, val_main_v76, val_main_v75, val_main_v63, val_main_v60, val_main_v59, val_main_v58, val_main_v57, val_main_v56, val_main_v55,
    val_main_v54, val_main_v53, val_main_v50, val_main_v49, val_main_cst_6, val_main_cst_7, gate_at x0 x1 x2 x3 x4 x5 x6 x7 x8 x9 x10 x11 x12 x13 hT hP]
  subst hT hP
  rfl

theorem dwl_at (b : Fin 4) (s : Fin 2048) (c : Fin 64) : val_main_v99 (F := Ideal) x0 x2 x7 x8 x9 (ix3 b s c) = dwl P (T b s) c := by
  pointwise [val_main_v99, val_main_v98, val_main_v23, val_main_v22, val_main_v21, val_main_v20, val_main_v19, val_main_v18, val_main_v15, val_main_v10,
    val_main_cst_0, val_main_cst_1, sh_at x0 x1 x2 x3 x4 x5 x6 x7 x8 x9 x10 x11 x12 x13 hT hP, du_at x0 x1 x2 x3 x4 x5 x6 x7 x8 x9 x10 x11 x12 x13 hT hP]
  subst hT hP
  rfl

theorem dal_at (b : Fin 4) (s : Fin 2048) (c : Fin 64) : val_main_v86 (F := Ideal) x0 x3 x6 x7 x10 x11 x13 (ix3 b s c) = dal P (T b s) c := by
  pointwise [val_main_v86, val_main_v11, dz_at x0 x1 x2 x3 x4 x5 x6 x7 x8 x9 x10 x11 x12 x13 hT hP]
  subst hT hP
  rfl

/-- The gradient at the shifted row. -/
theorem dsh_at (b : Fin 4) (s : Fin 2048) (j : Fin 1664) :
    val_main_v109 (F := Ideal) x0 x1 x2 x3 x4 x5 x6 x7 x8 x9 x10 x11 x12 x13 (ix3 b s j) = dsh P (T b s) j := by
  pointwise [val_main_v109, val_main_v108, val_main_v107, val_main_v106, val_main_v105, val_main_v104, val_main_v103, val_main_v102, val_main_v101,
    val_main_cst_16, val_main_cst_17, val_main_cst_18, val_main_cst_19, val_main_cst_20, dkey_at x0 x1 x2 x3 x4 x5 x6 x7 x8 x9 x10 x11 x12 x13 hT hP, dwl_at x0 x1 x2 x3 x4 x5 x6 x7 x8 x9 x10 x11 x12 x13 hT hP, dal_at x0 x1 x2 x3 x4 x5 x6 x7 x8 x9 x10 x11 x12 x13 hT hP]
  subst hT
  have hj := j.isLt
  unfold dsh
  split_ifs <;> first | omega | simp only [zero_add, add_zero, toks]

theorem mix_at (j : Fin 1664) : val_main_v114 (F := Ideal) x0 x1 x2 x3 x4 x5 x6 x7 x8 x9 x10 x11 x12 x13 (ix2 0 j)
    = ∑ b : Fin 4, ∑ s : Fin 2048, pmix P (T b s) j := by
  pointwise [val_main_v114, val_main_v113, val_main_v112, val_main_v111, val_main_v110, val_main_cst_21, val_main_cst_22, sum01, dsh_at x0 x1 x2 x3 x4 x5 x6 x7 x8 x9 x10 x11 x12 x13 hT hP, diff_at x0 x1 x2 x3 x4 x5 x6 x7 x8 x9 x10 x11 x12 x13 hT hP]
  simp only [Fin.sum_univ_one]
  exact Finset.sum_congr rfl fun b _ => Finset.sum_congr rfl fun s _ => mul_comm _ _

theorem w0_at (k : Fin 512) : val_main_v100 (F := Ideal) x0 x2 x7 x8 x9 (ix2 0 k) = ∑ b : Fin 4, ∑ s : Fin 2048, du P (T b s) k := by
  pointwise [val_main_v100, val_main_v95, val_main_v94, val_main_v93, val_main_cst_14, val_main_cst_15, sum01, du_at x0 x1 x2 x3 x4 x5 x6 x7 x8 x9 x10 x11 x12 x13 hT hP]
  simp only [Fin.sum_univ_one]

theorem wu_at (c : Fin 64) (k : Fin 512) : val_main_v97 (F := Ideal) x0 x2 x7 x8 x9 (ix2 c k) = ∑ b : Fin 4, ∑ s : Fin 2048, pwu P (T b s) c k := by
  pointwise [val_main_v97, val_main_v96, val_main_v18, val_main_v15, sh_at x0 x1 x2 x3 x4 x5 x6 x7 x8 x9 x10 x11 x12 x13 hT hP, du_at x0 x1 x2 x3 x4 x5 x6 x7 x8 x9 x10 x11 x12 x13 hT hP]
  exact Finset.sum_congr rfl fun b _ => Finset.sum_congr rfl fun s _ => mul_comm _ _

theorem a0_at (k : Fin 512) : val_main_v87 (F := Ideal) x0 x3 x6 x7 x10 x11 x13 (ix2 0 k) = ∑ b : Fin 4, ∑ s : Fin 2048, dz P (T b s) k := by
  pointwise [val_main_v87, val_main_v83, val_main_v82, val_main_v81, val_main_cst_12, val_main_cst_13, sum01, dz_at x0 x1 x2 x3 x4 x5 x6 x7 x8 x9 x10 x11 x12 x13 hT hP]
  simp only [Fin.sum_univ_one]

theorem au_at (c : Fin 64) (k : Fin 512) : val_main_v85 (F := Ideal) x0 x3 x6 x7 x10 x11 x13 (ix2 c k) = ∑ b : Fin 4, ∑ s : Fin 2048, pau P (T b s) c k := by
  pointwise [val_main_v85, val_main_v84, val_main_v16, sh_at x0 x1 x2 x3 x4 x5 x6 x7 x8 x9 x10 x11 x12 x13 hT hP, dz_at x0 x1 x2 x3 x4 x5 x6 x7 x8 x9 x10 x11 x12 x13 hT hP]
  exact Finset.sum_congr rfl fun b _ => Finset.sum_congr rfl fun s _ => mul_comm _ _

theorem kk_at (k : Fin 512) : val_main_v79 (F := Ideal) x0 x5 x7 (ix2 0 k) = ∑ b : Fin 4, ∑ s : Fin 2048, pkk P (T b s) k := by
  pointwise [val_main_v79, val_main_v78, val_main_v74, val_main_v73, val_main_v72, val_main_v13, val_main_cst_10, val_main_cst_11, sum01, sh_at x0 x1 x2 x3 x4 x5 x6 x7 x8 x9 x10 x11 x12 x13 hT hP]
  simp only [Fin.sum_univ_one]
  subst hT hP
  rfl

theorem ka_at (k : Fin 512) : val_main_v71 (F := Ideal) x0 x3 x7 x10 x11 (ix2 0 k) = ∑ b : Fin 4, ∑ s : Fin 2048, pka P (T b s) k := by
  pointwise [val_main_v71, val_main_v70, val_main_v66, val_main_v65, val_main_v64, val_main_v62, val_main_v54, val_main_v53, val_main_v13, val_main_cst_6,
    val_main_cst_8, val_main_cst_9, sum01, sh_at x0 x1 x2 x3 x4 x5 x6 x7 x8 x9 x10 x11 x12 x13 hT hP, gate_at x0 x1 x2 x3 x4 x5 x6 x7 x8 x9 x10 x11 x12 x13 hT hP]
  simp only [Fin.sum_univ_one]
  subst hT hP
  rfl

end Cert.Reference5Ideal.Gates

end
-- ==== Proof.GatesPre.lean ====
/- What the precondition at the recurrence's inputs says: numbers for the decay's gradient, and a decay away from its corner. -/
module

public import proofs.«01_k».proof.Proof.HeadPre
public import proofs.«01_k».proof.Proof.GatesRow
public import proofs.«01_k».proof.Proof.Gen.Pre_smooth

@[expose] public section

set_option maxRecDepth 16384

noncomputable section

open Idealize.ShloMosaic Idealize.ShloMosaic.TcCoe

namespace Cert.Pre_smooth

open Cert.Reals Cert.Gates

variable (x0 : FVec Ideal S4x2048x1664 .f32) (x1 x2 x3 x4 x5 x6 : FVec Ideal S4x2048x512 .f32) (x7 : FVec Ideal S1x1664 .f32)
  (x8 : FVec Ideal S1x512 .f32) (x9 : FVec Ideal S64x512 .bf16) (x10 : FVec Ideal S1x512 .f32) (x11 : FVec Ideal S64x512 .bf16)
  (x12 x13 : FVec Ideal S1x512 .f32)

theorem ne_of_word {a b : EReal} (h : BitVec.ofBool (decide (a ≠ b)) = 1#1) : a ≠ b := by
  by_contra hn
  rw [decide_eq_false (not_not.mpr hn)] at h
  exact absurd h (by decide)

theorem away (h : fn (F := Ideal) x0 x1 x2 x3 x4 x5 x6 x7 x8 x9 x10 x11 x12 x13 = fun _ => 1#1) (b : Fin 4) (s : Fin 2048) (k : Fin 512) :
    IsReal (x2 (ix3 b s k)) ∧ u (wts x7 x8 x9 x10 x11 x12 x13) (toks x0 x1 x2 x3 x4 x5 x6 b s) k ≠ 0 := by
  have h0 := congrFun h ix0
  unfold fn fn_part1 at h0
  obtain ⟨e0, e1⟩ := IntOp.andi_eq_one.mp h0
  refine ⟨real_of_all _ _ (fun _ => rfl) _ _ _ _ e0 (ix3 b s k), fun hu => ?_⟩
  have h1 := Host.reduce_andi_all _ _ _ _ _ e1 (ix3 b s k)
  pointwise [] at h1
  simp only [Nat.lt_one_iff] at h1
  exact ne_of_word h1 hu

end Cert.Pre_smooth

end
-- ==== Proof.GatesPair.lean ====
/- The gradient at the recurrence's inputs: kernel and reference agree on all eight results. -/
module

public import proofs.«01_k».proof.Defs
public import proofs.«01_k».proof.Proof.Gen.Kernel5Ideal.Frame
public import proofs.«01_k».proof.Proof.Gen.Reference5Ideal.Run
public import proofs.«01_k».proof.Proof.Gen.Reference5Ideal.Read
public import proofs.«01_k».proof.Proof.Gen.Pre_smooth
public import proofs.«01_k».proof.Proof.GatesKernel
public import proofs.«01_k».proof.Proof.GatesRef
public import proofs.«01_k».proof.Proof.GatesPre
public import Idealize.ShloMosaic.Lib.Claim
public import Idealize.ShloMosaic.Adequacy
public import Idealize.ShloMosaic.Init
@[expose] public section

noncomputable section

namespace Cert.Proof

open Idealize.ShloMosaic Idealize.SL.Sem Cert.Kernel

/-- The gates' reference, likewise. -/
theorem gates_reference : Cert.quiescent_Reference5Ideal (hReference5Ideal := Cert.Reference5Ideal.Gen.facts) := fun m ρ _ =>
  (θ_run Cert.Reference5Ideal.defs _ _).mono (fun r h => And.intro (fun c => (h c).2.2.2.2.2.2.2.2) (sem_eq_zero_of_no_sems (by decide) r.2))
    (Cert.Reference5Ideal.Value.run (F := Ideal) m ρ)

set_option maxRecDepth 16384 in
set_option maxHeartbeats 4000000 in
/-- The gradient at the recurrence's inputs: all eight of the kernel's arrays are the gradients the reference takes. -/
theorem gates : Cert.algebraic_Kernel5Ideal_Reference5Ideal_pre_smooth (hKernel5Ideal := Cert.Kernel5Ideal.Gen.facts)
    (hReference5Ideal := Cert.Reference5Ideal.Gen.facts) (hPre_smooth := Cert.Pre_smooth.Gen.facts) := by
  intro m g m' g' hpre hagree
  refine ⟨fun c => (Cert.Kernel5Ideal.Gen.dats m 0 c).arrAt 15 (Cert.Kernel5Ideal.cfgs 0).N,
    fun c => (Cert.Kernel5Ideal.Gen.dats m 0 c).arrAt 16 (Cert.Kernel5Ideal.cfgs 0).N,
    fun c => (Cert.Kernel5Ideal.Gen.dats m 0 c).arrAt 17 (Cert.Kernel5Ideal.cfgs 0).N,
    fun c => (Cert.Kernel5Ideal.Gen.dats m 0 c).arrAt 18 (Cert.Kernel5Ideal.cfgs 0).N,
    fun c => (Cert.Kernel5Ideal.Gen.dats m 0 c).arrAt 19 (Cert.Kernel5Ideal.cfgs 0).N,
    fun c => (Cert.Kernel5Ideal.Gen.dats m 0 c).arrAt 20 (Cert.Kernel5Ideal.cfgs 0).N,
    fun c => (Cert.Kernel5Ideal.Gen.dats m 0 c).arrAt 21 (Cert.Kernel5Ideal.cfgs 0).N,
    fun c => (Cert.Kernel5Ideal.Gen.dats m 0 c).arrAt 22 (Cert.Kernel5Ideal.cfgs 0).N, ?_, ?_⟩
  · refine θ_run_mono (θ_run_and (Cert.Kernel5Ideal.Gen.run_main m g) (Cert.Kernel5Ideal.Gen.frame m g)) fun r h c => ?_
    exact ⟨(h.1 c).1 15, (h.1 c).1 16, (h.1 c).1 17, (h.1 c).1 18, (h.1 c).1 19, (h.1 c).1 20, (h.1 c).1 21, (h.1 c).1 22, h.2.1 c⟩
  · refine (θ_run Cert.Reference5Ideal.defs _ _).mono (fun r h c => ?_) (Cert.Reference5Ideal.Value.run (F := Ideal) m' g')
    obtain ⟨h0, h1, h2, h3, h4, h5, h6, h7, hr⟩ := h c
    obtain ⟨a0, a1, a2, a3, a4, a5, a6, a7, a8, a9, a10, a11, a12, a13⟩ := hagree c
    have ha : Cert.Kernel5Ideal.Gates.Away m c := Cert.Pre_smooth.away _ _ _ _ _ _ _ _ _ _ _ _ _ _ (hpre c)
    have lc : ∀ b, StableHlo.launchContents m' c (Proc.devRef .tc b) = m' ((c.tc : Thread Cert.Reference5Ideal.nD Cert.Reference5Ideal.τ).loc b) := fun _ => rfl
    refine ⟨h0.trans ?_, h1.trans ?_, h2.trans ?_, h3.trans ?_, h4.trans ?_, h5.trans ?_, h6.trans ?_, h7.trans ?_, hr⟩
    · rw [Cert.Reference5Ideal.Read.val_main_v109_eq, lc, a0, lc, a1, lc, a2, lc, a3, lc, a4, lc, a5, lc, a6, lc, a7, lc, a8, lc, a9, lc, a10, lc, a11, lc, a12, lc, a13]
      exact (Cert.Kernel5Ideal.Gates.final15 m c ha _ (Cert.Reference5Ideal.Gates.dsh_at _ _ _ _ _ _ _ _ _ _ _ _ _ _ (T := Cert.Kernel5Ideal.Gates.T m c) (P := Cert.Kernel5Ideal.Gates.P m c) rfl rfl)).symm
    · rw [Cert.Reference5Ideal.Read.val_main_v114_eq, lc, a0, lc, a1, lc, a2, lc, a3, lc, a4, lc, a5, lc, a6, lc, a7, lc, a8, lc, a9, lc, a10, lc, a11, lc, a12, lc, a13]
      exact (Cert.Kernel5Ideal.Gates.final16 m c ha _ (Cert.Reference5Ideal.Gates.mix_at _ _ _ _ _ _ _ _ _ _ _ _ _ _ (T := Cert.Kernel5Ideal.Gates.T m c) (P := Cert.Kernel5Ideal.Gates.P m c) rfl rfl)).symm
    · rw [Cert.Reference5Ideal.Read.val_main_v100_eq, lc, a0, lc, a2, lc, a7, lc, a8, lc, a9]
      exact (Cert.Kernel5Ideal.Gates.final17 m c ha _ (Cert.Reference5Ideal.Gates.w0_at _ _ _ _ _ _ _ _ _ _ _ _ _ _ (T := Cert.Kernel5Ideal.Gates.T m c) (P := Cert.Kernel5Ideal.Gates.P m c) rfl rfl)).symm
    · rw [Cert.Reference5Ideal.Read.val_main_v97_eq, lc, a0, lc, a2, lc, a7, lc, a8, lc, a9]
      exact (Cert.Kernel5Ideal.Gates.final18 m c ha _ (Cert.Reference5Ideal.Gates.wu_at _ _ _ _ _ _ _ _ _ _ _ _ _ _ (T := Cert.Kernel5Ideal.Gates.T m c) (P := Cert.Kernel5Ideal.Gates.P m c) rfl rfl)).symm
    · rw [Cert.Reference5Ideal.Read.val_main_v87_eq, lc, a0, lc, a3, lc, a6, lc, a7, lc, a10, lc, a11, lc, a13]
      exact (Cert.Kernel5Ideal.Gates.final19 m c ha _ (Cert.Reference5Ideal.Gates.a0_at _ _ _ _ _ _ _ _ _ _ _ _ _ _ (T := Cert.Kernel5Ideal.Gates.T m c) (P := Cert.Kernel5Ideal.Gates.P m c) rfl rfl)).symm
    · rw [Cert.Reference5Ideal.Read.val_main_v85_eq, lc, a0, lc, a3, lc, a6, lc, a7, lc, a10, lc, a11, lc, a13]
      exact (Cert.Kernel5Ideal.Gates.final20 m c ha _ (Cert.Reference5Ideal.Gates.au_at _ _ _ _ _ _ _ _ _ _ _ _ _ _ (T := Cert.Kernel5Ideal.Gates.T m c) (P := Cert.Kernel5Ideal.Gates.P m c) rfl rfl)).symm
    · rw [Cert.Reference5Ideal.Read.val_main_v79_eq, lc, a0, lc, a5, lc, a7]
      exact (Cert.Kernel5Ideal.Gates.final21 m c ha _ (Cert.Reference5Ideal.Gates.kk_at _ _ _ _ _ _ _ _ _ _ _ _ _ _ (T := Cert.Kernel5Ideal.Gates.T m c) (P := Cert.Kernel5Ideal.Gates.P m c) rfl rfl)).symm
    · rw [Cert.Reference5Ideal.Read.val_main_v71_eq, lc, a0, lc, a3, lc, a7, lc, a10, lc, a11]
      exact (Cert.Kernel5Ideal.Gates.final22 m c ha _ (Cert.Reference5Ideal.Gates.ka_at _ _ _ _ _ _ _ _ _ _ _ _ _ _ (T := Cert.Kernel5Ideal.Gates.T m c) (P := Cert.Kernel5Ideal.Gates.P m c) rfl rfl)).symm

end Cert.Proof
end
-- ==== Proof.NormRow.lean ====
/- The first norm of one row. -/
module

public import Idealize.ShloMosaic.Lib.Pointwise

@[expose] public section

noncomputable section

open Idealize.ShloMosaic

namespace Cert.Norm

/-- The reciprocal of a row's root mean square. -/
def factor (x : Fin 1024 → EReal) : EReal :=
  Ideal.rsqrt (Ideal.div (∑ j : Fin 1024, x j * x j) (Ideal.ofBits .f32 0x44800000#32) + Ideal.ofBits .f32 0x358637BD#32)

/-- The row at unit root mean square, with its gain. -/
def unit (x g : Fin 1024 → EReal) (j : Fin 1024) : EReal := x j * factor x * g j

end Cert.Norm

end
-- ==== Proof.NormKernel.lean ====
/- What the first norm leaves in its result arrays. -/
module

public import proofs.«01_k».proof.Proof.Gen.Kernel6Ideal.Frame
public import proofs.«01_k».proof.Proof.NormRow
public import Idealize.ShloMosaic.Lib.Pipeline.ValueKit
public import Idealize.ShloMosaic.Lib.Pointwise

@[expose] public section

set_option maxRecDepth 16384

noncomputable section

open Idealize.ShloMosaic Idealize.ShloMosaic.TcCoe

namespace Cert.Kernel6Ideal.Norm

open Cert.Kernel6Ideal Cert.Kernel6Ideal.Gen Cert.Norm

theorem factor_at (b : FVec Ideal S1024x1024 .f32) (p : Fin 1024) :
    k0_pay1 (F := Ideal) b (ix2 p 0) = factor (fun j => b (ix2 p j)) := by
  pointwise [k0_pay1]
  rfl

theorem unit_at (b : FVec Ideal S1024x1024 .f32) (g : FVec Ideal S1x1024 .f32) (p j : Fin 1024) :
    k0_pay2 (F := Ideal) b g (ix2 p j) = unit (fun j => b (ix2 p j)) (fun j => g (ix2 0 j)) j := by
  pointwise [k0_pay2, factor_at]
  rfl

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

/-- The rows and the gain of the launch's arguments. -/
abbrev row (r : Fin 8192) (j : Fin 1024) : EReal := (m ((c : Thread nD τ).loc main_arg0) : FVec Ideal S8192x1024 .f32) (ix2 r j)
abbrev gain (j : Fin 1024) : EReal := (m ((c : Thread nD τ).loc main_arg1) : FVec Ideal S1x1024 .f32) (ix2 0 j)

/-- The number of a block's row among all. -/
def num (t : Fin cfg0.N) (p : Fin 1024) : Fin 8192 := ⟨1024 * t.val + p.val, by have : t.val < 8 := t.isLt; omega⟩

theorem rows_at (t : Fin cfg0.N) (p j : Fin 1024) : iblk m c 0 t (ix2 p j) = row m c (num t p) j := by
  blk_ext [iblk, V, idx t, row, num]

theorem gain_at (t : Fin cfg0.N) (j : Fin 1024) : iblk m c 1 t (ix2 0 j) = gain m c j := by
  blk_ext [iblk, V, idx t, gain]

theorem final2 (A : FVec Ideal S8192x1024 .bf16) (h : ∀ r j, A (ix2 r j) = unit (row m c r) (gain m c) j) :
    (dats m 0 c).arrAt 2 (cfgs 0).N = A := by
  refine (dats m 0 c).arrAt_eq_of_covers 2 _ (by decide +kernel) fun t _ y => ?_
  blk_simp
  rw [after0_2]; frame_out
  idx_vars y
  have he : ((View.whole main_v0_0).slice (win0_2.rect t)).emb (ix2 y0 y1) = ix2 (num t y0) y1 := by blk_ext [idx t, num]
  rw [he]
  refine (unit_at _ _ y0 y1).trans (Eq.trans ?_ (h _ _).symm)
  exact congrArg₂ (fun a b => unit a b y1) (funext fun j => rows_at m c t y0 j) (funext fun j => gain_at m c t j)

theorem final3 (A : FVec Ideal S8192x1 .f32) (h : ∀ r, A (ix2 r 0) = factor (row m c r)) :
    (dats m 0 c).arrAt 3 (cfgs 0).N = A := by
  refine (dats m 0 c).arrAt_eq_of_covers 3 _ (by decide +kernel) fun t _ y => ?_
  blk_simp
  rw [after0_3]; frame_out
  idx_vars y
  obtain rfl : y1 = 0 := Subsingleton.elim _ _
  have he : ((View.whole main_v0_1).slice (win0_3.rect t)).emb (ix2 y0 0) = ix2 (num t y0) 0 := by blk_ext [idx t, num]
  rw [he]
  refine (factor_at _ y0).trans (Eq.trans ?_ (h _).symm)
  exact congrArg factor (funext fun j => rows_at m c t y0 j)

end Cert.Kernel6Ideal.Norm

end
-- ==== Proof.NormRef.lean ====
/- What the reference computes of the first norm, row by row. -/
module

public import proofs.«01_k».proof.Proof.Gen.Reference6Ideal.Read
public import proofs.«01_k».proof.Proof.NormRow

@[expose] public section

set_option maxRecDepth 16384

noncomputable section

open Idealize.ShloMosaic

namespace Cert.Reference6Ideal.Norm

open Cert.Reference6Ideal Cert.Reference6Ideal.Gen Cert.Reference6Ideal.Read Cert.Norm

variable (x0 : FVec Ideal S8192x1024 .f32) (x1 : FVec Ideal S1x1024 .f32)

theorem factor_at (r : Fin 8192) : val_main_v7 (F := Ideal) x0 (ix2 r 0) = factor (fun j => x0 (ix2 r j)) := by
  pointwise [val_main_v7, val_main_v6, val_main_v5, val_main_v4, val_main_v3, val_main_v2, val_main_v1, val_main_v0, val_main_cst, val_main_cst_0,
    val_main_cst_1]
  rfl

theorem unit_at (r : Fin 8192) (j : Fin 1024) :
    val_main_v12 (F := Ideal) x0 x1 (ix2 r j) = unit (fun j => x0 (ix2 r j)) (fun j => x1 (ix2 0 j)) j := by
  pointwise [val_main_v12, val_main_v11, val_main_v10, val_main_v9, val_main_v8, factor_at]
  rfl

end Cert.Reference6Ideal.Norm

end
-- ==== Proof.NormPair.lean ====
/- The first norm: kernel and reference agree on both results. -/
module

public import proofs.«01_k».proof.Defs
public import proofs.«01_k».proof.Proof.Gen.Kernel6Ideal.Frame
public import proofs.«01_k».proof.Proof.Gen.Reference6Ideal.Run
public import proofs.«01_k».proof.Proof.Gen.Reference6Ideal.Read
public import proofs.«01_k».proof.Proof.NormKernel
public import proofs.«01_k».proof.Proof.NormRef
public import Idealize.ShloMosaic.Lib.Claim
public import Idealize.ShloMosaic.Adequacy
public import Idealize.ShloMosaic.Init

@[expose] public section

set_option maxRecDepth 16384
set_option maxHeartbeats 4000000

noncomputable section

namespace Cert.Proof

open Idealize.ShloMosaic Idealize.SL.Sem Cert.Kernel

/-- The first norm's reference runs, leaves its arguments alone, and has no semaphore. -/
theorem norm_reference : Cert.quiescent_Reference6Ideal (hReference6Ideal := Cert.Reference6Ideal.Gen.facts) := fun m ρ _ =>
  (θ_run Cert.Reference6Ideal.defs _ _).mono (fun r h => And.intro (fun c => (h c).2.2) (sem_eq_zero_of_no_sems (by decide) r.2))
    (Cert.Reference6Ideal.Value.run (F := Ideal) m ρ)

/-- The first norm: the normalised rows and their factors are the reference's. -/
theorem norm : Cert.algebraic_Kernel6Ideal_Reference6Ideal (hKernel6Ideal := Cert.Kernel6Ideal.Gen.facts)
    (hReference6Ideal := Cert.Reference6Ideal.Gen.facts) := by
  intro m g m' g' _ hagree
  refine ⟨fun c => (Cert.Kernel6Ideal.Gen.dats m 0 c).arrAt 2 (Cert.Kernel6Ideal.cfgs 0).N,
    fun c => (Cert.Kernel6Ideal.Gen.dats m 0 c).arrAt 3 (Cert.Kernel6Ideal.cfgs 0).N, ?_, ?_⟩
  · refine θ_run_mono (θ_run_and (Cert.Kernel6Ideal.Gen.run_main m g) (Cert.Kernel6Ideal.Gen.frame m g)) fun r h c => ?_
    exact ⟨(h.1 c).1 2, (h.1 c).1 3, h.2.1 c⟩
  · refine (θ_run Cert.Reference6Ideal.defs _ _).mono (fun r h c => ?_) (Cert.Reference6Ideal.Value.run (F := Ideal) m' g')
    obtain ⟨h0, h1, hr⟩ := h c
    obtain ⟨a0, a1⟩ := hagree c
    refine ⟨h0.trans ?_, h1.trans ?_, hr⟩
    · rw [Cert.Reference6Ideal.Read.val_main_v12_eq, a0, a1]
      exact (Cert.Kernel6Ideal.Norm.final2 m c _ fun r j => Cert.Reference6Ideal.Norm.unit_at _ _ r j).symm
    · rw [Cert.Reference6Ideal.Read.val_main_v7_eq, a0]
      exact (Cert.Kernel6Ideal.Norm.final3 m c _ fun r => Cert.Reference6Ideal.Norm.factor_at _ r).symm

end Cert.Proof

end
-- ==== Proof.GinPay.lean ====
/- What the recurrence's inputs are computed as of one block of tokens, token by token. -/
module

public import proofs.«01_k».proof.Proof.Gen.Kernel7Ideal.Skeleton
public import proofs.«01_k».proof.Proof.GatesReal
public import Idealize.ShloMosaic.Lib.Pointwise

@[expose] public section

set_option maxRecDepth 16384

noncomputable section

open Idealize.ShloMosaic Idealize.ShloMosaic.TcCoe Idealize.SL.Sem

namespace Cert.Gates

/-- The logarithm of a token's decay, and its gated key. -/
def decay (P : Wts) (T : Tok) (k : Fin 512) : EReal := -weight (-u P T k)
def gated (P : Wts) (T : Tok) (k : Fin 512) : EReal := key P T k * (1 + (gate P T k - 1) * P.ka k)

end Cert.Gates

namespace Cert.Kernel7Ideal.Gates

open Cert.Kernel7Ideal Cert.Kernel7Ideal.Gen Cert.Gates

variable (P : Wts) (T : Fin 512 → Tok)
variable {i : grid0.Coords} {v0 v3 : FVec Ideal S1x512x1664 .f32} {v6 : FVec Ideal S1x1x1664 .f32} {v19 : FVec Ideal S1x1664 .f32}
  {v28 v31 v34 v35 : FVec Ideal S1x512 .f32} {v29 v32 : FVec Ideal S64x512 .bf16}

/-- The blocks of a point hold these tokens and weights. -/
structure Holds (i : grid0.Coords) (v0 v3 : FVec Ideal S1x512x1664 .f32) (v6 : FVec Ideal S1x1x1664 .f32) (v19 : FVec Ideal S1x1664 .f32)
    (v28 v31 v34 v35 : FVec Ideal S1x512 .f32) (v29 v32 : FVec Ideal S64x512 .bf16) : Prop where
  sh : ∀ p j, k0_pay7 (F := Ideal) i v0 v3 v6 v19 (ix2 p j) = sh P (T p) j
  w0 : ∀ k, v28 (ix2 0 k) = P.w0 k
  wu : ∀ c k, v29 (ix2 c k) = P.wu c k
  a0 : ∀ k, v31 (ix2 0 k) = P.a0 k
  au : ∀ c k, v32 (ix2 c k) = P.au c k
  kk : ∀ k, v34 (ix2 0 k) = P.kk k
  ka : ∀ k, v35 (ix2 0 k) = P.ka k

variable (H : Holds P T i v0 v3 v6 v19 v28 v31 v34 v35 v29 v32)
include H

theorem r_at (p k : Fin 512) : k0_pay8 (F := Ideal) i v0 v3 v6 v19 (ix2 p k) = sh P (T p) ⟨k.val, by omega⟩ := by
  pointwise [k0_pay8, H.sh]

theorem key_at (p k : Fin 512) : k0_pay9 (F := Ideal) i v0 v3 v6 v19 (ix2 p k) = key P (T p) k := by
  pointwise [k0_pay9, H.sh]
  rfl

theorem v_at (p k : Fin 512) : k0_pay10 (F := Ideal) i v0 v3 v6 v19 (ix2 p k) = sh P (T p) ⟨1024 + k.val, by omega⟩ := by
  pointwise [k0_pay10, H.sh]

theorem low_at (p : Fin 512) (c : Fin 64) : k0_pay11 (F := Ideal) i v0 v3 v6 v19 (ix2 p c) = sh P (T p) ⟨1536 + c.val, by omega⟩ := by
  pointwise [k0_pay11, H.sh]

theorem al_at (p : Fin 512) (c : Fin 64) : k0_pay12 (F := Ideal) i v0 v3 v6 v19 (ix2 p c) = al P (T p) c := by
  pointwise [k0_pay12, H.sh]
  rfl

theorem decay_at (p k : Fin 512) :
    k0_pay15 (F := Ideal) (k0_pay11 (F := Ideal) i v0 v3 v6 v19) v28 (k0_pay13 (F := Ideal) v29) (ix2 p k) = decay P (T p) k := by
  pointwise [k0_pay15, k0_pay13, low_at P T H, H.w0, H.wu]
  have hz : ∀ v : EReal, 0 - v = -v := fun v => zero_sub v
  simp only [hz]
  rfl

theorem gate_at (p k : Fin 512) :
    k0_pay16 (F := Ideal) (k0_pay12 (F := Ideal) i v0 v3 v6 v19) v31 (k0_pay14 (F := Ideal) v32) (ix2 p k) = gate P (T p) k := by
  pointwise [k0_pay16, k0_pay14, al_at P T H, H.a0, H.au]
  rfl

theorem kk_at (p k : Fin 512) : k0_pay17 (F := Ideal) (k0_pay9 (F := Ideal) i v0 v3 v6 v19) v34 (ix2 p k) = key P (T p) k * P.kk k := by
  pointwise [k0_pay17, key_at P T H, H.kk]

theorem gated_at (p k : Fin 512) :
    k0_pay18 (F := Ideal) (k0_pay9 (F := Ideal) i v0 v3 v6 v19) (k0_pay12 (F := Ideal) i v0 v3 v6 v19) v31 (k0_pay14 (F := Ideal) v32) v35 (ix2 p k)
      = gated P (T p) k := by
  pointwise [k0_pay18, key_at P T H, gate_at P T H, H.ka]
  rfl

end Cert.Kernel7Ideal.Gates

end
-- ==== Proof.GinKernel.lean ====
/- What the kernel of the recurrence's inputs leaves in its result arrays. -/
module

public import proofs.«01_k».proof.Proof.Gen.Kernel7Ideal.Frame
public import proofs.«01_k».proof.Proof.GinPay
public import Idealize.ShloMosaic.Lib.Pipeline.ValueKit
public import Idealize.ShloMosaic.Lib.WordCmp

@[expose] public section

set_option maxRecDepth 16384
set_option maxHeartbeats 600000

noncomputable section

open Idealize.ShloMosaic Idealize.ShloMosaic.TcCoe Idealize.SL.Sem

namespace Cert.Kernel7Ideal.Gates

open Cert.Kernel7Ideal Cert.Kernel7Ideal.Gen Cert.Gates

variable (m : (ℓ : Loc nD τ sig) → Buf (Elt Ideal) ℓ) (c : Dev nD)

theorem idx : ∀ t : Fin cfg0.N, win0_0.index t = ![t.val / 4, t.val % 4, 0]
    ∧ win0_1.index t = ![t.val / 4, 64 * (t.val % 4) - 1, 0] ∧ win0_2.index t = ![0, 0] ∧ win0_3.index t = ![0, 0]
    ∧ win0_4.index t = ![0, 0] ∧ win0_5.index t = ![0, 0] ∧ win0_6.index t = ![0, 0] ∧ win0_7.index t = ![0, 0]
    ∧ win0_8.index t = ![0, 0] ∧ win0_9.index t = ![t.val / 4, t.val % 4, 0] ∧ win0_10.index t = ![t.val / 4, t.val % 4, 0]
    ∧ win0_11.index t = ![t.val / 4, t.val % 4, 0] ∧ win0_12.index t = ![t.val / 4, t.val % 4, 0]
    ∧ win0_13.index t = ![t.val / 4, t.val % 4, 0] ∧ win0_14.index t = ![t.val / 4, t.val % 4, 0]
    ∧ (grid0.coords t 1).val = t.val % 4 :=
  (by decide +kernel : ∀ t : Fin grid0.N, _)

theorem t_lt (t : Fin cfg0.N) : t.val < 16 := t.isLt

/-- The sequence of a point, and the token of a row of its block. -/
def seq (t : Fin cfg0.N) : Fin 4 := ⟨t.val / 4, by have := t_lt t; omega⟩
def tok (t : Fin cfg0.N) (p : Fin 512) : Fin 2048 := ⟨t.val % 4 * 512 + p.val, by omega⟩

/-- The tokens and the weights of the launch's arguments: no gradients yet. -/
abbrev T (b : Fin 4) (s : Fin 2048) : Tok :=
  toks (m ((c : Thread nD τ).loc main_arg0)) (fun _ => 0) (fun _ => 0) (fun _ => 0) (fun _ => 0) (fun _ => 0) (fun _ => 0) b s

abbrev P : Wts :=
  wts (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7))

theorem rows_at (t : Fin cfg0.N) (p : Fin 512) (j : Fin 1664) :
    iblk m c 0 t (ix3 0 p j) = m ((c : Thread nD τ).loc main_arg0) (ix3 (seq t) (tok t p) j) := by
  blk_ext [iblk, V, idx t, seq, tok]

/-- The last row of the block before, where there is one. -/
theorem edge_at (t : Fin cfg0.N) (h : t.val % 4 ≠ 0) (j : Fin 1664) :
    iblk m c 1 t (ix3 0 7 j) = m ((c : Thread nD τ).loc main_arg0)
      (ix3 (seq t) (⟨t.val % 4 * 512 - 1, by omega⟩ : Fin 2048) j) := by
  blk_ext [iblk, V, idx t, seq]

theorem mix_at (t : Fin cfg0.N) (j : Fin 1664) : iblk m c 2 t (ix2 0 j) = (P m c).mix j := by
  blk_ext [iblk, V, idx t, P, wts]

/-- A block's rows after the shift: a row looks back at the row before it, the first row at the last of the block before, a sequence's first at none. -/
theorem sh_at (t : Fin cfg0.N) (e : FVec Ideal S1x1x1664 .f32)
    (he : t.val % 4 ≠ 0 → ∀ j, e (ix3 0 0 j) = m ((c : Thread nD τ).loc main_arg0)
      (ix3 (seq t) (⟨t.val % 4 * 512 - 1, by omega⟩ : Fin 2048) j)) (p : Fin 512) (j : Fin 1664) :
    k0_pay7 (F := Ideal) (grid0.coords t) (iblk m c 0 t) (iblk m c 0 t) e (iblk m c 2 t) (ix2 p j) = sh (P m c) (T m c (seq t) (tok t p)) j := by
  have hg := (idx t).2.2.2.2.2.2.2.2.2.2.2.2.2.2.2
  pointwise [k0_pay7]
  rw [hg]
  have hz : Scalar.cmpi CmpIPredicate.eq (BitVec.ofNat 32 (t.val % 4)) 0#32 = BitVec.ofBool (decide (t.val % 4 = 0)) :=
    WordCmp.cmpi_eq_ofNat (by omega) (by decide)
  have hy : IntOp.cmpi CmpIPredicate.eq (BitVec.ofNat 32 p.val) 0#32 = BitVec.ofBool (decide (p.val = 0)) :=
    WordCmp.cmpi_eq_ofNat (by omega) (by decide)
  rw [hz, hy, WordCmp.select_decide, WordCmp.select_decide, mix_at, rows_at]
  refine congrArg (fun y : EReal => (T m c (seq t) (tok t p)).x j + (y - (T m c (seq t) (tok t p)).x j) * (P m c).mix j) ?_
  show _ = if h : t.val % 4 * 512 + p.val = 0 then (0 : EReal) else m ((c : Thread nD τ).loc main_arg0)
    (ix3 (seq t) (⟨t.val % 4 * 512 + p.val - 1, by omega⟩ : Fin 2048) j)
  by_cases h : p.val = 0
  · rw [if_pos h]
    by_cases h' : t.val % 4 = 0
    · rw [if_pos h', dif_pos (by omega)]
    · rw [if_neg h', dif_neg (by omega), he h']
      blk_ext
  · rw [if_neg h, dif_neg (by omega)]
    rw [rows_at]
    blk_ext [tok]

/-- The blocks of a point, as its arithmetic reads them. -/
theorem reads (t : Fin cfg0.N) :
    Holds (P m c) (fun p => T m c (seq t) (tok t p)) (grid0.coords t) (iblk m c 0 t) (iblk m c 0 t)
      (View.ld (iblk m c 1 t) (Rect.unit ![0, 7, 0] ![1, 1, 1664] inb_S1x8x1664_S1x1x1664_0_7_0)) (iblk m c 2 t) (iblk m c 3 t)
      (iblk m c 5 t) (iblk m c 7 t) (iblk m c 8 t) (iblk m c 4 t) (iblk m c 6 t) where
  sh p j := sh_at m c t _ (fun h j => by pointwise []; exact edge_at m c t h j) p j
  w0 j := by blk_ext [iblk, V, idx t, P, wts]
  wu j k := by blk_ext [iblk, V, idx t, P, wts]
  a0 j := by blk_ext [iblk, V, idx t, P, wts]
  au j k := by blk_ext [iblk, V, idx t, P, wts]
  kk j := by blk_ext [iblk, V, idx t, P, wts]
  ka j := by blk_ext [iblk, V, idx t, P, wts]

theorem final9 (A : FVec Ideal S4x2048x512 .f32) (h : ∀ b s k, A (ix3 b s k) = sh (P m c) (T m c b s) ⟨k.val, by omega⟩) :
    (dats m 0 c).arrAt 9 (cfgs 0).N = A := by
  refine (dats m 0 c).arrAt_eq_of_covers 9 _ (by decide +kernel) fun t _ y => ?_
  blk_simp
  rw [after0_9]; unfold_out out0_9; frame_out
  idx_vars y
  obtain rfl : y0 = 0 := Subsingleton.elim _ _
  have he : ((View.whole main_v0_0).slice (win0_9.rect t)).emb (ix3 0 y1 y2) = ix3 (seq t) (tok t y1) y2 := by blk_ext [idx t, seq, tok]
  rw [he, h]
  pointwise [k0_pay1]
  exact r_at _ _ (reads m c t) y1 y2

theorem final10 (A : FVec Ideal S4x2048x512 .f32) (h : ∀ b s k, A (ix3 b s k) = decay (P m c) (T m c b s) k) :
    (dats m 0 c).arrAt 10 (cfgs 0).N = A := by
  refine (dats m 0 c).arrAt_eq_of_covers 10 _ (by decide +kernel) fun t _ y => ?_
  blk_simp
  rw [after0_10]; unfold_out out0_10; frame_out
  idx_vars y
  obtain rfl : y0 = 0 := Subsingleton.elim _ _
  have he : ((View.whole main_v0_1).slice (win0_10.rect t)).emb (ix3 0 y1 y2) = ix3 (seq t) (tok t y1) y2 := by blk_ext [idx t, seq, tok]
  rw [he, h]
  pointwise [k0_pay2]
  exact decay_at _ _ (reads m c t) y1 y2

theorem final11 (A : FVec Ideal S4x2048x512 .f32) (h : ∀ b s k, A (ix3 b s k) = gated (P m c) (T m c b s) k) :
    (dats m 0 c).arrAt 11 (cfgs 0).N = A := by
  refine (dats m 0 c).arrAt_eq_of_covers 11 _ (by decide +kernel) fun t _ y => ?_
  blk_simp
  rw [after0_11]; unfold_out out0_11; frame_out
  idx_vars y
  obtain rfl : y0 = 0 := Subsingleton.elim _ _
  have he : ((View.whole main_v0_2).slice (win0_11.rect t)).emb (ix3 0 y1 y2) = ix3 (seq t) (tok t y1) y2 := by blk_ext [idx t, seq, tok]
  rw [he, h]
  pointwise [k0_pay3]
  exact gated_at _ _ (reads m c t) y1 y2

theorem final12 (A : FVec Ideal S4x2048x512 .f32) (h : ∀ b s k, A (ix3 b s k) = sh (P m c) (T m c b s) ⟨1024 + k.val, by omega⟩) :
    (dats m 0 c).arrAt 12 (cfgs 0).N = A := by
  refine (dats m 0 c).arrAt_eq_of_covers 12 _ (by decide +kernel) fun t _ y => ?_
  blk_simp
  rw [after0_12]; unfold_out out0_12; frame_out
  idx_vars y
  obtain rfl : y0 = 0 := Subsingleton.elim _ _
  have he : ((View.whole main_v0_3).slice (win0_12.rect t)).emb (ix3 0 y1 y2) = ix3 (seq t) (tok t y1) y2 := by blk_ext [idx t, seq, tok]
  rw [he, h]
  pointwise [k0_pay4]
  exact v_at _ _ (reads m c t) y1 y2

theorem final13 (A : FVec Ideal S4x2048x512 .f32) (h : ∀ b s k, A (ix3 b s k) = key (P m c) (T m c b s) k * (P m c).kk k) :
    (dats m 0 c).arrAt 13 (cfgs 0).N = A := by
  refine (dats m 0 c).arrAt_eq_of_covers 13 _ (by decide +kernel) fun t _ y => ?_
  blk_simp
  rw [after0_13]; unfold_out out0_13; frame_out
  idx_vars y
  obtain rfl : y0 = 0 := Subsingleton.elim _ _
  have he : ((View.whole main_v0_4).slice (win0_13.rect t)).emb (ix3 0 y1 y2) = ix3 (seq t) (tok t y1) y2 := by blk_ext [idx t, seq, tok]
  rw [he, h]
  pointwise [k0_pay5]
  exact kk_at _ _ (reads m c t) y1 y2

theorem final14 (A : FVec Ideal S4x2048x512 .f32) (h : ∀ b s k, A (ix3 b s k) = gate (P m c) (T m c b s) k) :
    (dats m 0 c).arrAt 14 (cfgs 0).N = A := by
  refine (dats m 0 c).arrAt_eq_of_covers 14 _ (by decide +kernel) fun t _ y => ?_
  blk_simp
  rw [after0_14]; unfold_out out0_14; frame_out
  idx_vars y
  obtain rfl : y0 = 0 := Subsingleton.elim _ _
  have he : ((View.whole main_v0_5).slice (win0_14.rect t)).emb (ix3 0 y1 y2) = ix3 (seq t) (tok t y1) y2 := by blk_ext [idx t, seq, tok]
  rw [he, h]
  pointwise [k0_pay6]
  exact gate_at _ _ (reads m c t) y1 y2

end Cert.Kernel7Ideal.Gates

end
-- ==== Proof.GinRef.lean ====
/- What the reference computes as the recurrence's inputs, token by token. -/
module

public import proofs.«01_k».proof.Proof.Gen.Reference7Ideal.Read
public import proofs.«01_k».proof.Proof.GinPay

@[expose] public section

set_option maxRecDepth 16384

noncomputable section

open Idealize.ShloMosaic

namespace Cert.Reference7Ideal.Gates

open Cert.Reference7Ideal Cert.Reference7Ideal.Gen Cert.Reference7Ideal.Read Cert.Gates

variable (x0 : FVec Ideal S4x2048x1664 .f32) (x1 : FVec Ideal S1x1664 .f32) (x2 : FVec Ideal S1x512 .f32) (x3 : FVec Ideal S64x512 .bf16)
  (x4 : FVec Ideal S1x512 .f32) (x5 : FVec Ideal S64x512 .bf16) (x6 x7 : FVec Ideal S1x512 .f32)

variable {T : Fin 4 → Fin 2048 → Tok} {P : Wts}
  (hT : T = toks x0 (fun _ => 0) (fun _ => 0) (fun _ => 0) (fun _ => 0) (fun _ => 0) (fun _ => 0)) (hP : P = wts x1 x2 x3 x4 x5 x6 x7)
include hT hP

theorem diff_at (b : Fin 4) (s : Fin 2048) (j : Fin 1664) : val_main_v4 (F := Ideal) x0 (ix3 b s j) = (T b s).y j - (T b s).x j := by
  subst hT
  pointwise [val_main_v4, val_main_v3, val_main_v2, val_main_v1, val_main_cst]
  simp only [toks, Nat.lt_one_iff]

theorem sh_at (b : Fin 4) (s : Fin 2048) (j : Fin 1664) : val_main_v9 (F := Ideal) x0 x1 (ix3 b s j) = sh P (T b s) j := by
  pointwise [val_main_v9, val_main_v8, val_main_v7, val_main_v6, val_main_v5, diff_at x0 x1 x2 x3 x4 x5 x6 x7 hT hP]
  subst hT hP
  rfl

theorem r_at (b : Fin 4) (s : Fin 2048) (k : Fin 512) : val_main_v10 (F := Ideal) x0 x1 (ix3 b s k) = sh P (T b s) ⟨k.val, by omega⟩ := by
  pointwise [val_main_v10, sh_at x0 x1 x2 x3 x4 x5 x6 x7 hT hP]

theorem key_at (b : Fin 4) (s : Fin 2048) (k : Fin 512) : val_main_v11 (F := Ideal) x0 x1 (ix3 b s k) = key P (T b s) k := by
  pointwise [val_main_v11, sh_at x0 x1 x2 x3 x4 x5 x6 x7 hT hP]
  rfl

theorem v_at (b : Fin 4) (s : Fin 2048) (k : Fin 512) : val_main_v12 (F := Ideal) x0 x1 (ix3 b s k) = sh P (T b s) ⟨1024 + k.val, by omega⟩ := by
  pointwise [val_main_v12, sh_at x0 x1 x2 x3 x4 x5 x6 x7 hT hP]

theorem u_at (b : Fin 4) (s : Fin 2048) (k : Fin 512) : val_main_v22 (F := Ideal) x0 x1 x2 x3 (ix3 b s k) = -u P (T b s) k := by
  pointwise [val_main_v22, val_main_v21, val_main_v20, val_main_v19, val_main_v18, val_main_v17, val_main_v16, val_main_v15, val_main_v13,
    sh_at x0 x1 x2 x3 x4 x5 x6 x7 hT hP]
  subst hT hP
  rfl

theorem gate_at (b : Fin 4) (s : Fin 2048) (k : Fin 512) : val_main_v40 (F := Ideal) x0 x1 x4 x5 (ix3 b s k) = gate P (T b s) k := by
  pointwise [val_main_v40, val_main_v39, val_main_v38, val_main_v37, val_main_v36, val_main_v35, val_main_v34, val_main_v33, val_main_v32,
    val_main_v31, val_main_v30, val_main_v29, val_main_v14, val_main_cst_1, val_main_cst_2, sh_at x0 x1 x2 x3 x4 x5 x6 x7 hT hP]
  subst hT hP
  rfl

theorem decay_at (b : Fin 4) (s : Fin 2048) (k : Fin 512) : val_main_v28 (F := Ideal) x0 x1 x2 x3 (ix3 b s k) = decay P (T b s) k := by
  pointwise [val_main_v28, val_main_v27, val_main_v26, val_main_v25, val_main_v24, val_main_v23, val_main_cst_0, val_main_call0_v11,
    val_main_call0_v10, val_main_call0_v9, val_main_call0_v8, val_main_call0_v7, val_main_call0_v6, val_main_call0_v5, val_main_call0_v4,
    val_main_call0_v3, val_main_call0_v2, val_main_call0_v1, val_main_call0_v0, val_main_call0_cst, u_at x0 x1 x2 x3 x4 x5 x6 x7 hT hP]
  simp only [ne_eq, not_true_eq_false, if_false]
  rfl

theorem kk_at (b : Fin 4) (s : Fin 2048) (k : Fin 512) : val_main_v44 (F := Ideal) x0 x1 x6 (ix3 b s k) = key P (T b s) k * P.kk k := by
  pointwise [val_main_v44, val_main_v43, val_main_v42, val_main_v41, key_at x0 x1 x2 x3 x4 x5 x6 x7 hT hP]
  subst hT hP
  rfl

theorem gated_at (b : Fin 4) (s : Fin 2048) (k : Fin 512) : val_main_v53 (F := Ideal) x0 x1 x4 x5 x7 (ix3 b s k) = gated P (T b s) k := by
  pointwise [val_main_v53, val_main_v52, val_main_v51, val_main_v50, val_main_v49, val_main_v48, val_main_v47, val_main_v46, val_main_v45,
    val_main_cst_3, val_main_cst_4, key_at x0 x1 x2 x3 x4 x5 x6 x7 hT hP, gate_at x0 x1 x2 x3 x4 x5 x6 x7 hT hP]
  subst hT hP
  rfl

end Cert.Reference7Ideal.Gates

end
-- ==== Proof.GinPair.lean ====
/- The recurrence's inputs: kernel and reference agree on all six results. -/
module

public import proofs.«01_k».proof.Defs
public import proofs.«01_k».proof.Proof.Gen.Kernel7Ideal.Frame
public import proofs.«01_k».proof.Proof.Gen.Reference7Ideal.Run
public import proofs.«01_k».proof.Proof.Gen.Reference7Ideal.Read
public import proofs.«01_k».proof.Proof.GinKernel
public import proofs.«01_k».proof.Proof.GinRef
public import Idealize.ShloMosaic.Lib.Claim
public import Idealize.ShloMosaic.Adequacy
public import Idealize.ShloMosaic.Init

@[expose] public section

set_option maxRecDepth 16384
set_option maxHeartbeats 1000000

noncomputable section

namespace Cert.Proof

open Idealize.ShloMosaic Idealize.SL.Sem Cert.Kernel

/-- The reference of the recurrence's inputs runs, leaves its arguments alone, and has no semaphore. -/
theorem inputs_reference : Cert.quiescent_Reference7Ideal (hReference7Ideal := Cert.Reference7Ideal.Gen.facts) := fun m ρ _ =>
  (θ_run Cert.Reference7Ideal.defs _ _).mono (fun r h => And.intro (fun c => (h c).2.2.2.2.2.2) (sem_eq_zero_of_no_sems (by decide) r.2))
    (Cert.Reference7Ideal.Value.run (F := Ideal) m ρ)

/-- The recurrence's inputs: all six arrays are the reference's. -/
theorem inputs : Cert.algebraic_Kernel7Ideal_Reference7Ideal (hKernel7Ideal := Cert.Kernel7Ideal.Gen.facts)
    (hReference7Ideal := Cert.Reference7Ideal.Gen.facts) := by
  intro m g m' g' _ hagree
  refine ⟨fun c => (Cert.Kernel7Ideal.Gen.dats m 0 c).arrAt 9 (Cert.Kernel7Ideal.cfgs 0).N,
    fun c => (Cert.Kernel7Ideal.Gen.dats m 0 c).arrAt 10 (Cert.Kernel7Ideal.cfgs 0).N,
    fun c => (Cert.Kernel7Ideal.Gen.dats m 0 c).arrAt 11 (Cert.Kernel7Ideal.cfgs 0).N,
    fun c => (Cert.Kernel7Ideal.Gen.dats m 0 c).arrAt 12 (Cert.Kernel7Ideal.cfgs 0).N,
    fun c => (Cert.Kernel7Ideal.Gen.dats m 0 c).arrAt 13 (Cert.Kernel7Ideal.cfgs 0).N,
    fun c => (Cert.Kernel7Ideal.Gen.dats m 0 c).arrAt 14 (Cert.Kernel7Ideal.cfgs 0).N, ?_, ?_⟩
  · refine θ_run_mono (θ_run_and (Cert.Kernel7Ideal.Gen.run_main m g) (Cert.Kernel7Ideal.Gen.frame m g)) fun r h c => ?_
    exact ⟨(h.1 c).1 9, (h.1 c).1 10, (h.1 c).1 11, (h.1 c).1 12, (h.1 c).1 13, (h.1 c).1 14, h.2.1 c⟩
  · refine (θ_run Cert.Reference7Ideal.defs _ _).mono (fun r h c => ?_) (Cert.Reference7Ideal.Value.run (F := Ideal) m' g')
    obtain ⟨h0, h1, h2, h3, h4, h5, hr⟩ := h c
    obtain ⟨a0, a1, a2, a3, a4, a5, a6, a7⟩ := hagree c
    refine ⟨h0.trans ?_, h1.trans ?_, h2.trans ?_, h3.trans ?_, h4.trans ?_, h5.trans ?_, hr⟩
    · rw [Cert.Reference7Ideal.Read.val_main_v10_eq, a0, a1]
      exact (Cert.Kernel7Ideal.Gates.final9 m c _ (Cert.Reference7Ideal.Gates.r_at _ _ _ _ _ _ _ _ (T := Cert.Kernel7Ideal.Gates.T m c) (P := Cert.Kernel7Ideal.Gates.P m c) rfl rfl)).symm
    · rw [Cert.Reference7Ideal.Read.val_main_v28_eq, a0, a1, a2, a3]
      exact (Cert.Kernel7Ideal.Gates.final10 m c _ (Cert.Reference7Ideal.Gates.decay_at _ _ _ _ _ _ _ _ (T := Cert.Kernel7Ideal.Gates.T m c) (P := Cert.Kernel7Ideal.Gates.P m c) rfl rfl)).symm
    · rw [Cert.Reference7Ideal.Read.val_main_v53_eq, a0, a1, a4, a5, a7]
      exact (Cert.Kernel7Ideal.Gates.final11 m c _ (Cert.Reference7Ideal.Gates.gated_at _ _ _ _ _ _ _ _ (T := Cert.Kernel7Ideal.Gates.T m c) (P := Cert.Kernel7Ideal.Gates.P m c) rfl rfl)).symm
    · rw [Cert.Reference7Ideal.Read.val_main_v12_eq, a0, a1]
      exact (Cert.Kernel7Ideal.Gates.final12 m c _ (Cert.Reference7Ideal.Gates.v_at _ _ _ _ _ _ _ _ (T := Cert.Kernel7Ideal.Gates.T m c) (P := Cert.Kernel7Ideal.Gates.P m c) rfl rfl)).symm
    · rw [Cert.Reference7Ideal.Read.val_main_v44_eq, a0, a1, a6]
      exact (Cert.Kernel7Ideal.Gates.final13 m c _ (Cert.Reference7Ideal.Gates.kk_at _ _ _ _ _ _ _ _ (T := Cert.Kernel7Ideal.Gates.T m c) (P := Cert.Kernel7Ideal.Gates.P m c) rfl rfl)).symm
    · rw [Cert.Reference7Ideal.Read.val_main_v40_eq, a0, a1, a4, a5]
      exact (Cert.Kernel7Ideal.Gates.final14 m c _ (Cert.Reference7Ideal.Gates.gate_at _ _ _ _ _ _ _ _ (T := Cert.Kernel7Ideal.Gates.T m c) (P := Cert.Kernel7Ideal.Gates.P m c) rfl rfl)).symm

end Cert.Proof

end
-- ==== Proof.MmKernel.lean ====
/- What the product of the projections leaves in its result array. -/
module

public import proofs.«01_k».proof.Proof.Gen.Kernel8Ideal.Frame
public import Idealize.ShloMosaic.Lib.Pipeline.ValueKit
public import Idealize.ShloMosaic.Lib.Pointwise

@[expose] public section

set_option maxRecDepth 16384
set_option maxHeartbeats 1000000

noncomputable section

open Idealize.ShloMosaic Idealize.ShloMosaic.TcCoe

namespace Cert.Kernel8Ideal.Prod

open Cert.Kernel8Ideal Cert.Kernel8Ideal.Gen

theorem pay_at (a : FVec Ideal S2048x1024 .bf16) (b : FVec Ideal S1024x1536 .bf16) (p : Fin 2048) (q : Fin 1536) :
    k0_pay1 (F := Ideal) a b (ix2 p q) = ∑ k : Fin 1024, a (ix2 p k) * b (ix2 k q) := by
  pointwise [k0_pay1]

variable (m : (ℓ : Loc nD τ sig) → Buf (Elt Ideal) ℓ) (c : Dev nD)

theorem idx : ∀ t : Fin cfg0.N, win0_0.index t = ![t.val % 4, 0] ∧ win0_1.index t = ![0, t.val / 4] ∧ win0_2.index t = ![t.val % 4, t.val / 4] :=
  (by decide +kernel : ∀ t : Fin grid0.N, _)

/-- The two factors as launched. -/
abbrev lhs (r : Fin 8192) (k : Fin 1024) : EReal := (m ((c : Thread nD τ).loc main_arg0) : FVec Ideal S8192x1024 .bf16) (ix2 r k)
abbrev rhs (k : Fin 1024) (j : Fin 4608) : EReal := (m ((c : Thread nD τ).loc main_arg1) : FVec Ideal S1024x4608 .bf16) (ix2 k j)

/-- The row and the column a point's block has at a place. -/
def row (t : Fin cfg0.N) (p : Fin 2048) : Fin 8192 := ⟨t.val % 4 * 2048 + p.val, by omega⟩
def col (t : Fin cfg0.N) (q : Fin 1536) : Fin 4608 := ⟨t.val / 4 * 1536 + q.val, by have : t.val < 12 := t.isLt; omega⟩

theorem lhs_at (t : Fin cfg0.N) (p : Fin 2048) (k : Fin 1024) : iblk m c 0 t (ix2 p k) = lhs m c (row t p) k := by
  blk_ext [iblk, V, idx t, lhs, row]

theorem rhs_at (t : Fin cfg0.N) (k : Fin 1024) (q : Fin 1536) : iblk m c 1 t (ix2 k q) = rhs m c k (col t q) := by
  blk_ext [iblk, V, idx t, rhs, col]

theorem final (A : FVec Ideal S8192x4608 .f32) (h : ∀ r j, A (ix2 r j) = ∑ k : Fin 1024, lhs m c r k * rhs m c k j) :
    (dats m 0 c).arrAt 2 (cfgs 0).N = A := by
  refine (dats m 0 c).arrAt_eq_of_covers 2 _ (by decide +kernel) fun t _ y => ?_
  blk_simp
  rw [after0_2]; frame_out
  idx_vars y
  have he : ((View.whole main_v0).slice (win0_2.rect t)).emb (ix2 y0 y1) = ix2 (row t y0) (col t y1) := by blk_ext [idx t, row, col]
  rw [he, h]
  refine (pay_at _ _ y0 y1).trans (Finset.sum_congr rfl fun k _ => ?_)
  exact congrArg₂ (· * ·) (lhs_at m c t y0 k) (rhs_at m c t k y1)

end Cert.Kernel8Ideal.Prod

end
-- ==== Proof.MmRef.lean ====
/- The projections' product as the reference takes it. -/
module

public import proofs.«01_k».proof.Proof.Gen.Reference8Ideal.Read
public import Idealize.ShloMosaic.Lib.Pointwise

@[expose] public section

set_option maxRecDepth 16384
set_option maxHeartbeats 1000000

noncomputable section

open Idealize.ShloMosaic Idealize.ShloMosaic.TcCoe

namespace Cert.Reference8Ideal.Prod

open Cert.Reference8Ideal Cert.Reference8Ideal.Gen Cert.Reference8Ideal.Read

theorem at_ (x0 : FVec Ideal S8192x1024 .bf16) (x1 : FVec Ideal S1024x4608 .bf16) (r : Fin 8192) (j : Fin 4608) :
    val_main_v0 (F := Ideal) x0 x1 (ix2 r j) = ∑ k : Fin 1024, x0 (ix2 r k) * x1 (ix2 k j) := by
  pointwise [val_main_v0]

end Cert.Reference8Ideal.Prod

end
-- ==== Proof.MmPair.lean ====
/- The projections: kernel and reference agree. -/
module

public import proofs.«01_k».proof.Defs
public import proofs.«01_k».proof.Proof.Gen.Kernel8Ideal.Frame
public import proofs.«01_k».proof.Proof.Gen.Reference8Ideal.Run
public import proofs.«01_k».proof.Proof.Gen.Reference8Ideal.Read
public import proofs.«01_k».proof.Proof.MmKernel
public import proofs.«01_k».proof.Proof.MmRef
public import Idealize.ShloMosaic.Lib.Claim
public import Idealize.ShloMosaic.Adequacy
public import Idealize.ShloMosaic.Init

@[expose] public section

set_option maxRecDepth 16384
set_option maxHeartbeats 4000000

noncomputable section

namespace Cert.Proof

open Idealize.ShloMosaic Idealize.SL.Sem Cert.Kernel

/-- The projections: its reference runs, leaves its arguments alone, and has no semaphore. -/
theorem product_reference : Cert.quiescent_Reference8Ideal (hReference8Ideal := Cert.Reference8Ideal.Gen.facts) := fun m ρ _ =>
  (θ_run Cert.Reference8Ideal.defs _ _).mono (fun r h => And.intro (fun c => (h c).2) (sem_eq_zero_of_no_sems (by decide) r.2))
    (Cert.Reference8Ideal.Value.run (F := Ideal) m ρ)

/-- Each entry of the kernel's array is the row times the column. -/
theorem product : Cert.algebraic_Kernel8Ideal_Reference8Ideal (hKernel8Ideal := Cert.Kernel8Ideal.Gen.facts)
    (hReference8Ideal := Cert.Reference8Ideal.Gen.facts) := by
  pair_intro
  · run_from Cert.Kernel8Ideal.Gen.run_main m g
  · run_from Cert.Reference8Ideal.Value.run m' g'
    exact (Cert.Kernel8Ideal.Prod.final m c (Cert.Reference8Ideal.Read.val_main_v0 (F := Ideal) (m ((c.tc : Thread Cert.Kernel8Ideal.nD Cert.Kernel8Ideal.τ).loc Cert.Kernel8Ideal.main_arg0))
      (m ((c.tc : Thread Cert.Kernel8Ideal.nD Cert.Kernel8Ideal.τ).loc Cert.Kernel8Ideal.main_arg1))) fun r j => Cert.Reference8Ideal.Prod.at_ _ _ r j).symm

end Cert.Proof

end
-- ==== Proof.NtKernel.lean ====
/- What the product with a transposed matrix leaves in its result array: three points' parts, one after another. -/
module

public import proofs.«01_k».proof.Proof.Gen.Kernel9Ideal.Frame
public import Idealize.ShloMosaic.Lib.Pipeline.ValueKit
public import Idealize.ShloMosaic.Lib.Pointwise

@[expose] public section

set_option maxRecDepth 16384
set_option maxHeartbeats 1000000

noncomputable section

open Idealize.ShloMosaic Idealize.ShloMosaic.TcCoe

namespace Cert.Kernel9Ideal.Back

open Cert.Kernel9Ideal Cert.Kernel9Ideal.Gen

theorem pay_at (a0 a1 a2 : FVec Ideal S1x2048x512 .bf16) (b0 b1 b2 : FVec Ideal S1024x512 .bf16) (p : Fin 2048) (q : Fin 1024) :
    k0_pay1 (F := Ideal) a0 b0 a1 b1 a2 b2 (ix2 p q) = (∑ k : Fin 512, a0 (ix3 0 p k) * b0 (ix2 q k) + ∑ k : Fin 512, a1 (ix3 0 p k) * b1 (ix2 q k))
      + ∑ k : Fin 512, a2 (ix3 0 p k) * b2 (ix2 q k) := by
  pointwise [k0_pay1]

theorem add_at (a0 a1 a2 : FVec Ideal S1x2048x512 .bf16) (b0 b1 b2 : FVec Ideal S1024x512 .bf16) (o : FVec Ideal S2048x1024 .f32)
    (p : Fin 2048) (q : Fin 1024) :
    k0_pay2 (F := Ideal) a0 b0 a1 b1 a2 b2 o (ix2 p q) = o (ix2 p q) + k0_pay1 (F := Ideal) a0 b0 a1 b1 a2 b2 (ix2 p q) := by
  pointwise [k0_pay2]

variable (m : (ℓ : Loc nD τ sig) → Buf (Elt Ideal) ℓ) (c : Dev nD)

theorem idx : ∀ t : Fin cfg0.N, win0_0.index t = ![t.val % 3, t.val / 3, 0] ∧ win0_1.index t = ![0, t.val % 3] ∧ win0_3.index t = ![t.val / 3, 0] :=
  (by decide +kernel : ∀ t : Fin grid0.N, _)

theorem t_lt (t : Fin cfg0.N) : t.val < 12 := t.isLt

/-- The factors as launched, the left one in its nine parts, and as a point has them. -/
abbrev lhs (s : Fin 9) (r : Fin 8192) (k : Fin 512) : EReal := (m ((c : Thread nD τ).loc main_arg0) : FVec Ideal S9x8192x512 .bf16) (ix3 s r k)
abbrev rhs (j : Fin 1024) (l : Fin 4608) : EReal := (m ((c : Thread nD τ).loc main_arg1) : FVec Ideal S1024x4608 .bf16) (ix2 j l)
abbrev lblk (t : Fin cfg0.N) (s : Fin 3) (p : Fin 2048) (k : Fin 512) : EReal := iblk m c 0 t (ix3 s p k)
abbrev rblk (t : Fin cfg0.N) (j : Fin 1024) (u : Fin 1536) : EReal := iblk m c 1 t (ix2 j u)

/-- One summand of an entry of the product, the left factor taken from its nine parts. -/
def term (r : Fin 8192) (j : Fin 1024) (l : Fin 4608) : EReal :=
  lhs m c ⟨l.val / 512, by omega⟩ r ⟨l.val % 512, by omega⟩ * rhs m c j l

def row (t : Fin cfg0.N) (p : Fin 2048) : Fin 8192 := ⟨t.val / 3 * 2048 + p.val, by have := t_lt t; omega⟩

/-- What the `i`-th of a row block's three points adds. -/
def part (r : Fin 8192) (j : Fin 1024) (i : Fin 3) : EReal := ∑ u : Fin 1536, term m c r j ⟨i.val * 1536 + u.val, by omega⟩

theorem lhs_at (t : Fin cfg0.N) (s : Fin 3) (p : Fin 2048) (k : Fin 512) :
    lblk m c t s p k = lhs m c (⟨t.val % 3 * 3 + s.val, by omega⟩ : Fin 9) (row t p) k := by
  blk_ext [iblk, V, idx t, row, lblk, lhs]

theorem rhs_at (t : Fin cfg0.N) (j : Fin 1024) (u : Fin 1536) :
    rblk m c t j u = rhs m c j (⟨t.val % 3 * 1536 + u.val, by omega⟩ : Fin 4608) := by
  blk_ext [iblk, V, idx t, rblk, rhs]

theorem prod_at (t : Fin cfg0.N) (s : Fin 3) (p : Fin 2048) (q : Fin 1024) (k : Fin 512) :
    lblk m c t s p k * rblk m c t q ⟨s.val * 512 + k.val, by omega⟩ = term m c (row t p) q ⟨t.val % 3 * 1536 + (s.val * 512 + k.val), by omega⟩ := by
  rw [lhs_at, rhs_at]
  unfold term
  refine congrArg₂ (· * ·) ?_ rfl
  refine congrArg₂ (fun (a : Fin 9) (b : Fin 512) => lhs m c a (row t p) b) (Fin.ext ?_) (Fin.ext ?_)
  · show t.val % 3 * 3 + s.val = (t.val % 3 * 1536 + (s.val * 512 + k.val)) / 512; omega
  · show k.val = (t.val % 3 * 1536 + (s.val * 512 + k.val)) % 512; omega

/-- A point's three products are its part. -/
theorem part_at (t : Fin cfg0.N) (a0 a1 a2 : FVec Ideal S1x2048x512 .bf16) (b0 b1 b2 : FVec Ideal S1024x512 .bf16) (p : Fin 2048) (q : Fin 1024)
    (h0 : ∀ k, a0 (ix3 0 p k) * b0 (ix2 q k) = lblk m c t 0 p k * rblk m c t q ⟨0 * 512 + k.val, by omega⟩)
    (h1 : ∀ k, a1 (ix3 0 p k) * b1 (ix2 q k) = lblk m c t 1 p k * rblk m c t q ⟨1 * 512 + k.val, by omega⟩)
    (h2 : ∀ k, a2 (ix3 0 p k) * b2 (ix2 q k) = lblk m c t 2 p k * rblk m c t q ⟨2 * 512 + k.val, by omega⟩) :
    k0_pay1 (F := Ideal) a0 b0 a1 b1 a2 b2 (ix2 p q) = part m c (row t p) q ⟨t.val % 3, by omega⟩ := by
  rw [pay_at]
  unfold part
  rw [Fin.sum_univ_tiles 3 512 rfl, Fin.sum_univ_three]
  refine congrArg₂ (· + ·) (congrArg₂ (· + ·) ?_ ?_) ?_ <;> refine Finset.sum_congr rfl fun k _ => ?_
  · exact (h0 k).trans (prod_at m c t 0 p q k)
  · exact (h1 k).trans (prod_at m c t 1 p q k)
  · exact (h2 k).trans (prod_at m c t 2 p q k)

theorem first (t : Fin cfg0.N) (h0 : t.val % 3 = 0) (p : Fin 2048) (q : Fin 1024) :
    outsAt0 m c t.val t.isLt (ix2 p q) = part m c (row t p) q ⟨t.val % 3, by omega⟩ := by
  rw [outsAt0_A m c t h0 (by omega)]; frame_out
  refine part_at m c t _ _ _ _ _ _ p q (fun k => ?_) (fun k => ?_) (fun k => ?_) <;>
    refine congrArg₂ (fun a b : EReal => a * b) ?_ ?_ <;> (pointwise []; try rfl)

theorem next (t : Fin cfg0.N) (h0 : ¬t.val % 3 = 0) (p : Fin 2048) (q : Fin 1024) :
    outsAt0 m c t.val t.isLt (ix2 p q) = outsAt0 m c (t.val - 1) (Nat.lt_of_le_of_lt (Nat.sub_le _ _) t.isLt) (ix2 p q)
      + part m c (row t p) q ⟨t.val % 3, by omega⟩ := by
  rw [outsAt0_B m c t h0 (by omega)]; frame_out
  rw [add_at]
  refine congrArg₂ (· + ·) rfl ?_
  refine part_at m c t _ _ _ _ _ _ p q (fun k => ?_) (fun k => ?_) (fun k => ?_) <;>
    refine congrArg₂ (fun a b : EReal => a * b) ?_ ?_ <;> (pointwise []; try rfl)

theorem last (t : Fin cfg0.N) (h2 : t.val % 3 = 2) (p : Fin 2048) (q : Fin 1024) :
    outsAt0 m c t.val t.isLt (ix2 p q) = ∑ l : Fin 4608, term m c (row t p) q l := by
  have e : ∀ (n : ℕ) (i : Fin 3) (hn : n < cfg0.N), n / 3 = t.val / 3 → n % 3 = i.val →
      part m c (row ⟨n, hn⟩ p) q ⟨n % 3, by omega⟩ = part m c (row t p) q i := fun n i hn hd hm =>
    congrArg₂ (fun r s => part m c r q s) (Fin.ext (by show n / 3 * 2048 + p.val = t.val / 3 * 2048 + p.val; rw [hd])) (Fin.ext hm)
  have hl := t.isLt
  rw [Fin.sum_univ_tiles 3 1536 rfl, Fin.sum_univ_three]
  rw [next m c t (by omega) p q, next m c ⟨t.val - 1, by omega⟩ (by show ¬(t.val - 1) % 3 = 0; omega) p q]
  rw [first m c ⟨t.val - 1 - 1, by omega⟩ (by show (t.val - 1 - 1) % 3 = 0; omega) p q]
  exact congrArg₂ (· + ·) (congrArg₂ (· + ·) (e _ 0 _ (by omega) (by show _ = 0; omega)) (e _ 1 _ (by omega) (by show _ = 1; omega))) (e _ 2 _ rfl h2)

theorem final (A : FVec Ideal S8192x1024 .f32) (h : ∀ r j, A (ix2 r j) = ∑ l : Fin 4608, term m c r j l) :
    (dats m 0 c).arrAt 3 (cfgs 0).N = A := by
  refine (dats m 0 c).arrAt_eq_of_covers 3 _ (by decide +kernel) fun t hf y => ?_
  blk_simp
  rw [after0_3]
  idx_vars y
  have he : ((View.whole main_v0).slice (win0_3.rect t)).emb (ix2 y0 y1) = ix2 (row t y0) y1 := by blk_ext [idx t, row]
  rw [he, h]
  exact last m c t ((flush0_3 t).mp hf) y0 y1

end Cert.Kernel9Ideal.Back

end
-- ==== Proof.NtRef.lean ====
/- The gradient at the projections' input as the reference takes it. -/
module

public import proofs.«01_k».proof.Proof.Gen.Reference9Ideal.Read
public import Idealize.ShloMosaic.Lib.Pointwise

@[expose] public section

set_option maxRecDepth 16384
set_option maxHeartbeats 1000000

noncomputable section

open Idealize.ShloMosaic Idealize.ShloMosaic.TcCoe

namespace Cert.Reference9Ideal.Back

open Cert.Reference9Ideal Cert.Reference9Ideal.Gen Cert.Reference9Ideal.Read

/-- A column of the flattened factor lies in one of its nine parts. -/
theorem flat_at (x0 : FVec Ideal S9x8192x512 .bf16) (r : Fin 8192) (l : Fin 4608) :
    val_main_v1 (F := Ideal) x0 (ix2 r l) = x0 (ix3 ⟨l.val / 512, by omega⟩ r ⟨l.val % 512, by omega⟩) := by
  rw [val_main_v1_apply, val_main_v0_apply]
  refine congrArg x0 (funext fun a => ?_)
  match a with
  | ⟨0, _⟩ => exact Fin.ext (by show (r.val * 4608 + l.val) / 512 % 9 = l.val / 512; omega)
  | ⟨1, _⟩ => exact Fin.ext (by show (r.val * 4608 + l.val) / 4608 = r.val; omega)
  | ⟨2, _⟩ => exact Fin.ext (by show (r.val * 4608 + l.val) % 512 = l.val % 512; omega)

theorem at_ (x0 : FVec Ideal S9x8192x512 .bf16) (x1 : FVec Ideal S1024x4608 .bf16) (r : Fin 8192) (j : Fin 1024) :
    val_main_v3 (F := Ideal) x0 x1 (ix2 r j)
      = ∑ l : Fin 4608, (x0 (ix3 ⟨l.val / 512, by omega⟩ r ⟨l.val % 512, by omega⟩) : EReal) * x1 (ix2 j l) := by
  pointwise [val_main_v3, val_main_v2, flat_at]

end Cert.Reference9Ideal.Back

end
-- ==== Proof.NtPair.lean ====
/- The gradient at the projections' input: kernel and reference agree. -/
module

public import proofs.«01_k».proof.Defs
public import proofs.«01_k».proof.Proof.Gen.Kernel9Ideal.Frame
public import proofs.«01_k».proof.Proof.Gen.Reference9Ideal.Run
public import proofs.«01_k».proof.Proof.Gen.Reference9Ideal.Read
public import proofs.«01_k».proof.Proof.NtKernel
public import proofs.«01_k».proof.Proof.NtRef
public import Idealize.ShloMosaic.Lib.Claim
public import Idealize.ShloMosaic.Adequacy
public import Idealize.ShloMosaic.Init

@[expose] public section

set_option maxRecDepth 16384
set_option maxHeartbeats 4000000

noncomputable section

namespace Cert.Proof

open Idealize.ShloMosaic Idealize.SL.Sem Cert.Kernel

/-- The gradient at the projections' input: its reference runs, leaves its arguments alone, and has no semaphore. -/
theorem back_reference : Cert.quiescent_Reference9Ideal (hReference9Ideal := Cert.Reference9Ideal.Gen.facts) := fun m ρ _ =>
  (θ_run Cert.Reference9Ideal.defs _ _).mono (fun r h => And.intro (fun c => (h c).2) (sem_eq_zero_of_no_sems (by decide) r.2))
    (Cert.Reference9Ideal.Value.run (F := Ideal) m ρ)

/-- The nine parts' products, added three at a time, are the product with the flattened array. -/
theorem back : Cert.algebraic_Kernel9Ideal_Reference9Ideal (hKernel9Ideal := Cert.Kernel9Ideal.Gen.facts)
    (hReference9Ideal := Cert.Reference9Ideal.Gen.facts) := by
  pair_intro
  · run_from Cert.Kernel9Ideal.Gen.run_main m g
  · run_from Cert.Reference9Ideal.Value.run m' g'
    exact (Cert.Kernel9Ideal.Back.final m c (Cert.Reference9Ideal.Read.val_main_v3 (F := Ideal) (m ((c.tc : Thread Cert.Kernel9Ideal.nD Cert.Kernel9Ideal.τ).loc Cert.Kernel9Ideal.main_arg0))
      (m ((c.tc : Thread Cert.Kernel9Ideal.nD Cert.Kernel9Ideal.τ).loc Cert.Kernel9Ideal.main_arg1))) fun r j => Cert.Reference9Ideal.Back.at_ _ _ r j).symm

end Cert.Proof

end
-- ==== Proof.TnKernel.lean ====
/- What the product with a transposed left factor leaves in its result array: four points' parts, in three columns of blocks. -/
module

public import proofs.«01_k».proof.Proof.Gen.Kernel10Ideal.Frame
public import Idealize.ShloMosaic.Lib.Pipeline.ValueKit
public import Idealize.ShloMosaic.Lib.Pointwise

@[expose] public section

set_option maxRecDepth 16384
set_option maxHeartbeats 1000000

noncomputable section

open Idealize.ShloMosaic Idealize.ShloMosaic.TcCoe

namespace Cert.Kernel10Ideal.Grad

open Cert.Kernel10Ideal Cert.Kernel10Ideal.Gen

/-- The product of a block of rows with one third of a block of columns. -/
def mul (a : FVec Ideal S2048x1024 .bf16) (b : FVec Ideal S1x2048x512 .bf16) (k : Fin 1024) (q : Fin 512) : EReal :=
  ∑ p : Fin 2048, a (ix2 p k) * b (ix3 0 p q)

theorem mul0 (a : FVec Ideal S2048x1024 .bf16) (b : FVec Ideal S1x2048x512 .bf16) (k : Fin 1024) (q : Fin 512) :
    k0_pay2 (F := Ideal) a b (ix2 k q) = mul a b k q := by pointwise [k0_pay2, mul]

theorem mul1 (a : FVec Ideal S2048x1024 .bf16) (b : FVec Ideal S1x2048x512 .bf16) (k : Fin 1024) (q : Fin 512) :
    k0_pay4 (F := Ideal) a b (ix2 k q) = mul a b k q := by pointwise [k0_pay4, mul]

theorem mul2 (a : FVec Ideal S2048x1024 .bf16) (b : FVec Ideal S1x2048x512 .bf16) (k : Fin 1024) (q : Fin 512) :
    k0_pay6 (F := Ideal) a b (ix2 k q) = mul a b k q := by pointwise [k0_pay6, mul]

theorem add0 (a : FVec Ideal S2048x1024 .bf16) (b : FVec Ideal S1x2048x512 .bf16) (o : FVec Ideal S1024x512 .f32) (k : Fin 1024) (q : Fin 512) :
    k0_pay3 (F := Ideal) a b o (ix2 k q) = o (ix2 k q) + mul a b k q := by pointwise [k0_pay3, mul0]

theorem add1 (a : FVec Ideal S2048x1024 .bf16) (b : FVec Ideal S1x2048x512 .bf16) (o : FVec Ideal S1024x512 .f32) (k : Fin 1024) (q : Fin 512) :
    k0_pay5 (F := Ideal) a b o (ix2 k q) = o (ix2 k q) + mul a b k q := by pointwise [k0_pay5, mul1]

theorem add2 (a : FVec Ideal S2048x1024 .bf16) (b : FVec Ideal S1x2048x512 .bf16) (o : FVec Ideal S1024x512 .f32) (k : Fin 1024) (q : Fin 512) :
    k0_pay1 (F := Ideal) (k0_pay6 (F := Ideal) a b) o (ix2 k q) = o (ix2 k q) + mul a b k q := by pointwise [k0_pay1, mul2]

/-- Three stores side by side hold a row. -/
theorem three (w0 w1 w2 : FVec Ideal S1024x512 .f32) (f : Fin 1536 → EReal) (k : Fin 1024) (h0 : ∀ q : Fin 512, w0 (ix2 k q) = f ⟨q.val, by omega⟩)
    (h1 : ∀ q : Fin 512, w1 (ix2 k q) = f ⟨512 + q.val, by omega⟩) (h2 : ∀ q : Fin 512, w2 (ix2 k q) = f ⟨1024 + q.val, by omega⟩) (j : Fin 1536) :
    View.canon (Val := Elt Ideal) (s := S1024x1536) (e := .f32)
      [⟨Rect.unit ![0, 1024] ![1024, 512] inb_S1024x1536_S1024x512_0_1024, w2⟩, ⟨Rect.unit ![0, 512] ![1024, 512] inb_S1024x1536_S1024x512_0_512, w1⟩,
       ⟨Rect.unit ![0, 0] ![1024, 512] inb_S1024x1536_S1024x512_0_0, w0⟩] (ix2 k j) = f j := by
  canon_tiles x hx using View.cover_of_tiledBy _ ![1024, 512] (by sl_kernel_rfl) _
  all_goals
    idx_vars x
    obtain rfl : k = x0 := Fin.ext hx0
  case piece0 => exact (h2 _).trans (congrArg f (Fin.ext hx1.symm))
  case piece1 => exact (h1 _).trans (congrArg f (Fin.ext hx1.symm))
  case piece2 => exact (h0 _).trans (congrArg f (Fin.ext hx1.symm))

variable (m : (ℓ : Loc nD τ sig) → Buf (Elt Ideal) ℓ) (c : Dev nD)

theorem idx : ∀ t : Fin cfg0.N, win0_0.index t = ![t.val % 4, 0] ∧ win0_1.index t = ![t.val / 4, t.val % 4, 0] ∧ win0_2.index t = ![0, t.val / 4] :=
  (by decide +kernel : ∀ t : Fin grid0.N, _)

theorem t_lt (t : Fin cfg0.N) : t.val < 12 := t.isLt

/-- The factors as launched, the right one in its nine parts. -/
abbrev lhs (r : Fin 8192) (k : Fin 1024) : EReal := (m ((c : Thread nD τ).loc main_arg0) : FVec Ideal S8192x1024 .bf16) (ix2 r k)
abbrev rhs (s : Fin 9) (r : Fin 8192) (q : Fin 512) : EReal := (m ((c : Thread nD τ).loc main_arg1) : FVec Ideal S9x8192x512 .bf16) (ix3 s r q)

/-- One summand of an entry of the product. -/
def term (k : Fin 1024) (j : Fin 4608) (r : Fin 8192) : EReal := lhs m c r k * rhs m c ⟨j.val / 512, by omega⟩ r ⟨j.val % 512, by omega⟩

def col (t : Fin cfg0.N) (u : Fin 1536) : Fin 4608 := ⟨t.val / 4 * 1536 + u.val, by have := t_lt t; omega⟩

/-- What the `i`-th of a column block's four points adds. -/
def part (k : Fin 1024) (j : Fin 4608) (i : Fin 4) : EReal := ∑ p : Fin 2048, term m c k j ⟨i.val * 2048 + p.val, by omega⟩

theorem lhs_at (t : Fin cfg0.N) (p : Fin 2048) (k : Fin 1024) : iblk m c 0 t (ix2 p k) = lhs m c ⟨t.val % 4 * 2048 + p.val, by omega⟩ k := by
  blk_ext [iblk, V, idx t, lhs]

theorem rhs_at (t : Fin cfg0.N) (s : Fin 3) (p : Fin 2048) (q : Fin 512) : iblk m c 1 t (ix3 s p q)
    = rhs m c ⟨t.val / 4 * 3 + s.val, by have := t_lt t; omega⟩ ⟨t.val % 4 * 2048 + p.val, by omega⟩ q := by
  blk_ext [iblk, V, idx t, rhs]

theorem mul_at (t : Fin cfg0.N) (s : Fin 3) (b : FVec Ideal S1x2048x512 .bf16) (hb : ∀ p q, b (ix3 0 p q) = iblk m c 1 t (ix3 s p q)) (k : Fin 1024)
    (q : Fin 512) (u : Fin 1536) (hu : u.val = s.val * 512 + q.val) :
    mul (iblk m c 0 t) b k q = part m c k (col t u) ⟨t.val % 4, by omega⟩ := by
  have := t_lt t
  unfold mul part term
  refine Finset.sum_congr rfl fun p _ => congrArg₂ (fun a b : EReal => a * b) (lhs_at m c t p k) ?_
  refine (hb p q).trans ((rhs_at m c t s p q).trans ?_)
  refine congrArg₂ (fun (a : Fin 9) (b : Fin 512) => rhs m c a ⟨t.val % 4 * 2048 + p.val, by omega⟩ b) (Fin.ext ?_) (Fin.ext ?_)
  · show t.val / 4 * 3 + s.val = (t.val / 4 * 1536 + u.val) / 512; omega
  · show q.val = (t.val / 4 * 1536 + u.val) % 512; omega

theorem first (t : Fin cfg0.N) (h0 : t.val % 4 = 0) (k : Fin 1024) (u : Fin 1536) :
    outsAt0 m c t.val t.isLt (ix2 k u) = part m c k (col t u) ⟨t.val % 4, by omega⟩ := by
  have h1 : ¬1 ≤ t.val % 4 := by omega
  rw [outsAt0_A m c t h0 h1 h0 h1 h0 h1]; frame_out
  refine three _ _ _ (fun u => part m c k (col t u) ⟨t.val % 4, by omega⟩) k (fun q => ?_) (fun q => ?_) (fun q => ?_) u
  · exact (mul0 _ _ k q).trans (mul_at m c t 0 _ (fun p q => by pointwise []; try rfl) k q _ (by show q.val = 0 * 512 + q.val; omega))
  · exact (mul1 _ _ k q).trans (mul_at m c t 1 _ (fun p q => by pointwise []; try rfl) k q _ (by show 512 + q.val = 1 * 512 + q.val; omega))
  · exact (mul2 _ _ k q).trans (mul_at m c t 2 _ (fun p q => by pointwise []; try rfl) k q _ (by show 1024 + q.val = 2 * 512 + q.val; omega))

theorem next (t : Fin cfg0.N) (h0 : ¬t.val % 4 = 0) (k : Fin 1024) (u : Fin 1536) :
    outsAt0 m c t.val t.isLt (ix2 k u) = (outsAt0 m c (t.val - 1) (Nat.lt_of_le_of_lt (Nat.sub_le _ _) t.isLt) : FVec Ideal S1024x1536 .f32) (ix2 k u)
      + part m c k (col t u) ⟨t.val % 4, by omega⟩ := by
  have h1 : 1 ≤ t.val % 4 := by omega
  rw [outsAt0_B m c t h0 h1 h0 h1 h0 h1]; frame_out
  refine three _ _ _ (fun u => (outsAt0 m c (t.val - 1) (Nat.lt_of_le_of_lt (Nat.sub_le _ _) t.isLt) : FVec Ideal S1024x1536 .f32) (ix2 k u)
    + part m c k (col t u) ⟨t.val % 4, by omega⟩) k (fun q => ?_) (fun q => ?_) (fun q => ?_) u
  · refine (add0 _ _ _ k q).trans (congrArg₂ (fun a b : EReal => a + b) (by pointwise []; try rfl)
      (mul_at m c t 0 _ (fun p q => by pointwise []; try rfl) k q _ (by show q.val = 0 * 512 + q.val; omega)))
  · refine (add1 _ _ _ k q).trans (congrArg₂ (fun a b : EReal => a + b) (by pointwise []; try rfl)
      (mul_at m c t 1 _ (fun p q => by pointwise []; try rfl) k q _ (by show 512 + q.val = 1 * 512 + q.val; omega)))
  · refine (add2 _ _ _ k q).trans (congrArg₂ (fun a b : EReal => a + b) (by pointwise []; try rfl)
      (mul_at m c t 2 _ (fun p q => by pointwise []; try rfl) k q _ (by show 1024 + q.val = 2 * 512 + q.val; omega)))

theorem last (t : Fin cfg0.N) (h3 : t.val % 4 = 3) (k : Fin 1024) (u : Fin 1536) :
    outsAt0 m c t.val t.isLt (ix2 k u) = ∑ r : Fin 8192, term m c k (col t u) r := by
  have e : ∀ (n : ℕ) (i : Fin 4) (hn : n < cfg0.N), n / 4 = t.val / 4 → n % 4 = i.val →
      part m c k (col ⟨n, hn⟩ u) ⟨n % 4, by omega⟩ = part m c k (col t u) i := fun n i hn hd hm =>
    congrArg₂ (fun r s => part m c k r s) (Fin.ext (by show n / 4 * 1536 + u.val = t.val / 4 * 1536 + u.val; rw [hd])) (Fin.ext hm)
  have hl := t.isLt
  rw [Fin.sum_univ_tiles 4 2048 rfl, Fin.sum_univ_four]
  rw [next m c t (by omega) k u, next m c ⟨t.val - 1, by omega⟩ (by show ¬(t.val - 1) % 4 = 0; omega) k u,
    next m c ⟨t.val - 1 - 1, by omega⟩ (by show ¬(t.val - 1 - 1) % 4 = 0; omega) k u,
    first m c ⟨t.val - 1 - 1 - 1, by omega⟩ (by show (t.val - 1 - 1 - 1) % 4 = 0; omega) k u]
  exact congrArg₂ (· + ·) (congrArg₂ (· + ·) (congrArg₂ (· + ·) (e _ 0 _ (by omega) (by show _ = 0; omega)) (e _ 1 _ (by omega) (by show _ = 1; omega)))
    (e _ 2 _ (by omega) (by show _ = 2; omega))) (e _ 3 _ rfl h3)

theorem final (A : FVec Ideal S1024x4608 .f32) (h : ∀ k j, A (ix2 k j) = ∑ r : Fin 8192, term m c k j r) :
    (dats m 0 c).arrAt 2 (cfgs 0).N = A := by
  refine (dats m 0 c).arrAt_eq_of_covers 2 _ (by decide +kernel) fun t hf y => ?_
  blk_simp
  rw [after0_2]
  idx_vars y
  have he : ((View.whole main_v0).slice (win0_2.rect t)).emb (ix2 y0 y1) = ix2 y0 (col t y1) := by blk_ext [idx t, col]
  rw [he, h]
  exact last m c t ((flush0_2 t).mp hf) y0 y1

end Cert.Kernel10Ideal.Grad

end
-- ==== Proof.TnRef.lean ====
/- The gradient at the projections' weights as the reference takes it. -/
module

public import proofs.«01_k».proof.Proof.Gen.Reference10Ideal.Read
public import Idealize.ShloMosaic.Lib.Pointwise

@[expose] public section

set_option maxRecDepth 16384
set_option maxHeartbeats 1000000

noncomputable section

open Idealize.ShloMosaic Idealize.ShloMosaic.TcCoe

namespace Cert.Reference10Ideal.Grad

open Cert.Reference10Ideal Cert.Reference10Ideal.Gen Cert.Reference10Ideal.Read

/-- The flattened gradient's columns, from the part each lies in. -/
theorem flat_at (x1 : FVec Ideal S9x8192x512 .bf16) (r : Fin 8192) (j : Fin 4608) :
    val_main_v2 (F := Ideal) x1 (ix2 r j) = x1 (ix3 ⟨j.val / 512, by omega⟩ r ⟨j.val % 512, by omega⟩) := by
  rw [val_main_v2_apply, val_main_v1_apply]
  refine congrArg x1 (funext fun a => ?_)
  match a with
  | ⟨0, _⟩ => exact Fin.ext (by show (r.val * 4608 + j.val) / 512 % 9 = j.val / 512; omega)
  | ⟨1, _⟩ => exact Fin.ext (by show (r.val * 4608 + j.val) / 4608 = r.val; omega)
  | ⟨2, _⟩ => exact Fin.ext (by show (r.val * 4608 + j.val) % 512 = j.val % 512; omega)

theorem at_ (x0 : FVec Ideal S8192x1024 .bf16) (x1 : FVec Ideal S9x8192x512 .bf16) (k : Fin 1024) (j : Fin 4608) :
    val_main_v3 (F := Ideal) x0 x1 (ix2 k j)
      = ∑ r : Fin 8192, (x0 (ix2 r k) : EReal) * x1 (ix3 ⟨j.val / 512, by omega⟩ r ⟨j.val % 512, by omega⟩) := by
  pointwise [val_main_v3, val_main_v0, flat_at]

end Cert.Reference10Ideal.Grad

end
-- ==== Proof.TnPair.lean ====
/- The gradient at the projections' weights: kernel and reference agree. -/
module

public import proofs.«01_k».proof.Defs
public import proofs.«01_k».proof.Proof.Gen.Kernel10Ideal.Frame
public import proofs.«01_k».proof.Proof.Gen.Reference10Ideal.Run
public import proofs.«01_k».proof.Proof.Gen.Reference10Ideal.Read
public import proofs.«01_k».proof.Proof.TnKernel
public import proofs.«01_k».proof.Proof.TnRef
public import Idealize.ShloMosaic.Lib.Claim
public import Idealize.ShloMosaic.Adequacy
public import Idealize.ShloMosaic.Init

@[expose] public section

set_option maxRecDepth 16384
set_option maxHeartbeats 4000000

noncomputable section

namespace Cert.Proof

open Idealize.ShloMosaic Idealize.SL.Sem Cert.Kernel

/-- The gradient at the projections' weights: its reference runs, leaves its arguments alone, and has no semaphore. -/
theorem weights_reference : Cert.quiescent_Reference10Ideal (hReference10Ideal := Cert.Reference10Ideal.Gen.facts) := fun m ρ _ =>
  (θ_run Cert.Reference10Ideal.defs _ _).mono (fun r h => And.intro (fun c => (h c).2) (sem_eq_zero_of_no_sems (by decide) r.2))
    (Cert.Reference10Ideal.Value.run (F := Ideal) m ρ)

/-- The four row blocks' products, added in turn, are the product with the flattened array. -/
theorem weights : Cert.algebraic_Kernel10Ideal_Reference10Ideal (hKernel10Ideal := Cert.Kernel10Ideal.Gen.facts)
    (hReference10Ideal := Cert.Reference10Ideal.Gen.facts) := by
  pair_intro
  · run_from Cert.Kernel10Ideal.Gen.run_main m g
  · run_from Cert.Reference10Ideal.Value.run m' g'
    exact (Cert.Kernel10Ideal.Grad.final m c (Cert.Reference10Ideal.Read.val_main_v3 (F := Ideal) (m ((c.tc : Thread Cert.Kernel10Ideal.nD Cert.Kernel10Ideal.τ).loc Cert.Kernel10Ideal.main_arg0))
      (m ((c.tc : Thread Cert.Kernel10Ideal.nD Cert.Kernel10Ideal.τ).loc Cert.Kernel10Ideal.main_arg1))) fun r j => Cert.Reference10Ideal.Grad.at_ _ _ r j).symm

end Cert.Proof

end
-- ==== Proof.AdamRow.lean ====
/- One optimiser step of one entry. -/
module

public import Idealize.ShloMosaic.Lib.Pointwise

@[expose] public section

noncomputable section

open Idealize.ShloMosaic

namespace Cert.Adam

/-- The gradient, from the devices' parts. -/
def total (p : Fin 8 → EReal) : EReal := ∑ d : Fin 8, p d

/-- The first moment's and the second moment's running means. -/
def first (g m : EReal) : EReal := Ideal.ofBits .f32 0x3F666666#32 * m + Ideal.ofBits .f32 0x3DCCCCCD#32 * g
def second (g v : EReal) : EReal := Ideal.ofBits .f32 0x3F7FBE77#32 * v + Ideal.ofBits .f32 0x3A83126F#32 * (g * g)

/-- What the step adds to the weight, from the new means. -/
def step (m v w : EReal) : EReal :=
  Ideal.ofBits .f32 0xBA83126F#32 * (Ideal.div (Ideal.div m (Ideal.ofBits .f32 0x3F26BD02#32))
      (Ideal.sqrt (Ideal.div v (Ideal.ofBits .f32 0x3C231ACC#32)) + Ideal.ofBits .f32 0x322BCC77#32) + Ideal.ofBits .f32 0x3C23D70A#32 * w)

end Cert.Adam

end
-- ==== Proof.AdamKernel.lean ====
/- What the optimiser leaves in its four result arrays. -/
module

public import proofs.«01_k».proof.Proof.Gen.Kernel11Ideal.Frame
public import proofs.«01_k».proof.Proof.AdamRow
public import Idealize.ShloMosaic.Lib.Pipeline.ValueKit
public import Idealize.ShloMosaic.Lib.Pointwise

@[expose] public section

set_option maxRecDepth 16384
set_option maxHeartbeats 1000000

noncomputable section

open Idealize.ShloMosaic Idealize.ShloMosaic.TcCoe

namespace Cert.Kernel11Ideal.Adam

open Cert.Kernel11Ideal Cert.Kernel11Ideal.Gen Cert.Adam

variable (x0 : FVec Ideal S8x64x128 .f32) (x1 x2 x3 : FVec Ideal S64x128 .f32) (p : Fin 64) (j : Fin 128)

/-- The body's gradient adds the eight parts in turn. -/
theorem total_at : k0_pay5 (F := Ideal) x0 x1 x2 x3 (ix2 p j) = total (fun d => x0 (ix3 d p j)) := by
  unfold total
  rw [Fin.sum_univ_eight]
  pointwise [k0_pay5, k0_pay3]
  try rfl

theorem first_at : k0_pay6 (F := Ideal) x0 x1 x2 x3 (ix2 p j) = first (total fun d => x0 (ix3 d p j)) (x2 (ix2 p j)) := by
  have h := total_at x0 x1 x2 x3 p j
  unfold k0_pay5 at h
  unfold k0_pay6
  pointwise [k0_pay4, h]
  try rfl

theorem second_at (g v : FVec Ideal S64x128 .f32) : k0_pay1 (F := Ideal) g v (ix2 p j) = second (g (ix2 p j)) (v (ix2 p j)) := by
  pointwise [k0_pay1]
  try rfl

theorem step_at (g n v w : FVec Ideal S64x128 .f32) :
    k0_pay2 (F := Ideal) g n v w (ix2 p j) = step (n (ix2 p j)) (second (g (ix2 p j)) (v (ix2 p j))) (w (ix2 p j)) := by
  pointwise [k0_pay2, second_at]
  try rfl

theorem whole (x : Vec Ideal S64x128 .f32) : View.ld x r0_8 (ix2 p j) = x (ix2 p j) := by
  pointwise []
  try rfl

theorem step_out : out0_5 (F := Ideal) x0 x1 x2 x3 (ix2 p j)
    = step (first (total fun d => x0 (ix3 d p j)) (x2 (ix2 p j))) (second (total fun d => x0 (ix3 d p j)) (x3 (ix2 p j))) (x1 (ix2 p j)) := by
  unfold out0_5
  generalize hg : k0_pay5 (F := Ideal) x0 x1 x2 x3 = g
  generalize hn : k0_pay6 (F := Ideal) x0 x1 x2 x3 = n
  generalize hv : View.ld (show Vec Ideal S64x128 .f32 from x3) r0_8 = v
  generalize hw : View.ld (show Vec Ideal S64x128 .f32 from x1) r0_8 = w
  frame_out
  rw [step_at, ← hg, ← hn, ← hv, ← hw, total_at, first_at, whole, whole]

variable (m : (ℓ : Loc nD τ sig) → Buf (Elt Ideal) ℓ) (c : Dev nD)

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

theorem t_eq (t : Fin cfg0.N) : t.val = 0 := by have : t.val < 1 := t.isLt; omega

/-- The launch's arguments at an entry: the parts, the weight, and the two means. -/
abbrev parts (d : Fin 8) : EReal := (m ((c : Thread nD τ).loc main_arg0) : FVec Ideal S8x64x128 .f32) (ix3 d p j)
abbrev weight : EReal := (m ((c : Thread nD τ).loc main_arg1) : FVec Ideal S64x128 .f32) (ix2 p j)
abbrev mean : EReal := (m ((c : Thread nD τ).loc main_arg2) : FVec Ideal S64x128 .f32) (ix2 p j)
abbrev square : EReal := (m ((c : Thread nD τ).loc main_arg3) : FVec Ideal S64x128 .f32) (ix2 p j)

theorem parts_at (t : Fin cfg0.N) (d : Fin 8) : iblk m c 0 t (ix3 d p j) = parts p j m c d := by blk_ext [iblk, V, idx t, t_eq t, parts]
theorem weight_at (t : Fin cfg0.N) : iblk m c 1 t (ix2 p j) = weight p j m c := by blk_ext [iblk, V, idx t, t_eq t, weight]
theorem mean_at (t : Fin cfg0.N) : iblk m c 2 t (ix2 p j) = mean p j m c := by blk_ext [iblk, V, idx t, t_eq t, mean]
theorem square_at (t : Fin cfg0.N) : iblk m c 3 t (ix2 p j) = square p j m c := by blk_ext [iblk, V, idx t, t_eq t, square]

/-- The gradient of an entry. -/
abbrev grad : EReal := total (parts p j m c)

theorem grad_at (t : Fin cfg0.N) :
    k0_pay5 (F := Ideal) (iblk m c 0 t) (iblk m c 1 t) (iblk m c 2 t) (iblk m c 3 t) (ix2 p j) = grad p j m c :=
  (total_at _ _ _ _ p j).trans (congrArg total (funext fun d => parts_at p j m c t d))

theorem moment_at (t : Fin cfg0.N) :
    k0_pay6 (F := Ideal) (iblk m c 0 t) (iblk m c 1 t) (iblk m c 2 t) (iblk m c 3 t) (ix2 p j) = first (grad p j m c) (mean p j m c) :=
  (first_at _ _ _ _ p j).trans (congrArg₂ (fun a b => first (total a) b) (funext fun d => parts_at p j m c t d) (mean_at p j m c t))

theorem final4 (A : FVec Ideal S64x128 .f32) (h : ∀ p j, A (ix2 p j) = grad p j m c) : (dats m 0 c).arrAt 4 (cfgs 0).N = A := by
  refine (dats m 0 c).arrAt_eq_of_covers 4 _ (by decide +kernel) fun t _ y => ?_
  blk_simp
  rw [after0_4]; unfold out0_4; frame_out
  idx_vars y
  have he : ((View.whole main_v0_0).slice (win0_4.rect t)).emb (ix2 y0 y1) = ix2 y0 y1 := by blk_ext [idx t, t_eq t]
  rw [he, h]
  exact grad_at y0 y1 m c t

theorem final5 (A : FVec Ideal S64x128 .f32)
    (h : ∀ p j, A (ix2 p j) = step (first (grad p j m c) (mean p j m c)) (second (grad p j m c) (square p j m c)) (weight p j m c)) :
    (dats m 0 c).arrAt 5 (cfgs 0).N = A := by
  refine (dats m 0 c).arrAt_eq_of_covers 5 _ (by decide +kernel) fun t _ y => ?_
  blk_simp
  rw [after0_5]
  idx_vars y
  have he : ((View.whole main_v0_1).slice (win0_5.rect t)).emb (ix2 y0 y1) = ix2 y0 y1 := by blk_ext [idx t, t_eq t]
  rw [he, h, step_out _ _ _ _ y0 y1]
  have hp : (fun d : Fin 8 => iblk m c 0 t (ix3 d y0 y1)) = parts y0 y1 m c := funext fun d => parts_at y0 y1 m c t d
  rw [weight_at y0 y1 m c t, mean_at y0 y1 m c t, square_at y0 y1 m c t]
  exact congrArg (fun q => step (first (total q) _) (second (total q) _) _) hp

theorem final6 (A : FVec Ideal S64x128 .f32) (h : ∀ p j, A (ix2 p j) = first (grad p j m c) (mean p j m c)) :
    (dats m 0 c).arrAt 6 (cfgs 0).N = A := by
  refine (dats m 0 c).arrAt_eq_of_covers 6 _ (by decide +kernel) fun t _ y => ?_
  blk_simp
  rw [after0_6]; unfold out0_6; frame_out
  idx_vars y
  have he : ((View.whole main_v0_2).slice (win0_6.rect t)).emb (ix2 y0 y1) = ix2 y0 y1 := by blk_ext [idx t, t_eq t]
  rw [he, h]
  exact moment_at y0 y1 m c t

theorem final7 (A : FVec Ideal S64x128 .f32) (h : ∀ p j, A (ix2 p j) = second (grad p j m c) (square p j m c)) :
    (dats m 0 c).arrAt 7 (cfgs 0).N = A := by
  refine (dats m 0 c).arrAt_eq_of_covers 7 _ (by decide +kernel) fun t _ y => ?_
  blk_simp
  rw [after0_7]; unfold out0_7; frame_out
  idx_vars y
  have he : ((View.whole main_v0_3).slice (win0_7.rect t)).emb (ix2 y0 y1) = ix2 y0 y1 := by blk_ext [idx t, t_eq t]
  rw [he, h]
  refine (second_at y0 y1 _ _).trans ?_
  rw [grad_at y0 y1 m c t]
  exact congrArg (second _) (square_at y0 y1 m c t)

end Cert.Kernel11Ideal.Adam

end
-- ==== Proof.AdamRef.lean ====
/- What the reference computes of one optimiser step, entry by entry. -/
module

public import proofs.«01_k».proof.Proof.Gen.Reference11Ideal.Read
public import proofs.«01_k».proof.Proof.AdamRow

@[expose] public section

set_option maxRecDepth 16384

noncomputable section

open Idealize.ShloMosaic

namespace Cert.Reference11Ideal.Adam

open Cert.Reference11Ideal Cert.Reference11Ideal.Gen Cert.Reference11Ideal.Read Cert.Adam

variable (x0 : FVec Ideal S8x64x128 .f32) (x1 x2 x3 : FVec Ideal S64x128 .f32) (p : Fin 64) (j : Fin 128)

theorem total_at : val_main_v0 (F := Ideal) x0 (ix2 p j) = total (fun d => x0 (ix3 d p j)) := by
  pointwise [val_main_v0, val_main_cst]
  try rfl

theorem first_at : val_main_v5 (F := Ideal) x0 x2 (ix2 p j) = first (total fun d => x0 (ix3 d p j)) (x2 (ix2 p j)) := by
  pointwise [val_main_v5, val_main_v4, val_main_v3, val_main_v2, val_main_v1, val_main_cst_0, val_main_cst_1, total_at]
  try rfl

theorem second_at : val_main_v11 (F := Ideal) x0 x3 (ix2 p j) = second (total fun d => x0 (ix3 d p j)) (x3 (ix2 p j)) := by
  pointwise [val_main_v11, val_main_v10, val_main_v9, val_main_v8, val_main_v7, val_main_v6, val_main_cst_2, val_main_cst_3, total_at]
  try rfl

theorem step_at : val_main_v24 (F := Ideal) x0 x1 x2 x3 (ix2 p j)
    = step (first (total fun d => x0 (ix3 d p j)) (x2 (ix2 p j))) (second (total fun d => x0 (ix3 d p j)) (x3 (ix2 p j))) (x1 (ix2 p j)) := by
  pointwise [val_main_v24, val_main_v23, val_main_v22, val_main_v21, val_main_v20, val_main_v19, val_main_v18, val_main_v17, val_main_v16,
    val_main_v15, val_main_v14, val_main_v13, val_main_v12, val_main_cst_4, val_main_cst_5, val_main_cst_6, val_main_cst_7, val_main_cst_8,
    first_at, second_at]
  try rfl

end Cert.Reference11Ideal.Adam

end
-- ==== Proof.AdamPair.lean ====
/- The optimiser's step: kernel and reference agree on all four results. -/
module

public import proofs.«01_k».proof.Defs
public import proofs.«01_k».proof.Proof.Gen.Kernel11Ideal.Frame
public import proofs.«01_k».proof.Proof.Gen.Reference11Ideal.Run
public import proofs.«01_k».proof.Proof.Gen.Reference11Ideal.Read
public import proofs.«01_k».proof.Proof.AdamKernel
public import proofs.«01_k».proof.Proof.AdamRef
public import Idealize.ShloMosaic.Lib.Claim
public import Idealize.ShloMosaic.Adequacy
public import Idealize.ShloMosaic.Init

@[expose] public section

set_option maxRecDepth 16384
set_option maxHeartbeats 4000000

noncomputable section

namespace Cert.Proof

open Idealize.ShloMosaic Idealize.SL.Sem Cert.Kernel

/-- The optimiser's reference runs, leaves its arguments alone, and has no semaphore. -/
theorem adam_reference : Cert.quiescent_Reference11Ideal (hReference11Ideal := Cert.Reference11Ideal.Gen.facts) := fun m ρ _ =>
  (θ_run Cert.Reference11Ideal.defs _ _).mono (fun r h => And.intro (fun c => (h c).2.2.2.2) (sem_eq_zero_of_no_sems (by decide) r.2))
    (Cert.Reference11Ideal.Value.run (F := Ideal) m ρ)

/-- The optimiser: gradient, change of the weight, and both running means are the reference's. -/
theorem adam : Cert.algebraic_Kernel11Ideal_Reference11Ideal (hKernel11Ideal := Cert.Kernel11Ideal.Gen.facts)
    (hReference11Ideal := Cert.Reference11Ideal.Gen.facts) := by
  intro m g m' g' _ hagree
  refine ⟨fun c => (Cert.Kernel11Ideal.Gen.dats m 0 c).arrAt 4 (Cert.Kernel11Ideal.cfgs 0).N,
    fun c => (Cert.Kernel11Ideal.Gen.dats m 0 c).arrAt 5 (Cert.Kernel11Ideal.cfgs 0).N,
    fun c => (Cert.Kernel11Ideal.Gen.dats m 0 c).arrAt 6 (Cert.Kernel11Ideal.cfgs 0).N,
    fun c => (Cert.Kernel11Ideal.Gen.dats m 0 c).arrAt 7 (Cert.Kernel11Ideal.cfgs 0).N, ?_, ?_⟩
  · refine θ_run_mono (θ_run_and (Cert.Kernel11Ideal.Gen.run_main m g) (Cert.Kernel11Ideal.Gen.frame m g)) fun r h c => ?_
    exact ⟨(h.1 c).1 4, (h.1 c).1 5, (h.1 c).1 6, (h.1 c).1 7, h.2.1 c⟩
  · refine (θ_run Cert.Reference11Ideal.defs _ _).mono (fun r h c => ?_) (Cert.Reference11Ideal.Value.run (F := Ideal) m' g')
    obtain ⟨h0, h1, h2, h3, hr⟩ := h c
    obtain ⟨a0, a1, a2, a3⟩ := hagree c
    refine ⟨h0.trans ?_, h1.trans ?_, h2.trans ?_, h3.trans ?_, hr⟩
    · rw [Cert.Reference11Ideal.Read.val_main_v0_eq, a0]
      exact (Cert.Kernel11Ideal.Adam.final4 m c _ fun p j => Cert.Reference11Ideal.Adam.total_at _ p j).symm
    · rw [Cert.Reference11Ideal.Read.val_main_v24_eq, a0, a1, a2, a3]
      exact (Cert.Kernel11Ideal.Adam.final5 m c _ fun p j => Cert.Reference11Ideal.Adam.step_at _ _ _ _ p j).symm
    · rw [Cert.Reference11Ideal.Read.val_main_v5_eq, a0, a2]
      exact (Cert.Kernel11Ideal.Adam.final6 m c _ fun p j => Cert.Reference11Ideal.Adam.first_at _ _ p j).symm
    · rw [Cert.Reference11Ideal.Read.val_main_v11_eq, a0, a3]
      exact (Cert.Kernel11Ideal.Adam.final7 m c _ fun p j => Cert.Reference11Ideal.Adam.second_at _ _ p j).symm

end Cert.Proof

end
-- ==== Proof.DhRow.lean ====
/- One row of the gradient at the block's input and at its first norm, as functions of the row and of the weights. -/
module

public import proofs.«01_k».proof.Proof.HeadReal

@[expose] public section

noncomputable section

open Idealize.ShloMosaic

namespace Cert.Dh

open Cert.Reals

/-- What one token brings: the gradients at four of the input projection's parts, the gradient carried at the norm's output, the norm's input
and the gradient passed beside the norm. -/
structure Row where
  za : Fin 512 → EReal
  pr : Fin 1664 → EReal
  zr : Fin 512 → EReal
  gm : Fin 2048 → EReal
  h : Fin 1024 → EReal
  x : Fin 1024 → EReal
  o : Fin 1024 → EReal

/-- The four parts of the projection's weight, and the norm's gain. -/
structure Wts where
  za : Fin 1024 → Fin 512 → EReal
  pr : Fin 1024 → Fin 1664 → EReal
  zr : Fin 1024 → Fin 512 → EReal
  gm : Fin 1024 → Fin 2048 → EReal
  g : Fin 1024 → EReal

/-- The rows of the arguments. -/
def rows (x0 : FVec Ideal ⟨2, ![8192, 512]⟩ .bf16) (x1 : FVec Ideal ⟨2, ![8192, 1664]⟩ .bf16) (x2 : FVec Ideal ⟨2, ![8192, 512]⟩ .bf16)
    (x3 : FVec Ideal ⟨2, ![8192, 2048]⟩ .bf16) (x5 x6 x8 : FVec Ideal ⟨2, ![8192, 1024]⟩ .f32) (i : Fin 8192) : Row where
  za k := x0 (ix2 i k)
  pr k := x1 (ix2 i k)
  zr k := x2 (ix2 i k)
  gm k := x3 (ix2 i k)
  h j := x5 (ix2 i j)
  x j := x6 (ix2 i j)
  o j := x8 (ix2 i j)

/-- The weights of the arguments: column ranges of the input projection. -/
def wts (x4 : FVec Ideal ⟨2, ![1024, 9344]⟩ .bf16) (x7 : FVec Ideal ⟨2, ![1, 1024]⟩ .f32) : Wts where
  za j k := x4 (ix2 j ⟨4608 + k.val, by omega⟩)
  pr j k := x4 (ix2 j ⟨5120 + k.val, by omega⟩)
  zr j k := x4 (ix2 j ⟨6784 + k.val, by omega⟩)
  gm j k := x4 (ix2 j ⟨7296 + k.val, by omega⟩)
  g j := x7 (ix2 0 j)

variable (P : Wts) (r : Row)

/-- The gradient at the norm's output. -/
def dh (j : Fin 1024) : EReal :=
  r.h j + (∑ k : Fin 512, r.za k * P.za j k) + (∑ k : Fin 1664, r.pr k * P.pr j k) + (∑ k : Fin 512, r.zr k * P.zr j k)
    + ∑ k : Fin 2048, r.gm k * P.gm j k
def ms : EReal := Ideal.div (∑ j : Fin 1024, r.x j * r.x j) (Ideal.ofBits .f32 0x44800000#32) + Ideal.ofBits .f32 0x358637BD#32
def rs : EReal := Ideal.rsqrt (ms r)
def gd (j : Fin 1024) : EReal := dh P r j * P.g j
/-- The gradient at the block's input. -/
def gx (j : Fin 1024) : EReal :=
  r.o j + rs r * (gd P r j - r.x j * (rs r * rs r) * Ideal.div (∑ k : Fin 1024, gd P r k * r.x k) (Ideal.ofBits .f32 0x44800000#32))

/-- The numbers the closed form needs to be real. -/
structure Row.Real (r : Row) : Prop where
  za : ∀ k, IsReal (r.za k)
  pr : ∀ k, IsReal (r.pr k)
  zr : ∀ k, IsReal (r.zr k)
  gm : ∀ k, IsReal (r.gm k)
  h : ∀ j, IsReal (r.h j)
  x : ∀ j, IsReal (r.x j)

structure Wts.Real (P : Wts) : Prop where
  za : ∀ j k, IsReal (P.za j k)
  pr : ∀ j k, IsReal (P.pr j k)
  zr : ∀ j k, IsReal (P.zr j k)
  gm : ∀ j k, IsReal (P.gm j k)
  g : ∀ j, IsReal (P.g j)

variable {P : Wts} {r : Row} (hP : P.Real) (hr : r.Real)

include hr in
/-- The mean square is positive, and the factor its reciprocal root. -/
theorem ms_rs : ∃ q : ℝ, 0 < q ∧ ms r = (q : EReal) ∧ rs r = (((√q)⁻¹ : ℝ) : EReal) := by
  choose f hf using hr.x
  obtain ⟨e, he, hw⟩ := word_eps
  have hq : ms r = (((∑ j, f j * f j) / 1024 + e : ℝ) : EReal) := by
    unfold ms
    rw [hw, word_1024, Finset.sum_congr rfl fun j _ => show r.x j * r.x j = ((f j * f j : ℝ) : EReal) by rw [hf, EReal.coe_mul],
      ← coe_sum, div_1024, EReal.coe_add]
  have h0 : 0 < (∑ j, f j * f j) / 1024 + e :=
    add_pos_of_nonneg_of_pos (div_nonneg (Finset.sum_nonneg fun j _ => mul_self_nonneg _) (by norm_num)) he
  refine ⟨_, h0, hq, ?_⟩
  unfold rs
  rw [hq, Ideal.rsqrt_coe, if_neg (not_lt.2 h0.le), if_neg h0.ne']

include hP hr

theorem isReal_gd (j : Fin 1024) : IsReal (gd P r j) :=
  .mul (.add (.add (.add (.add (hr.h j) (.sum _ fun k => (hr.za k).mul (hP.za j k))) (.sum _ fun k => (hr.pr k).mul (hP.pr j k)))
    (.sum _ fun k => (hr.zr k).mul (hP.zr j k))) (.sum _ fun k => (hr.gm k).mul (hP.gm j k))) (hP.g j)

/-- The norm's gradient, taken operation by operation from the reciprocal root and the mean square, is the one written in closed form. -/
theorem gx_steps (j : Fin 1024) :
    r.o j + gd P r j * rs r
        + r.x j * Ideal.div ((∑ k, r.x k * gd P r k) * (Ideal.ofBits .f32 0xBF000000#32 * Ideal.div (rs r) (ms r))) (Ideal.ofBits .f32 0x44800000#32)
      + Ideal.div ((∑ k, r.x k * gd P r k) * (Ideal.ofBits .f32 0xBF000000#32 * Ideal.div (rs r) (ms r))) (Ideal.ofBits .f32 0x44800000#32) * r.x j
    = gx P r j := by
  choose f hf using hr.x
  choose d hd using isReal_gd hP hr
  obtain ⟨q, h0, hm, hs⟩ := ms_rs hr
  unfold gx
  have h1 : ∑ k, r.x k * gd P r k = ((∑ k, f k * d k : ℝ) : EReal) := by
    rw [coe_sum]; exact Finset.sum_congr rfl fun k _ => by rw [hf, hd, EReal.coe_mul]
  have h2 : ∑ k, gd P r k * r.x k = ((∑ k, f k * d k : ℝ) : EReal) := by
    rw [coe_sum]; exact Finset.sum_congr rfl fun k _ => by rw [hf, hd, ← EReal.coe_mul, mul_comm]
  rw [add_assoc, add_assoc]
  refine congrArg _ ?_
  rw [h1, h2, hm, hs, hf, hd, word_1024, word_neg_half, Ideal.div_coe h0.ne']
  simp only [← EReal.coe_mul, div_1024, ← EReal.coe_add, ← EReal.coe_sub]
  congr 1
  have hq : (√q)⁻¹ * (√q)⁻¹ = 1 / q := by rw [← mul_inv, Real.mul_self_sqrt h0.le, one_div]
  rw [hq]
  ring

end Cert.Dh

end
-- ==== Proof.DhRef.lean ====
/- What the reference computes of the first norm's gradient, row by row. -/
module

public import proofs.«01_k».proof.Proof.Gen.Reference3Ideal.Read
public import proofs.«01_k».proof.Proof.DhRow

@[expose] public section

set_option maxRecDepth 16384

noncomputable section

open Idealize.ShloMosaic

namespace Cert.Reference3Ideal.Dh

open Cert.Reference3Ideal Cert.Reference3Ideal.Gen Cert.Reference3Ideal.Read Cert.Dh Cert.Reals

variable (x0 : FVec Ideal S8192x512 .bf16) (x1 : FVec Ideal S8192x1664 .bf16) (x2 : FVec Ideal S8192x512 .bf16) (x3 : FVec Ideal S8192x2048 .bf16)
  (x4 : FVec Ideal S1024x9344 .bf16) (x5 x6 : FVec Ideal S8192x1024 .f32) (x7 : FVec Ideal S1x1024 .f32) (x8 : FVec Ideal S8192x1024 .f32)

/-- The four products are added in the other order. -/
theorem other_order (a b c d e : EReal) : a + e + d + c + b = a + b + c + d + e := by ac_rfl

theorem dh_at (p : Fin 8192) (j : Fin 1024) : val_main_v38 (F := Ideal) x0 x1 x2 x3 x4 x5 (ix2 p j)
    = dh (wts x4 x7) (rows x0 x1 x2 x3 x5 x6 x8 p) j := by
  pointwise [val_main_v38, val_main_v37, val_main_v36, val_main_v35, val_main_v34, val_main_v33, val_main_v32, val_main_v31, val_main_v30,
    val_main_v29, val_main_v28, val_main_v27, val_main_v7, val_main_v6, val_main_v5, val_main_v4, val_main_v3, val_main_v2, val_main_v1, val_main_v0]
  exact other_order _ _ _ _ _

theorem ms_at (p : Fin 8192) : val_main_v14 (F := Ideal) x6 (ix2 p 0) = ms (rows x0 x1 x2 x3 x5 x6 x8 p) := by
  pointwise [val_main_v14, val_main_v13, val_main_v12, val_main_v11, val_main_v10, val_main_v9, val_main_v8, val_main_cst, val_main_cst_0, val_main_cst_1]
  rfl

theorem rs_at (p : Fin 8192) : val_main_v15 (F := Ideal) x6 (ix2 p 0) = rs (rows x0 x1 x2 x3 x5 x6 x8 p) := by
  pointwise [val_main_v15, ms_at x0 x1 x2 x3 x5 x6 x8]
  rfl

theorem gd_at (p : Fin 8192) (j : Fin 1024) : val_main_v43 (F := Ideal) x0 x1 x2 x3 x4 x5 x7 (ix2 p j)
    = gd (wts x4 x7) (rows x0 x1 x2 x3 x5 x6 x8 p) j := by
  pointwise [val_main_v43, val_main_v42, dh_at x0 x1 x2 x3 x4 x5 x6 x7 x8]
  rfl

/-- The gain's gradient. -/
theorem dg_at (j : Fin 1024) : val_main_v41 (F := Ideal) x0 x1 x2 x3 x4 x5 x6 (ix2 0 j)
    = ∑ p : Fin 8192, dh (wts x4 x7) (rows x0 x1 x2 x3 x5 x6 x8 p) j * (rows x0 x1 x2 x3 x5 x6 x8 p).x j * rs (rows x0 x1 x2 x3 x5 x6 x8 p) := by
  pointwise [val_main_v41, val_main_v40, val_main_v39, val_main_v20, val_main_v19, val_main_cst_3, dh_at x0 x1 x2 x3 x4 x5 x6 x7 x8,
    rs_at x0 x1 x2 x3 x5 x6 x8]
  exact Finset.sum_congr rfl fun p _ => by rw [mul_comm, mul_assoc]; rfl

/-- The gradient at the block's input. -/
theorem gx_at (p : Fin 8192) (hP : (wts x4 x7).Real) (hR : (rows x0 x1 x2 x3 x5 x6 x8 p).Real) (j : Fin 1024) :
    val_main_v58 (F := Ideal) x0 x1 x2 x3 x4 x5 x6 x7 x8 (ix2 p j) = gx (wts x4 x7) (rows x0 x1 x2 x3 x5 x6 x8 p) j := by
  pointwise [val_main_v58, val_main_v57, val_main_v56, val_main_v55, val_main_v54, val_main_v53, val_main_v52, val_main_v51, val_main_v50,
    val_main_v49, val_main_v48, val_main_v47, val_main_v46, val_main_v45, val_main_v44, val_main_v18, val_main_v17, val_main_v16, val_main_cst_2,
    val_main_cst_4, val_main_cst_5, val_main_cst_6, gd_at x0 x1 x2 x3 x4 x5 x6 x7 x8, rs_at x0 x1 x2 x3 x5 x6 x8, ms_at x0 x1 x2 x3 x5 x6 x8]
  simp only [Fin.sum_univ_one, Fin.isValue, rs_at x0 x1 x2 x3 x5 x6 x8, ms_at x0 x1 x2 x3 x5 x6 x8]
  exact gx_steps hP hR j

end Cert.Reference3Ideal.Dh

end
-- ==== Proof.DhPre.lean ====
/- What the precondition of the first norm's gradient says: its arguments are arrays of real numbers. -/
module

public import proofs.«01_k».proof.Proof.HeadPre
public import proofs.«01_k».proof.Proof.DhRow
public import proofs.«01_k».proof.Proof.Gen.Pre_finite_dh

@[expose] public section

noncomputable section

open Idealize.ShloMosaic Idealize.ShloMosaic.TcCoe

namespace Cert.Pre_finite_dh

open Cert.Reals Cert.Dh

variable (x0 : FVec Ideal S8192x512 .bf16) (x1 : FVec Ideal S8192x1664 .bf16) (x2 : FVec Ideal S8192x512 .bf16) (x3 : FVec Ideal S8192x2048 .bf16)
  (x4 : FVec Ideal S1024x9344 .bf16) (x5 x6 : FVec Ideal S8192x1024 .f32) (x7 : FVec Ideal S1x1024 .f32) (x8 : FVec Ideal S8192x1024 .f32)

theorem reals (h : fn (F := Ideal) x0 x1 x2 x3 x4 x5 x6 x7 x8 = fun _ => 1#1) :
    (wts x4 x7).Real ∧ ∀ p, (rows x0 x1 x2 x3 x5 x6 x8 p).Real := by
  have h0 := congrFun h ix0
  unfold fn fn_part1 fn_part2 at h0
  obtain ⟨h0, e7⟩ := IntOp.andi_eq_one.mp h0
  obtain ⟨h0, e6⟩ := IntOp.andi_eq_one.mp h0
  obtain ⟨h0, e5⟩ := IntOp.andi_eq_one.mp h0
  obtain ⟨h0, e4⟩ := IntOp.andi_eq_one.mp h0
  obtain ⟨h0, e3⟩ := IntOp.andi_eq_one.mp h0
  obtain ⟨h0, e2⟩ := IntOp.andi_eq_one.mp h0
  obtain ⟨e0, e1⟩ := IntOp.andi_eq_one.mp h0
  have w (j : Fin 1024) (k : Fin 9344) : IsReal (x4 (ix2 j k)) := real_of_all _ _ (fun _ => rfl) _ _ _ _ e4 (ix2 j k)
  refine ⟨⟨fun j k => w j _, fun j k => w j _, fun j k => w j _, fun j k => w j _, fun j => ?_⟩,
    fun p => ⟨fun k => ?_, fun k => ?_, fun k => ?_, fun k => ?_, fun j => ?_, fun j => ?_⟩⟩
  · exact real_of_all _ _ (fun _ => rfl) _ _ _ _ e7 (ix2 0 j)
  · exact real_of_all _ _ (fun _ => rfl) _ _ _ _ e0 (ix2 p k)
  · exact real_of_all _ _ (fun _ => rfl) _ _ _ _ e1 (ix2 p k)
  · exact real_of_all _ _ (fun _ => rfl) _ _ _ _ e2 (ix2 p k)
  · exact real_of_all _ _ (fun _ => rfl) _ _ _ _ e3 (ix2 p k)
  · exact real_of_all _ _ (fun _ => rfl) _ _ _ _ e5 (ix2 p j)
  · exact real_of_all _ _ (fun _ => rfl) _ _ _ _ e6 (ix2 p j)

end Cert.Pre_finite_dh

end
-- ==== Proof.DhPay.lean ====
/- What the first norm's gradient computes of one block of rows, row by row. -/
module

public import proofs.«01_k».proof.Proof.Gen.Kernel3Ideal.Skeleton
public import proofs.«01_k».proof.Proof.DhRow
public import Idealize.ShloMosaic.Lib.Pointwise

@[expose] public section

set_option maxRecDepth 16384

noncomputable section

open Idealize.ShloMosaic Idealize.ShloMosaic.TcCoe Idealize.SL.Sem

namespace Cert.Kernel3Ideal.Dh

open Cert.Kernel3Ideal Cert.Kernel3Ideal.Gen Cert.Dh

variable (P : Wts) (R : Fin 512 → Row)
variable {v1 v11 : FVec Ideal S512x512 .bf16} {v6 : FVec Ideal S512x1664 .bf16} {v16 : FVec Ideal S512x2048 .bf16}
  {v2 v12 : FVec Ideal S1024x512 .bf16} {v7 : FVec Ideal S1024x1664 .bf16} {v17 : FVec Ideal S1024x2048 .bf16}
  {v0 x o : FVec Ideal S512x1024 .f32} {s : FVec Ideal S512x1 .f32} {g : FVec Ideal S1x1024 .f32}

/-- The blocks of a point hold these rows and weights. -/
structure Holds (v1 : FVec Ideal S512x512 .bf16) (v6 : FVec Ideal S512x1664 .bf16) (v11 : FVec Ideal S512x512 .bf16) (v16 : FVec Ideal S512x2048 .bf16)
    (v2 : FVec Ideal S1024x512 .bf16) (v7 : FVec Ideal S1024x1664 .bf16) (v12 : FVec Ideal S1024x512 .bf16) (v17 : FVec Ideal S1024x2048 .bf16)
    (v0 x : FVec Ideal S512x1024 .f32) (s : FVec Ideal S512x1 .f32) (g : FVec Ideal S1x1024 .f32) (o : FVec Ideal S512x1024 .f32) : Prop where
  za : ∀ p k, v1 (ix2 p k) = (R p).za k
  pr : ∀ p k, v6 (ix2 p k) = (R p).pr k
  zr : ∀ p k, v11 (ix2 p k) = (R p).zr k
  gm : ∀ p k, v16 (ix2 p k) = (R p).gm k
  wza : ∀ j k, v2 (ix2 j k) = P.za j k
  wpr : ∀ j k, v7 (ix2 j k) = P.pr j k
  wzr : ∀ j k, v12 (ix2 j k) = P.zr j k
  wgm : ∀ j k, v17 (ix2 j k) = P.gm j k
  h : ∀ p j, v0 (ix2 p j) = (R p).h j
  x : ∀ p j, x (ix2 p j) = (R p).x j
  s : ∀ p, s (ix2 p 0) = rs (R p)
  g : ∀ j, g (ix2 0 j) = P.g j
  o : ∀ p j, o (ix2 p j) = (R p).o j

variable (H : Holds P R v1 v6 v11 v16 v2 v7 v12 v17 v0 x s g o)
include H

theorem dh_at (p : Fin 512) (j : Fin 1024) : k0_pay4 (F := Ideal) v0 v1 v2 v6 v7 v11 v12 v16 v17 (ix2 p j) = dh P (R p) j := by
  pointwise [k0_pay4, H.za, H.pr, H.zr, H.gm, H.wza, H.wpr, H.wzr, H.wgm, H.h]
  rfl

theorem gx_at (p : Fin 512) (j : Fin 1024) : k0_pay1 (F := Ideal) x (k0_pay5 (F := Ideal) s)
    (k0_pay6 (F := Ideal) v0 v1 v2 v6 v7 v11 v12 v16 v17 g) o (k0_pay7 (F := Ideal) s) (ix2 p j) = gx P (R p) j := by
  pointwise [k0_pay1, k0_pay5, k0_pay6, k0_pay7, dh_at P R H, H.x, H.s, H.g, H.o]
  rfl

/-- The block's part of the gain's gradient. -/
theorem g_part (j : Fin 1024) : k0_pay2 (F := Ideal) (k0_pay4 (F := Ideal) v0 v1 v2 v6 v7 v11 v12 v16 v17) x (k0_pay5 (F := Ideal) s) (ix2 0 j)
    = ∑ p : Fin 512, dh P (R p) j * (R p).x j * rs (R p) := by
  pointwise [k0_pay2, k0_pay5, dh_at P R H, H.x, H.s]

end Cert.Kernel3Ideal.Dh

end
-- ==== Proof.DhKernel.lean ====
/- What the first norm's gradient leaves in its result arrays. -/
module

public import proofs.«01_k».proof.Proof.Gen.Kernel3Ideal.Frame
public import proofs.«01_k».proof.Proof.DhPay
public import Idealize.ShloMosaic.Lib.Pipeline.ValueKit
public import Idealize.ShloMosaic.Lib.Claim

@[expose] public section

set_option maxRecDepth 16384
set_option maxHeartbeats 4000000

noncomputable section

open Idealize.ShloMosaic Idealize.ShloMosaic.TcCoe

namespace Cert.Kernel3Ideal.Dh

open Cert.Kernel3Ideal Cert.Kernel3Ideal.Gen Cert.Dh

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![t.val, 0] ∧ win0_9.index t = ![t.val, 0] ∧ win0_10.index t = ![t.val, 0]
    ∧ win0_11.index t = ![0, 0] ∧ win0_12.index t = ![t.val, 0] ∧ win0_13.index t = ![t.val, 0] ∧ win0_14.index t = ![0, 0] :=
  (by decide +kernel : ∀ t : Fin grid0.N, _)

/-- The rows and the weights of the launch's arguments. -/
abbrev R (p : Fin 8192) : Row :=
  rows (m ((c : Thread nD τ).loc main_arg0)) (m ((c : Thread nD τ).loc main_arg1)) (m ((c : Thread nD τ).loc main_arg2))
    (m ((c : Thread nD τ).loc main_arg3)) (m ((c : Thread nD τ).loc main_arg5)) (m ((c : Thread nD τ).loc main_arg6))
    (m ((c : Thread nD τ).loc main_arg8)) p

abbrev P : Wts := wts (m ((c : Thread nD τ).loc main_arg4)) (m ((c : Thread nD τ).loc main_arg7))

/-- The number of a row among all. -/
def row (t : Fin cfg0.N) (p : Fin 512) : Fin 8192 := ⟨512 * t.val + p.val, by have : t.val < 16 := t.isLt; omega⟩

/-- The norm's factor, computed before the region. -/
theorem host_rs (p : Fin 8192) : (V m c main_v7 : FVec Ideal S8192x1 .f32) (ix2 p 0) = rs (R m c p) := by
  unfold V
  after_results
  pointwise []
  rfl

theorem host_za (j : Fin 1024) (k : Fin 512) : (V m c main_v8 : FVec Ideal S1024x512 .bf16) (ix2 j k) = (P m c).za j k := by
  unfold V
  after_results
  pointwise []
  rfl

theorem host_pr (j : Fin 1024) (k : Fin 1664) : (V m c main_v9 : FVec Ideal S1024x1664 .bf16) (ix2 j k) = (P m c).pr j k := by
  unfold V
  after_results
  pointwise []
  rfl

theorem host_zr (j : Fin 1024) (k : Fin 512) : (V m c main_v10 : FVec Ideal S1024x512 .bf16) (ix2 j k) = (P m c).zr j k := by
  unfold V
  after_results
  pointwise []
  rfl

theorem host_gm (j : Fin 1024) (k : Fin 2048) : (V m c main_v11 : FVec Ideal S1024x2048 .bf16) (ix2 j k) = (P m c).gm j k := by
  unfold V
  after_results
  pointwise []
  rfl

/-- The blocks of a point hold its rows. -/
theorem holds (t : Fin cfg0.N) :
    Holds (P m c) (fun p => R m c (row t p)) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) (iblk m c 12 t) where
  za p k := by blk_ext [iblk, V_main_arg0, idx t, R, rows, row]
  pr p k := by blk_ext [iblk, V_main_arg1, idx t, R, rows, row]
  zr p k := by blk_ext [iblk, V_main_arg2, idx t, R, rows, row]
  gm p k := by blk_ext [iblk, V_main_arg3, idx t, R, rows, row]
  wza j k := (show iblk m c 4 t (ix2 j k) = V m c main_v8 (ix2 j k) by blk_ext [iblk, idx t]).trans (host_za m c j k)
  wpr j k := (show iblk m c 5 t (ix2 j k) = V m c main_v9 (ix2 j k) by blk_ext [iblk, idx t]).trans (host_pr m c j k)
  wzr j k := (show iblk m c 6 t (ix2 j k) = V m c main_v10 (ix2 j k) by blk_ext [iblk, idx t]).trans (host_zr m c j k)
  wgm j k := (show iblk m c 7 t (ix2 j k) = V m c main_v11 (ix2 j k) by blk_ext [iblk, idx t]).trans (host_gm m c j k)
  h p j := by blk_ext [iblk, V_main_arg5, idx t, R, rows, row]
  x p j := by blk_ext [iblk, V_main_arg6, idx t, R, rows, row]
  s p := (show iblk m c 10 t (ix2 p 0) = V m c main_v7 (ix2 (row t p) 0) by blk_ext [iblk, idx t, row]).trans (host_rs m c _)
  g j := by blk_ext [iblk, V_main_arg7, idx t, P, wts]
  o p j := by blk_ext [iblk, V_main_arg8, idx t, R, rows, row]

theorem out13 (t : Fin cfg0.N) (p : Fin 512) (j : Fin 1024) :
    (outsAt0 m c t.val t.isLt).1 (ix2 p j) = gx (P m c) (R m c (row t p)) j := by
  have ht : t.val < 16 := t.isLt
  by_cases h0 : t.val % 16 = 0
  · rw [outsAt0_A m c t h0 (by omega)]; frame_out
    exact gx_at (P m c) (fun p => R m c (row t p)) (holds m c t) p j
  · rw [outsAt0_B m c t h0 (by omega)]; frame_out
    exact gx_at (P m c) (fun p => R m c (row t p)) (holds m c t) p j

/-- What starts at a block's part and adds every further block's part ends at the sum over the rows. -/
theorem sum_run (f : (n : ℕ) → n < cfg0.N → EReal) (F : Fin 8192 → EReal)
    (h0 : ∀ t : Fin cfg0.N, t.val % 16 = 0 → f t.val t.isLt = ∑ p : Fin 512, F (row t p))
    (hs : ∀ t : Fin cfg0.N, ¬t.val % 16 = 0 →
      f t.val t.isLt = f (t.val - 1) (Nat.lt_of_le_of_lt (Nat.sub_le _ _) t.isLt) + ∑ p : Fin 512, F (row t p))
    (t : Fin cfg0.N) (ht : t.val % 16 = 15) : f t.val t.isLt = ∑ r : Fin 8192, F r := by
  have run : ∀ n (h : n < 16), f n h = ∑ i : Fin (n + 1), ∑ p : Fin 512, F ⟨512 * i.val + p.val, by omega⟩ := by
    intro n
    induction n with
    | zero => intro h; rw [Fin.sum_univ_one]; exact h0 ⟨0, h⟩ rfl
    | succ n ih =>
      intro h
      rw [Fin.sum_univ_castSucc]
      refine (hs ⟨n + 1, h⟩ (by show ¬(n + 1) % 16 = 0; omega)).trans ?_
      exact congrArg₂ _ (ih (by omega)) rfl
  have hl : t.val = 15 := by have : t.val < 16 := t.isLt; omega
  have e : f t.val t.isLt = f 15 (by decide) := by congr 1
  rw [e]
  refine (run 15 (by decide)).trans ?_
  rw [Fin.sum_univ_tiles 16 512 rfl F]
  exact Finset.sum_congr rfl fun i _ => Finset.sum_congr rfl fun p _ => congrArg F (Fin.ext (by show 512 * i.val + p.val = i.val * 512 + p.val; omega))

/-- A further block's part of the gain's gradient is added. -/
theorem add_at (d x : FVec Ideal S512x1024 .f32) (s : FVec Ideal S512x1 .f32) (b : FVec Ideal S1x1024 .f32) (j : Fin 1024) :
    k0_pay3 (F := Ideal) d x s b (ix2 0 j) = b (ix2 0 j) + k0_pay2 (F := Ideal) d x s (ix2 0 j) := by
  pointwise [k0_pay3]

theorem last14 (t : Fin cfg0.N) (ht : t.val % 16 = 15) (j : Fin 1024) :
    (outsAt0 m c t.val t.isLt).2 (ix2 0 j) = ∑ r : Fin 8192, dh (P m c) (R m c r) j * (R m c r).x j * rs (R m c r) := by
  refine sum_run (fun n h => (outsAt0 m c n h).2 (ix2 0 j)) (fun r => dh (P m c) (R m c r) j * (R m c r).x j * rs (R m c r)) ?_ ?_ t ht
  · intro t h0
    have ht : t.val < 16 := t.isLt
    show (outsAt0 m c t.val t.isLt).2 (ix2 0 j) = _
    rw [outsAt0_A m c t h0 (by omega)]; frame_out
    exact g_part (P m c) (fun p => R m c (row t p)) (holds m c t) j
  · intro t h0
    have ht : t.val < 16 := t.isLt
    show (outsAt0 m c t.val t.isLt).2 (ix2 0 j) = (outsAt0 m c (t.val - 1) _).2 (ix2 0 j) + _
    rw [outsAt0_B m c t h0 (by omega)]; frame_out
    rw [add_at]
    exact congrArg _ (g_part (P m c) (fun p => R m c (row t p)) (holds m c t) j)

theorem final13 (A : FVec Ideal S8192x1024 .f32) (h : ∀ r j, A (ix2 r j) = gx (P m c) (R m c r) j) :
    (dats m 0 c).arrAt 13 (cfgs 0).N = A := by
  refine (dats m 0 c).arrAt_eq_of_covers 13 _ (by decide +kernel) fun t _ y => ?_
  blk_simp
  rw [after0_13]
  idx_vars y
  have he : ((View.whole main_v12_0).slice (win0_13.rect t)).emb (ix2 y0 y1) = ix2 (row t y0) y1 := by blk_ext [idx t, row]
  rw [he]
  exact (out13 m c t y0 y1).trans (h _ _).symm

theorem final14 (A : FVec Ideal S1x1024 .f32)
    (h : ∀ j, A (ix2 0 j) = ∑ r : Fin 8192, dh (P m c) (R m c r) j * (R m c r).x j * rs (R m c r)) :
    (dats m 0 c).arrAt 14 (cfgs 0).N = A := by
  refine (dats m 0 c).arrAt_eq_of_covers 14 _ (by decide +kernel) fun t hf y => ?_
  blk_simp
  rw [after0_14]
  idx_vars y
  obtain rfl : y0 = 0 := Subsingleton.elim _ _
  have he : ((View.whole main_v12_1).slice (win0_14.rect t)).emb (ix2 0 y1) = ix2 0 y1 := by blk_ext [idx t]
  rw [he]
  exact (last14 m c t ((flush0_14 t).mp hf) y1).trans (h _).symm

end Cert.Kernel3Ideal.Dh

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite_ct
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite_head
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite_dh
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_buckets
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_smooth
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Reference11Ideal.Read
public import proofs.«01_k».proof.Proof.ShiftRef
public import proofs.«01_k».proof.Proof.HeadRef
public import proofs.«01_k».proof.Proof.HeadPre
public import proofs.«01_k».proof.Proof.HeadFinal
public import proofs.«01_k».proof.Proof.BiasKernel
public import proofs.«01_k».proof.Proof.BiasRef
public import proofs.«01_k».proof.Proof.BiasPre
public import proofs.«01_k».proof.Proof.GatesKernel
public import proofs.«01_k».proof.Proof.GatesRef
public import proofs.«01_k».proof.Proof.GatesPre
public import proofs.«01_k».proof.Proof.GatesPair
public import proofs.«01_k».proof.Proof.NormPair
public import proofs.«01_k».proof.Proof.GinPair
public import proofs.«01_k».proof.Proof.MmPair
public import proofs.«01_k».proof.Proof.NtPair
public import proofs.«01_k».proof.Proof.TnPair
public import proofs.«01_k».proof.Proof.AdamPair
public import proofs.«01_k».proof.Proof.DhRef
public import proofs.«01_k».proof.Proof.DhPre
public import proofs.«01_k».proof.Proof.DhKernel
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The shift's reference runs, leaves its arguments alone, and has no semaphore. -/
theorem shift_reference : Cert.quiescent_ReferenceIdeal (hReferenceIdeal := Cert.ReferenceIdeal.Gen.facts) := fun m ρ _ =>
  (θ_run Cert.ReferenceIdeal.defs _ _).mono (fun r h => And.intro (fun c => (h c).2) (sem_eq_zero_of_no_sems (by decide) r.2))
    (Cert.ReferenceIdeal.Value.run (F := Ideal) m ρ)

set_option maxRecDepth 16384 in
/-- The token shift: the kernel's array is the gradient the reference takes. -/
theorem shift : Cert.algebraic_KernelIdeal_ReferenceIdeal_pre_finite_ct (hKernelIdeal := Cert.KernelIdeal.Gen.facts)
    (hReferenceIdeal := Cert.ReferenceIdeal.Gen.facts) (hPre_finite_ct := Cert.Pre_finite_ct.Gen.facts) := by
  pair_intro
  · run_from Cert.KernelIdeal.Gen.run_main m g
  · run_from Cert.ReferenceIdeal.Value.run m' g'
    rw [Cert.KernelIdeal.Shift.final m c]
    exact Cert.ReferenceIdeal.Shift.eq_G _ _ (Cert.ReferenceIdeal.Shift.real_at _ _ _ (hpre c))

/-- The loss head's reference, likewise. -/
theorem head_reference : Cert.quiescent_Reference2Ideal (hReference2Ideal := Cert.Reference2Ideal.Gen.facts) := fun m ρ _ =>
  (θ_run Cert.Reference2Ideal.defs _ _).mono
    (fun r h => And.intro (fun c => (h c).2.2.2.2.2.2.2.2.2.2.2) (sem_eq_zero_of_no_sems (by decide) r.2))
    (Cert.Reference2Ideal.Value.run (F := Ideal) m ρ)

set_option maxRecDepth 16384 in
set_option maxHeartbeats 4000000 in
/-- The loss head: each of the kernel's arrays is the gradient the reference takes, and the loss its loss. -/
theorem head : Cert.algebraic_Kernel2Ideal_Reference2Ideal_pre_finite_head (hKernel2Ideal := Cert.Kernel2Ideal.Gen.facts)
    (hReference2Ideal := Cert.Reference2Ideal.Gen.facts) (hPre_finite_head := Cert.Pre_finite_head.Gen.facts) := by
  intro m g m' g' hpre hagree
  refine ⟨fun c => (Cert.Kernel2Ideal.Gen.dats m 0 c).arrAt 11 (Cert.Kernel2Ideal.cfgs 0).N,
    fun c => (Cert.Kernel2Ideal.Gen.dats m 0 c).arrAt 12 (Cert.Kernel2Ideal.cfgs 0).N,
    fun c => (Cert.Kernel2Ideal.Gen.dats m 0 c).arrAt 13 (Cert.Kernel2Ideal.cfgs 0).N,
    fun c => (Cert.Kernel2Ideal.Gen.dats m 0 c).arrAt 14 (Cert.Kernel2Ideal.cfgs 0).N,
    fun c => (Cert.Kernel2Ideal.Gen.dats m 0 c).arrAt 15 (Cert.Kernel2Ideal.cfgs 0).N,
    fun c => (Cert.Kernel2Ideal.Gen.dats m 0 c).arrAt 16 (Cert.Kernel2Ideal.cfgs 0).N,
    fun c => (Cert.Kernel2Ideal.Gen.dats m 0 c).arrAt 17 (Cert.Kernel2Ideal.cfgs 0).N,
    fun c => (Cert.Kernel2Ideal.Gen.dats m 0 c).arrAt 18 (Cert.Kernel2Ideal.cfgs 0).N,
    fun c => (Cert.Kernel2Ideal.Gen.dats m 0 c).arrAt 19 (Cert.Kernel2Ideal.cfgs 0).N,
    fun c => (Cert.Kernel2Ideal.Gen.dats m 0 c).arrAt 20 (Cert.Kernel2Ideal.cfgs 0).N,
    fun c => (Cert.Kernel2Ideal.Gen.dats m 0 c).arrAt 21 (Cert.Kernel2Ideal.cfgs 0).N, ?_, ?_⟩
  · refine θ_run_mono (θ_run_and (Cert.Kernel2Ideal.Gen.run_main m g) (Cert.Kernel2Ideal.Gen.frame m g)) fun r h c => ?_
    exact ⟨(h.1 c).1 11, (h.1 c).1 12, (h.1 c).1 13, (h.1 c).1 14, (h.1 c).1 15, (h.1 c).1 16, (h.1 c).1 17, (h.1 c).1 18, (h.1 c).1 19,
      (h.1 c).1 20, (h.1 c).1 21, h.2.1 c⟩
  · refine (θ_run Cert.Reference2Ideal.defs _ _).mono (fun r h c => ?_) (Cert.Reference2Ideal.Value.run (F := Ideal) m' g')
    obtain ⟨h0, h1, h2, h3, h4, h5, h6, h7, h8, h9, h10, hr⟩ := h c
    obtain ⟨a0, a1, a2, a3, a4, a5, a6, a7, a8, a9, a10⟩ := hagree c
    obtain ⟨hP, hR⟩ := Cert.Pre_finite_head.reals _ _ _ _ _ _ _ _ _ _ _ (hpre c)
    have H := Cert.Reference2Ideal.Head.holds
      (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg3))
      (m ((c.tc : Thread Cert.Kernel2Ideal.nD Cert.Kernel2Ideal.τ).loc Cert.Kernel2Ideal.main_arg4))
      (m ((c.tc : Thread Cert.Kernel2Ideal.nD Cert.Kernel2Ideal.τ).loc Cert.Kernel2Ideal.main_arg5))
      (m ((c.tc : Thread Cert.Kernel2Ideal.nD Cert.Kernel2Ideal.τ).loc Cert.Kernel2Ideal.main_arg6))
      (m ((c.tc : Thread Cert.Kernel2Ideal.nD Cert.Kernel2Ideal.τ).loc Cert.Kernel2Ideal.main_arg7))
      (m ((c.tc : Thread Cert.Kernel2Ideal.nD Cert.Kernel2Ideal.τ).loc Cert.Kernel2Ideal.main_arg8))
      (m ((c.tc : Thread Cert.Kernel2Ideal.nD Cert.Kernel2Ideal.τ).loc Cert.Kernel2Ideal.main_arg9))
      (m ((c.tc : Thread Cert.Kernel2Ideal.nD Cert.Kernel2Ideal.τ).loc Cert.Kernel2Ideal.main_arg10))
    refine ⟨h0.trans ?_, h1.trans ?_, h2.trans ?_, h3.trans ?_, h4.trans ?_, h5.trans ?_, h6.trans ?_, h7.trans ?_, h8.trans ?_, h9.trans ?_, h10.trans ?_, hr⟩
    · rw [Cert.Reference2Ideal.Read.val_main_v63_eq, a0, a1, a2, a3, a4, a5, a6, a7, a8, a9, a10]
      exact (Cert.Kernel2Ideal.Head.final11 m c _ (fun p j => Cert.Reference2Ideal.Head.dx_at H p j)).symm
    · rw [Cert.Reference2Ideal.Read.val_main_v105_eq, a0, a1, a2, a3, a4, a5, a6, a7, a8, a9, a10]
      exact (Cert.Kernel2Ideal.Head.final12 m c _ (fun p k => Cert.Reference2Ideal.Head.doa_at H hP hR p k)).symm
    · rw [Cert.Reference2Ideal.Read.val_main_v99_eq, a0, a1, a2, a3, a4, a5, a6, a7, a8, a9, a10]
      exact (Cert.Kernel2Ideal.Head.final13 m c _ (fun p k => Cert.Reference2Ideal.Head.dob_at H hP hR p k)).symm
    · rw [Cert.Reference2Ideal.Read.val_main_v107_eq, a0, a1, a2, a3, a4, a5, a6, a7, a8, a9, a10]
      exact (Cert.Kernel2Ideal.Head.final14 m c _ (fun p k => Cert.Reference2Ideal.Head.dza_at H hP hR p k)).symm
    · rw [Cert.Reference2Ideal.Read.val_main_v108_eq, a0, a1, a2, a3, a4, a5, a6, a7, a8, a9, a10]
      exact (Cert.Kernel2Ideal.Head.final15 m c _ (fun p k => Cert.Reference2Ideal.Head.dzb_at H hP hR p k)).symm
    · rw [Cert.Reference2Ideal.Read.val_main_v109_eq, a0, a1, a2, a3, a4, a5, a6, a7, a8, a9, a10]
      exact (Cert.Kernel2Ideal.Head.final16 m c _ (fun p j => Cert.Reference2Ideal.Head.dg_left H hP hR p j) (fun p j => Cert.Reference2Ideal.Head.dg_right H hP hR p j)).symm
    · rw [Cert.Reference2Ideal.Read.val_main_v102_eq, a0, a1, a2, a3, a4, a5, a6, a7, a8, a9, a10]
      exact (Cert.Kernel2Ideal.Head.final17 m c _ (fun k j => Cert.Reference2Ideal.Head.dwua_at H hP hR k j)).symm
    · rw [Cert.Reference2Ideal.Read.val_main_v96_eq, a0, a1, a2, a3, a4, a5, a6, a7, a8, a9, a10]
      exact (Cert.Kernel2Ideal.Head.final18 m c _ (fun k j => Cert.Reference2Ideal.Head.dwur_at H hP hR k j)).symm
    · rw [Cert.Reference2Ideal.Read.val_main_v84_eq, a0, a1, a2, a3, a4, a5, a6, a7, a8, a9, a10]
      exact (Cert.Kernel2Ideal.Head.final19 m c _ (fun i j => Cert.Reference2Ideal.Head.dwout_at H hP hR i j)).symm
    · rw [Cert.Reference2Ideal.Read.val_main_v66_eq, a0, a1, a2, a3, a4, a5, a6, a7, a8, a9, a10]
      exact (Cert.Kernel2Ideal.Head.final20 m c _ (fun j => Cert.Reference2Ideal.Head.dg_at H j)).symm
    · rw [Cert.Reference2Ideal.Read.val_main_v110_eq, a0, a1, a2, a3, a4, a5, a6, a7, a8, a9, a10]
      exact (Cert.Kernel2Ideal.Head.final21 m c _ (Cert.Reference2Ideal.Head.loss_at H hP hR)).symm

/-- The first norm's gradient: its reference, likewise. -/
theorem dh_reference : Cert.quiescent_Reference3Ideal (hReference3Ideal := Cert.Reference3Ideal.Gen.facts) := fun m ρ _ =>
  (θ_run Cert.Reference3Ideal.defs _ _).mono (fun r h => And.intro (fun c => (h c).2.2) (sem_eq_zero_of_no_sems (by decide) r.2))
    (Cert.Reference3Ideal.Value.run (F := Ideal) m ρ)

set_option maxRecDepth 16384 in
set_option maxHeartbeats 4000000 in
/-- The first norm's gradient: both of the kernel's arrays are the gradients the reference takes. -/
theorem dh : Cert.algebraic_Kernel3Ideal_Reference3Ideal_pre_finite_dh (hKernel3Ideal := Cert.Kernel3Ideal.Gen.facts)
    (hReference3Ideal := Cert.Reference3Ideal.Gen.facts) (hPre_finite_dh := Cert.Pre_finite_dh.Gen.facts) := by
  intro m g m' g' hpre hagree
  refine ⟨fun c => (Cert.Kernel3Ideal.Gen.dats m 0 c).arrAt 13 (Cert.Kernel3Ideal.cfgs 0).N,
    fun c => (Cert.Kernel3Ideal.Gen.dats m 0 c).arrAt 14 (Cert.Kernel3Ideal.cfgs 0).N, ?_, ?_⟩
  · refine θ_run_mono (θ_run_and (Cert.Kernel3Ideal.Gen.run_main m g) (Cert.Kernel3Ideal.Gen.frame m g)) fun r h c => ?_
    exact ⟨(h.1 c).1 13, (h.1 c).1 14, h.2.1 c⟩
  · refine (θ_run Cert.Reference3Ideal.defs _ _).mono (fun r h c => ?_) (Cert.Reference3Ideal.Value.run (F := Ideal) m' g')
    obtain ⟨h0, h1, hr⟩ := h c
    obtain ⟨a0, a1, a2, a3, a4, a5, a6, a7, a8⟩ := hagree c
    obtain ⟨hP, hR⟩ := Cert.Pre_finite_dh.reals _ _ _ _ _ _ _ _ _ (hpre c)
    refine ⟨h0.trans ?_, h1.trans ?_, hr⟩
    · rw [Cert.Reference3Ideal.Read.val_main_v58_eq, a0, a1, a2, a3, a4, a5, a6, a7, a8]
      exact (Cert.Kernel3Ideal.Dh.final13 m c _ fun p j => Cert.Reference3Ideal.Dh.gx_at _ _ _ _ _ _ _ _ _ p hP (hR p) j).symm
    · rw [Cert.Reference3Ideal.Read.val_main_v41_eq, a0, a1, a2, a3, a4, a5, a6]
      exact (Cert.Kernel3Ideal.Dh.final14 m c _ fun j => Cert.Reference3Ideal.Dh.dg_at _ _ _ _ _ _ _ _ _ j).symm

/-- The bias table's reference, likewise. -/
theorem bias_reference : Cert.quiescent_Reference4Ideal (hReference4Ideal := Cert.Reference4Ideal.Gen.facts) := fun m ρ _ =>
  (θ_run Cert.Reference4Ideal.defs _ _).mono (fun r h => And.intro (fun c => (h c).2) (sem_eq_zero_of_no_sems (by decide) r.2))
    (Cert.Reference4Ideal.Value.run (F := Ideal) m ρ)

set_option maxRecDepth 16384 in
/-- The bias table's gradient: the sums of the kernel are the sums the reference scatters. -/
theorem bias : Cert.algebraic_Kernel4Ideal_Reference4Ideal_pre_buckets (hKernel4Ideal := Cert.Kernel4Ideal.Gen.facts)
    (hReference4Ideal := Cert.Reference4Ideal.Gen.facts) (hPre_buckets := Cert.Pre_buckets.Gen.facts) := by
  pair_intro
  · run_from Cert.Kernel4Ideal.Gen.run_main m g
  · run_from Cert.Reference4Ideal.Value.run m' g'
    rw [Cert.Kernel4Ideal.Bias.final m c, Cert.Reference4Ideal.Read.val_main_v67_eq]
    obtain ⟨h₀, h₁⟩ := hagree c
    rw [h₀, h₁]
    funext i
    idx_vars i
    exact Cert.Reference4Ideal.Bias.out_at _ _ (fun g p q => Cert.Pre_buckets.words _ _ (hpre c) g p q) _ _

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Pre_finite_ct.Gen.facts, Cert.Pre_finite_head.Gen.facts, Cert.Pre_finite_dh.Gen.facts, Cert.Pre_buckets.Gen.facts,
  Cert.Pre_smooth.Gen.facts,
  fun m ρ _ => Cert.Kernel.Gen.frame m ρ,
  fun m ρ _ => Cert.KernelIdeal.Gen.frame m ρ,
  fun m ρ _ => Cert.KernelIdeal.Gen.frame m ρ,
  shift_reference,
  fun m ρ _ => shift_reference m ρ trivial,
  fun m ρ _ => Cert.Kernel2.Gen.frame m ρ,
  fun m ρ _ => Cert.Kernel2Ideal.Gen.frame m ρ,
  fun m ρ _ => Cert.Kernel2Ideal.Gen.frame m ρ,
  head_reference,
  fun m ρ _ => head_reference m ρ trivial,
  fun m ρ _ => Cert.Kernel3.Gen.frame m ρ,
  fun m ρ _ => Cert.Kernel3Ideal.Gen.frame m ρ,
  fun m ρ _ => Cert.Kernel3Ideal.Gen.frame m ρ,
  dh_reference,
  fun m ρ _ => dh_reference m ρ trivial,
  fun m ρ _ => Cert.Kernel4.Gen.frame m ρ,
  fun m ρ _ => Cert.Kernel4Ideal.Gen.frame m ρ,
  fun m ρ _ => Cert.Kernel4Ideal.Gen.frame m ρ,
  bias_reference,
  fun m ρ _ => bias_reference m ρ trivial,
  fun m ρ _ => Cert.Kernel5.Gen.frame m ρ,
  fun m ρ _ => Cert.Kernel5Ideal.Gen.frame m ρ,
  fun m ρ _ => Cert.Kernel5Ideal.Gen.frame m ρ,
  gates_reference,
  fun m ρ _ => gates_reference m ρ trivial,
  fun m ρ _ => Cert.Kernel6.Gen.frame m ρ,
  fun m ρ _ => Cert.Kernel6Ideal.Gen.frame m ρ,
  norm_reference,
  fun m ρ _ => Cert.Kernel7.Gen.frame m ρ,
  fun m ρ _ => Cert.Kernel7Ideal.Gen.frame m ρ,
  inputs_reference,
  fun m ρ _ => Cert.Kernel8.Gen.frame m ρ,
  fun m ρ _ => Cert.Kernel8Ideal.Gen.frame m ρ,
  product_reference,
  fun m ρ _ => Cert.Kernel9.Gen.frame m ρ,
  fun m ρ _ => Cert.Kernel9Ideal.Gen.frame m ρ,
  back_reference,
  fun m ρ _ => Cert.Kernel10.Gen.frame m ρ,
  fun m ρ _ => Cert.Kernel10Ideal.Gen.frame m ρ,
  weights_reference,
  fun m ρ _ => Cert.Kernel11.Gen.frame m ρ,
  fun m ρ _ => Cert.Kernel11Ideal.Gen.frame m ρ,
  adam_reference,
  trivial,
  shift,
  trivial,
  head,
  trivial,
  dh,
  trivial,
  bias,
  trivial,
  gates,
  trivial,
  norm,
  trivial,
  inputs,
  trivial,
  product,
  trivial,
  back,
  trivial,
  weights,
  trivial,
  adam⟩

end Cert.Proof

end
